-- ==== Defs.lean ====
def Pre_Kernel [hPre_valid_tiles : Cert.Pre_valid_tiles.Facts] (m : (ℓ : Loc Cert.Kernel.nD Cert.Kernel.τ Cert.Kernel.sig) → Buf (Elt Bits) ℓ) : Prop :=
  ∀ c : Dev Cert.Kernel.nD,
    (Cert.Pre_valid_tiles.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_valid_tiles : Cert.Pre_valid_tiles.Facts] (m : (ℓ : Loc Cert.KernelIdeal.nD Cert.KernelIdeal.τ Cert.KernelIdeal.sig) → Buf (Elt Ideal) ℓ) : Prop :=
  ∀ c : Dev Cert.KernelIdeal.nD,
    (Cert.Pre_valid_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_tiles [hPre_valid_tiles : Cert.Pre_valid_tiles.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_tiles.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_valid_tiles : Cert.Pre_valid_tiles.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_valid_tiles : Cert.Pre_valid_tiles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_valid_tiles [hReferenceIdeal : Cert.ReferenceIdeal.Facts] [hPre_valid_tiles : Cert.Pre_valid_tiles.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_tiles m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid_tiles : Cert.Pre_valid_tiles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_valid_tiles : Cert.Pre_valid_tiles.Facts),
    quiescent_Kernel (hKernel := hKernel) (hPre_valid_tiles := hPre_valid_tiles)
    ∧ quiescent_KernelIdeal (hKernelIdeal := hKernelIdeal) (hPre_valid_tiles := hPre_valid_tiles)
    ∧ quiescent_ReferenceIdeal (hReferenceIdeal := hReferenceIdeal)
    ∧ quiescent_ReferenceIdeal_pre_valid_tiles (hReferenceIdeal := hReferenceIdeal) (hPre_valid_tiles := hPre_valid_tiles)
    ∧ preserves_Kernel_KernelIdeal
    ∧ algebraic_KernelIdeal_ReferenceIdeal (hKernelIdeal := hKernelIdeal) (hReferenceIdeal := hReferenceIdeal) (hPre_valid_tiles := hPre_valid_tiles)
-- ==== Pre_valid_tiles.lean ====
abbrev S2x896x3584 : Shape := ⟨3, ![2, 896, 3584]⟩
abbrev S2x896 : Shape := ⟨2, ![2, 896]⟩
abbrev S2x8 : Shape := ⟨2, ![2, 8]⟩
abbrev S2x42 : Shape := ⟨2, ![2, 42]⟩
abbrev S2x42x128x4 : Shape := ⟨4, ![2, 42, 128, 4]⟩
abbrev S2x1 : Shape := ⟨2, ![2, 1]⟩
abbrev S2x42x7 : Shape := ⟨3, ![2, 42, 7]⟩
abbrev S2x7 : Shape := ⟨2, ![2, 7]⟩
abbrev S_ : Shape := ⟨0, ![]⟩

class Facts : Prop where
  slices_S2x8_S2x1_0_0 : S2x8.Slices ![0, 0] S2x1
  bcast_S2x1_S2x42x7_0_1 : S2x1.BroadcastsInDim S2x42x7 (![0, 1] : Fin 2 → Fin S2x42x7.rank)
  slices_S2x8_S2x7_0_0 : S2x8.Slices ![0, 0] S2x7
  bcast_S2x7_S2x42x7_0_2 : S2x7.BroadcastsInDim S2x42x7 (![0, 2] : Fin 2 → Fin S2x42x7.rank)
  slices_S2x8_S2x7_0_1 : S2x8.Slices ![0, 1] S2x7
  slices_S2x8_S2x1_0_7 : S2x8.Slices ![0, 7] S2x1
  bcast_S2x42_S2x42x7_0_1 : S2x42.BroadcastsInDim S2x42x7 (![0, 1] : Fin 2 → Fin S2x42x7.rank)
  bcast_S_S2x42x7 : S_.BroadcastsInDim S2x42x7 (![] : Fin 0 → Fin S2x42x7.rank)

variable [Facts]

def fn_part1 {F : FTy → Type} [FloatOps F] (main_v8 : IVec S2x42x7 32) (main_v16 : IVec S2x42x7 1) (main_v17 : IVec S2x42x7 1) (main_v19 : IVec S2x42x7 1) (main_c_2 : IVec S_ 32) : IVec S2x42x7 1 :=
  let main_v20 : IVec S2x42x7 32 := broadcastInDim S2x42x7 ![] bcast_S_S2x42x7 main_c_2
  let main_v21 : IVec S2x42x7 1 := cmpi .slt main_v8 main_v20
  let main_v22 : IVec S2x42x7 1 := andi main_v19 main_v21
  let main_v23 : IVec S2x42x7 1 := ori main_v17 main_v22
  let main_v24 : IVec S2x42x7 1 := andi main_v16 main_v23
  main_v24

def fn {F : FTy → Type} [FloatOps F] (main_arg0 : FVec F S2x896x3584 .fp8e4m3) (main_arg1 : FVec F S2x896 .f32) (main_arg2 : IVec S2x8 32) (main_arg3 : IVec S2x42 32) (main_arg4 : IVec S2x42x128x4 32) : IVec S2x42x7 1 :=
  let main_v0 : IVec S2x1 32 := (extractStridedSlice S2x1 ![0, 0] · slices_S2x8_S2x1_0_0) main_arg2
  let main_v1 : IVec S2x42x7 32 := broadcastInDim S2x42x7 ![0, 1] bcast_S2x1_S2x42x7_0_1 main_v0
  let main_v2 : IVec S2x7 32 := (extractStridedSlice S2x7 ![0, 0] · slices_S2x8_S2x7_0_0) main_arg2
  let main_v3 : IVec S2x42x7 32 := broadcastInDim S2x42x7 ![0, 2] bcast_S2x7_S2x42x7_0_2 main_v2
  let main_v4 : IVec S2x7 32 := (extractStridedSlice S2x7 ![0, 1] · slices_S2x8_S2x7_0_1) main_arg2
  let main_v5 : IVec S2x42x7 32 := broadcastInDim S2x42x7 ![0, 2] bcast_S2x7_S2x42x7_0_2 main_v4
  let main_v6 : IVec S2x1 32 := (extractStridedSlice S2x1 ![0, 7] · slices_S2x8_S2x1_0_7) main_arg2
  let main_v7 : IVec S2x42x7 32 := broadcastInDim S2x42x7 ![0, 1] bcast_S2x1_S2x42x7_0_1 main_v6
  let main_v8 : IVec S2x42x7 32 := broadcastInDim S2x42x7 ![0, 1] bcast_S2x42_S2x42x7_0_1 main_arg3
  let main_v9 : IVec S2x42x7 32 := iotaInDim S2x42x7 32 1
  let main_c : IVec S_ 32 := constantI S_ 32 0#32
  let main_v10 : IVec S2x42x7 32 := broadcastInDim S2x42x7 ![] bcast_S_S2x42x7 main_c
  let main_v11 : IVec S2x42x7 1 := cmpi .eq main_v1 main_v10
  let main_v12 : IVec S2x42x7 1 := cmpi .sle main_v3 main_v5
  let main_v13 : IVec S2x42x7 1 := andi main_v11 main_v12
  let main_c_0 : IVec S_ 32 := constantI S_ 32 42#32
  let main_v14 : IVec S2x42x7 32 := broadcastInDim S2x42x7 ![] bcast_S_S2x42x7 main_c_0
  let main_v15 : IVec S2x42x7 1 := cmpi .sle main_v7 main_v14
  let main_v16 : IVec S2x42x7 1 := andi main_v13 main_v15
  let main_v17 : IVec S2x42x7 1 := cmpi .sge main_v9 main_v7
  let main_c_1 : IVec S_ 32 := constantI S_ 32 0#32
  let main_v18 : IVec S2x42x7 32 := broadcastInDim S2x42x7 ![] bcast_S_S2x42x7 main_c_1
  let main_v19 : IVec S2x42x7 1 := cmpi .sge main_v8 main_v18
  let main_c_2 : IVec S_ 32 := constantI S_ 32 7#32
  fn_part1 (F := F) main_v8 main_v16 main_v17 main_v19 main_c_2
-- ==== Kernel.lean ====
abbrev S2x896x3584 : Shape := ⟨3, ![2, 896, 3584]⟩
abbrev S2x896 : Shape := ⟨2, ![2, 896]⟩
abbrev S2x8 : Shape := ⟨2, ![2, 8]⟩
abbrev S2x42 : Shape := ⟨2, ![2, 42]⟩
abbrev S2x42x128x4 : Shape := ⟨4, ![2, 42, 128, 4]⟩
abbrev S2x42x4x128 : Shape := ⟨4, ![2, 42, 4, 128]⟩
abbrev S2x1x896 : Shape := ⟨3, ![2, 1, 896]⟩
abbrev S1x42x4x128 : Shape := ⟨4, ![1, 42, 4, 128]⟩
abbrev S1x896x512 : Shape := ⟨3, ![1, 896, 512]⟩
abbrev S1x1x896 : Shape := ⟨3, ![1, 1, 896]⟩
abbrev S896x896 : Shape := ⟨2, ![896, 896]⟩
abbrev S896x128 : Shape := ⟨2, ![896, 128]⟩
abbrev S32x128 : Shape := ⟨2, ![32, 128]⟩
abbrev S1x128 : Shape := ⟨2, ![1, 128]⟩
abbrev S1x1 : Shape := ⟨2, ![1, 1]⟩
abbrev S1x1x1x128 : Shape := ⟨4, ![1, 1, 1, 128]⟩
abbrev S128x128 : Shape := ⟨2, ![128, 128]⟩
abbrev S128 : Shape := ⟨1, ![128]⟩
abbrev S128x1 : Shape := ⟨2, ![128, 1]⟩
abbrev S1x1x128 : Shape := ⟨3, ![1, 1, 128]⟩
abbrev S896x512 : Shape := ⟨2, ![896, 512]⟩
abbrev S1x896x128 : Shape := ⟨3, ![1, 896, 128]⟩

abbrev nBuf : Space → Nat
  | .hbm => 9
  | .vmem => 11
  | .smem => 2
  | _ => 0

abbrev bufTy : (tb : Table) → Fin (tcTables nBuf tb) → BufTy
  | .hbm, ⟨0, _⟩ => ⟨S2x896x3584, .fp8e4m3⟩
  | .hbm, ⟨1, _⟩ => ⟨S2x896, .f32⟩
  | .hbm, ⟨2, _⟩ => ⟨S2x8, .i32⟩
  | .hbm, ⟨3, _⟩ => ⟨S2x42, .i32⟩
  | .hbm, ⟨4, _⟩ => ⟨S2x42x128x4, .i32⟩
  | .hbm, ⟨5, _⟩ => ⟨S2x42x4x128, .i32⟩
  | .hbm, ⟨6, _⟩ => ⟨S2x896x3584, .bf16⟩
  | .hbm, ⟨7, _⟩ => ⟨S2x1x896, .f32⟩
  | .hbm, ⟨8, _⟩ => ⟨S2x896, .f32⟩
  | .local _ .vmem, ⟨0, _⟩ => ⟨S2x896, .f32⟩
  | .local _ .vmem, ⟨1, _⟩ => ⟨S1x42x4x128, .i32⟩
  | .local _ .vmem, ⟨2, _⟩ => ⟨S1x42x4x128, .i32⟩
  | .local _ .vmem, ⟨3, _⟩ => ⟨S1x896x512, .fp8e4m3⟩
  | .local _ .vmem, ⟨4, _⟩ => ⟨S1x896x512, .fp8e4m3⟩
  | .local _ .vmem, ⟨5, _⟩ => ⟨S1x896x512, .bf16⟩
  | .local _ .vmem, ⟨6, _⟩ => ⟨S1x896x512, .bf16⟩
  | .local _ .vmem, ⟨7, _⟩ => ⟨S1x1x896, .f32⟩
  | .local _ .vmem, ⟨8, _⟩ => ⟨S1x1x896, .f32⟩
  | .local _ .vmem, ⟨9, _⟩ => ⟨S896x896, .bf16⟩
  | .local _ .vmem, ⟨10, _⟩ => ⟨S896x128, .f32⟩
  | .local _ .smem, ⟨0, _⟩ => ⟨S2x8, .i32⟩
  | .local _ .smem, ⟨1, _⟩ => ⟨S2x42, .i32⟩
  | _, _ => ⟨S2x896x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v50 : Index := Scalar.indexCast arg0
  let c0_31 : Index := 0#32
  ![v50.toNat, 0]
def k0_off2 (i : grid0.Coords) : Fin 2 → Nat :=
  let arg0 : BitVec 32 := BitVec.ofNat 32 (i 0).val
  let v52 : Index := Scalar.indexCast arg0
  let c1_32 : Index := 1#32
  ![v52.toNat, 1]
@[reducible] def k0_t1_loop (v51 : BitVec 32) (v53 : BitVec 32) : Scf.Loop 32 :=
  let v54 : BitVec 32 := Scalar.subi v53 v51
  let c1_i32_34 : BitVec 32 := 1#32
  let v56 : BitVec 32 := Scalar.divsi v54 c1_i32_34
  let v57 : BitVec 32 := Scalar.muli v56 c1_i32_34
  let v58 : BitVec 32 := Scalar.addi v51 v57
  let c1_i32_35 : BitVec 32 := 1#32
  ⟨v51, v58, c1_i32_35⟩

def k0_off3 (i : grid0.Coords) (v51 : BitVec 32) (v53 : BitVec 32) (k0_t1 : Fin (k0_t1_loop v51 v53).trips) : Fin 2 → Nat :=
  let arg0 : BitVec 32 := BitVec.ofNat 32 (i 0).val
  let v327 : Index := Scalar.indexCast arg0
  let c1_i32_35 : BitVec 32 := 1#32
  let arg11 : BitVec 32 := Scf.iv v51 c1_i32_35 k0_t1
  let v328 : Index := Scalar.indexCast arg11
  ![v327.toNat, v328.toNat]
def k0_mult1 (v329 : BitVec 32) : BitVec 32 :=
  let c128_i32 : BitVec 32 := 128#32
  let v330 : BitVec 32 := Scalar.muli v329 c128_i32
  v330

def k0_off4 (v51 : BitVec 32) (v53 : BitVec 32) (k0_t1 : Fin (k0_t1_loop v51 v53).trips) : Fin 4 → Nat :=
  let c0_200 : Index := 0#32
  let c1_i32_35 : BitVec 32 := 1#32
  let arg11 : BitVec 32 := Scf.iv v51 c1_i32_35 k0_t1
  let v333 : Index := Scalar.indexCast arg11
  let c0_201 : Index := 0#32
  let c0_202 : Index := 0#32
  ![0, v333.toNat, 0, 0]
def k0_off5 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off6 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c0_206 : Index := 0#32
  ![v349.toNat, 0]

def k0_chk2 (i : grid0.Coords) (v329 : BitVec 32) : Prop :=
  (∀ (k0_h1 : k0_cond1 i = 1#1), 128 ∣ (k0_mult1 v329).toNat) ∧
  (∀ (k0_h1 : k0_cond1 i = 1#1), ∀ (r : Fin 4), ∀ a, (k0_off5 v329 (BitVec.ofNat 32 (32 * r.val))) a + S32x128.size a ≤ S896x128.size a) ∧
  (∀ (k0_h1 : k0_cond1 i = 1#1), ∀ (r : Fin 4), ∀ a, (k0_off6 v329 (BitVec.ofNat 32 (32 * r.val))) a + S32x128.size a ≤ S896x896.size a) ∧
  (∀ (k0_h1 : k0_cond1 i = 1#1), ∀ (r : Fin 4), ∀ (hinb : ∀ a, (k0_off6 v329 (BitVec.ofNat 32 (32 * r.val))) a + S32x128.size a ≤ S896x896.size a), (Rect.unit (s := S896x896) (k0_off6 v329 (BitVec.ofNat 32 (32 * r.val))) S32x128.size hinb).PackedRows (EltTy.packing .bf16))
theorem k0_mult1_dvd : ∀ (i : grid0.Coords) (v329 : BitVec 32) (k0_hw2 : k0_chk2 i v329), ∀ (k0_h1 : k0_cond1 i = 1#1), 128 ∣ (k0_mult1 v329).toNat := fun i v329 k0_hw2 k0_h1 => k0_hw2.1 k0_h1
theorem k0_off5_inb : ∀ (i : grid0.Coords) (v329 : BitVec 32) (k0_hw2 : k0_chk2 i v329), ∀ (k0_h1 : k0_cond1 i = 1#1), ∀ (r : Fin 4), ∀ a, (k0_off5 v329 (BitVec.ofNat 32 (32 * r.val))) a + S32x128.size a ≤ S896x128.size a := fun i v329 k0_hw2 k0_h1 r => k0_hw2.2.1 k0_h1 r
theorem k0_off6_inb : ∀ (i : grid0.Coords) (v329 : BitVec 32) (k0_hw2 : k0_chk2 i v329), ∀ (k0_h1 : k0_cond1 i = 1#1), ∀ (r : Fin 4), ∀ a, (k0_off6 v329 (BitVec.ofNat 32 (32 * r.val))) a + S32x128.size a ≤ S896x896.size a := fun i v329 k0_hw2 k0_h1 r => k0_hw2.2.2.1 k0_h1 r
theorem k0_off6_packedbf16 : ∀ (i : grid0.Coords) (v329 : BitVec 32) (k0_hw2 : k0_chk2 i v329), ∀ (k0_h1 : k0_cond1 i = 1#1), ∀ (r : Fin 4), (Rect.unit (s := S896x896) (k0_off6 v329 (BitVec.ofNat 32 (32 * r.val))) S32x128.size (k0_off6_inb i v329 k0_hw2 k0_h1 r)).PackedRows (EltTy.packing .bf16) := fun i v329 k0_hw2 k0_h1 r => k0_hw2.2.2.2 k0_h1 r (k0_off6_inb i v329 k0_hw2 k0_h1 r)

def k0_off7 (v51 : BitVec 32) (v53 : BitVec 32) (k0_t1 : Fin (k0_t1_loop v51 v53).trips) : Fin 4 → Nat :=
  let c0_208 : Index := 0#32
  let c1_i32_35 : BitVec 32 := 1#32
  let arg11 : BitVec 32 := Scf.iv v51 c1_i32_35 k0_t1
  let v360 : Index := Scalar.indexCast arg11
  let c1_209 : Index := 1#32
  let c0_210 : Index := 0#32
  ![0, v360.toNat, 1, 0]
def k0_off8 (v51 : BitVec 32) (v53 : BitVec 32) (k0_t1 : Fin (k0_t1_loop v51 v53).trips) : Fin 4 → Nat :=
  let c0_216 : Index := 0#32
  let c1_i32_35 : BitVec 32 := 1#32
  let arg11 : BitVec 32 := Scf.iv v51 c1_i32_35 k0_t1
  let v387 : Index := Scalar.indexCast arg11
  let c2_217 : Index := 2#32
  let c0_218 : Index := 0#32
  ![0, v387.toNat, 2, 0]
def k0_off9 (v51 : BitVec 32) (v53 : BitVec 32) (k0_t1 : Fin (k0_t1_loop v51 v53).trips) : Fin 4 → Nat :=
  let c0_224 : Index := 0#32
  let c1_i32_35 : BitVec 32 := 1#32
  let arg11 : BitVec 32 := Scf.iv v51 c1_i32_35 k0_t1
  let v414 : Index := Scalar.indexCast arg11
  let c3_225 : Index := 3#32
  let c0_226 : Index := 0#32
  ![0, v414.toNat, 3, 0]
@[reducible] def k0_t2_loop (v51 : BitVec 32) (v53 : BitVec 32) : Scf.Loop 32 :=
  let v54 : BitVec 32 := Scalar.subi v53 v51
  let c1_i32_34 : BitVec 32 := 1#32
  let v56 : BitVec 32 := Scalar.divsi v54 c1_i32_34
  let v57 : BitVec 32 := Scalar.muli v56 c1_i32_34
  let v58 : BitVec 32 := Scalar.addi v51 v57
  let v55 : BitVec 32 := Scalar.addi v51 v54
  let c1_i32_36 : BitVec 32 := 1#32
  ⟨v58, v55, c1_i32_36⟩
def k0_off10 (i : grid0.Coords) (v51 : BitVec 32) (v53 : BitVec 32) (k0_t2 : Fin (k0_t2_loop v51 v53).trips) : Fin 2 → Nat :=
  let arg0 : BitVec 32 := BitVec.ofNat 32 (i 0).val
  let v327 : Index := Scalar.indexCast arg0
  let v54 : BitVec 32 := Scalar.subi v53 v51
  let c1_i32_34 : BitVec 32 := 1#32
  let v56 : BitVec 32 := Scalar.divsi v54 c1_i32_34
  let v57 : BitVec 32 := Scalar.muli v56 c1_i32_34
  let v58 : BitVec 32 := Scalar.addi v51 v57
  let c1_i32_36 : BitVec 32 := 1#32
  let arg11 : BitVec 32 := Scf.iv v58 c1_i32_36 k0_t2
  let v328 : Index := Scalar.indexCast arg11
  ![v327.toNat, v328.toNat]
def k0_mult2 (v329 : BitVec 32) : BitVec 32 :=
  let c128_i32 : BitVec 32 := 128#32
  let v330 : BitVec 32 := Scalar.muli v329 c128_i32
  v330

def k0_off11 (v51 : BitVec 32) (v53 : BitVec 32) (k0_t2 : Fin (k0_t2_loop v51 v53).trips) : Fin 4 → Nat :=
  let c0_200 : Index := 0#32
  let v54 : BitVec 32 := Scalar.subi v53 v51
  let c1_i32_34 : BitVec 32 := 1#32
  let v56 : BitVec 32 := Scalar.divsi v54 c1_i32_34
  let v57 : BitVec 32 := Scalar.muli v56 c1_i32_34
  let v58 : BitVec 32 := Scalar.addi v51 v57
  let c1_i32_36 : BitVec 32 := 1#32
  let arg11 : BitVec 32 := Scf.iv v58 c1_i32_36 k0_t2
  let v333 : Index := Scalar.indexCast arg11
  let c0_201 : Index := 0#32
  let c0_202 : Index := 0#32
  ![0, v333.toNat, 0, 0]
def k0_off12 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off13 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c0_206 : Index := 0#32
  ![v349.toNat, 0]

def k0_chk3 (i : grid0.Coords) (v329 : BitVec 32) : Prop :=
  (∀ (k0_h1 : k0_cond1 i = 1#1), 128 ∣ (k0_mult2 v329).toNat) ∧
  (∀ (k0_h1 : k0_cond1 i = 1#1), ∀ (r : Fin 4), ∀ a, (k0_off12 v329 (BitVec.ofNat 32 (32 * r.val))) a + S32x128.size a ≤ S896x128.size a) ∧
  (∀ (k0_h1 : k0_cond1 i = 1#1), ∀ (r : Fin 4), ∀ a, (k0_off13 v329 (BitVec.ofNat 32 (32 * r.val))) a + S32x128.size a ≤ S896x896.size a) ∧
  (∀ (k0_h1 : k0_cond1 i = 1#1), ∀ (r : Fin 4), ∀ (hinb : ∀ a, (k0_off13 v329 (BitVec.ofNat 32 (32 * r.val))) a + S32x128.size a ≤ S896x896.size a), (Rect.unit (s := S896x896) (k0_off13 v329 (BitVec.ofNat 32 (32 * r.val))) S32x128.size hinb).PackedRows (EltTy.packing .bf16))
theorem k0_mult2_dvd : ∀ (i : grid0.Coords) (v329 : BitVec 32) (k0_hw3 : k0_chk3 i v329), ∀ (k0_h1 : k0_cond1 i = 1#1), 128 ∣ (k0_mult2 v329).toNat := fun i v329 k0_hw3 k0_h1 => k0_hw3.1 k0_h1
theorem k0_off12_inb : ∀ (i : grid0.Coords) (v329 : BitVec 32) (k0_hw3 : k0_chk3 i v329), ∀ (k0_h1 : k0_cond1 i = 1#1), ∀ (r : Fin 4), ∀ a, (k0_off12 v329 (BitVec.ofNat 32 (32 * r.val))) a + S32x128.size a ≤ S896x128.size a := fun i v329 k0_hw3 k0_h1 r => k0_hw3.2.1 k0_h1 r
theorem k0_off13_inb : ∀ (i : grid0.Coords) (v329 : BitVec 32) (k0_hw3 : k0_chk3 i v329), ∀ (k0_h1 : k0_cond1 i = 1#1), ∀ (r : Fin 4), ∀ a, (k0_off13 v329 (BitVec.ofNat 32 (32 * r.val))) a + S32x128.size a ≤ S896x896.size a := fun i v329 k0_hw3 k0_h1 r => k0_hw3.2.2.1 k0_h1 r
theorem k0_off13_packedbf16 : ∀ (i : grid0.Coords) (v329 : BitVec 32) (k0_hw3 : k0_chk3 i v329), ∀ (k0_h1 : k0_cond1 i = 1#1), ∀ (r : Fin 4), (Rect.unit (s := S896x896) (k0_off13 v329 (BitVec.ofNat 32 (32 * r.val))) S32x128.size (k0_off13_inb i v329 k0_hw3 k0_h1 r)).PackedRows (EltTy.packing .bf16) := fun i v329 k0_hw3 k0_h1 r => k0_hw3.2.2.2 k0_h1 r (k0_off13_inb i v329 k0_hw3 k0_h1 r)

def k0_off14 (v51 : BitVec 32) (v53 : BitVec 32) (k0_t2 : Fin (k0_t2_loop v51 v53).trips) : Fin 4 → Nat :=
  let c0_208 : Index := 0#32
  let v54 : BitVec 32 := Scalar.subi v53 v51
  let c1_i32_34 : BitVec 32 := 1#32
  let v56 : BitVec 32 := Scalar.divsi v54 c1_i32_34
  let v57 : BitVec 32 := Scalar.muli v56 c1_i32_34
  let v58 : BitVec 32 := Scalar.addi v51 v57
  let c1_i32_36 : BitVec 32 := 1#32
  let arg11 : BitVec 32 := Scf.iv v58 c1_i32_36 k0_t2
  let v360 : Index := Scalar.indexCast arg11
  let c1_209 : Index := 1#32
  let c0_210 : Index := 0#32
  ![0, v360.toNat, 1, 0]
def k0_off15 (v51 : BitVec 32) (v53 : BitVec 32) (k0_t2 : Fin (k0_t2_loop v51 v53).trips) : Fin 4 → Nat :=
  let c0_216 : Index := 0#32
  let v54 : BitVec 32 := Scalar.subi v53 v51
  let c1_i32_34 : BitVec 32 := 1#32
  let v56 : BitVec 32 := Scalar.divsi v54 c1_i32_34
  let v57 : BitVec 32 := Scalar.muli v56 c1_i32_34
  let v58 : BitVec 32 := Scalar.addi v51 v57
  let c1_i32_36 : BitVec 32 := 1#32
  let arg11 : BitVec 32 := Scf.iv v58 c1_i32_36 k0_t2
  let v387 : Index := Scalar.indexCast arg11
  let c2_217 : Index := 2#32
  let c0_218 : Index := 0#32
  ![0, v387.toNat, 2, 0]
def k0_off16 (v51 : BitVec 32) (v53 : BitVec 32) (k0_t2 : Fin (k0_t2_loop v51 v53).trips) : Fin 4 → Nat :=
  let c0_224 : Index := 0#32
  let v54 : BitVec 32 := Scalar.subi v53 v51
  let c1_i32_34 : BitVec 32 := 1#32
  let v56 : BitVec 32 := Scalar.divsi v54 c1_i32_34
  let v57 : BitVec 32 := Scalar.muli v56 c1_i32_34
  let v58 : BitVec 32 := Scalar.addi v51 v57
  let c1_i32_36 : BitVec 32 := 1#32
  let arg11 : BitVec 32 := Scf.iv v58 c1_i32_36 k0_t2
  let v414 : Index := Scalar.indexCast arg11
  let c3_225 : Index := 3#32
  let c0_226 : Index := 0#32
  ![0, v414.toNat, 3, 0]

def k0_chk1 (i : grid0.Coords) (v51 : BitVec 32) (v53 : BitVec 32) : Prop :=
  (∀ (k0_h1 : k0_cond1 i = 1#1), (k0_t1_loop v51 v53).OK) ∧
  (∀ k0_t1 : Fin (k0_t1_loop v51 v53).trips, ∀ (k0_h1 : k0_cond1 i = 1#1), ∀ a, (k0_off3 i v51 v53 k0_t1) a + S1x1.size a ≤ S2x42.size a) ∧
  (∀ k0_t1 : Fin (k0_t1_loop v51 v53).trips, ∀ (k0_h1 : k0_cond1 i = 1#1), ∀ a, (k0_off4 v51 v53 k0_t1) a + S1x1x1x128.size a ≤ S1x42x4x128.size a) ∧
  (∀ k0_t1 : Fin (k0_t1_loop v51 v53).trips, ∀ (k0_h1 : k0_cond1 i = 1#1), ∀ a, (k0_off7 v51 v53 k0_t1) a + S1x1x1x128.size a ≤ S1x42x4x128.size a) ∧
  (∀ k0_t1 : Fin (k0_t1_loop v51 v53).trips, ∀ (k0_h1 : k0_cond1 i = 1#1), ∀ a, (k0_off8 v51 v53 k0_t1) a + S1x1x1x128.size a ≤ S1x42x4x128.size a) ∧
  (∀ k0_t1 : Fin (k0_t1_loop v51 v53).trips, ∀ (k0_h1 : k0_cond1 i = 1#1), ∀ a, (k0_off9 v51 v53 k0_t1) a + S1x1x1x128.size a ≤ S1x42x4x128.size a) ∧
  (∀ (k0_h1 : k0_cond1 i = 1#1), (k0_t2_loop v51 v53).OK) ∧
  (∀ k0_t2 : Fin (k0_t2_loop v51 v53).trips, ∀ (k0_h1 : k0_cond1 i = 1#1), ∀ a, (k0_off10 i v51 v53 k0_t2) a + S1x1.size a ≤ S2x42.size a) ∧
  (∀ k0_t2 : Fin (k0_t2_loop v51 v53).trips, ∀ (k0_h1 : k0_cond1 i = 1#1), ∀ a, (k0_off11 v51 v53 k0_t2) a + S1x1x1x128.size a ≤ S1x42x4x128.size a) ∧
  (∀ k0_t2 : Fin (k0_t2_loop v51 v53).trips, ∀ (k0_h1 : k0_cond1 i = 1#1), ∀ a, (k0_off14 v51 v53 k0_t2) a + S1x1x1x128.size a ≤ S1x42x4x128.size a) ∧
  (∀ k0_t2 : Fin (k0_t2_loop v51 v53).trips, ∀ (k0_h1 : k0_cond1 i = 1#1), ∀ a, (k0_off15 v51 v53 k0_t2) a + S1x1x1x128.size a ≤ S1x42x4x128.size a) ∧
  (∀ k0_t2 : Fin (k0_t2_loop v51 v53).trips, ∀ (k0_h1 : k0_cond1 i = 1#1), ∀ a, (k0_off16 v51 v53 k0_t2) a + S1x1x1x128.size a ≤ S1x42x4x128.size a)
theorem k0_t1_ok : ∀ (i : grid0.Coords) (v51 : BitVec 32) (v53 : BitVec 32) (k0_hw1 : k0_chk1 i v51 v53), ∀ (k0_h1 : k0_cond1 i = 1#1), (k0_t1_loop v51 v53).OK := fun i v51 v53 k0_hw1 k0_h1 => k0_hw1.1 k0_h1
theorem k0_off3_inb : ∀ (i : grid0.Coords) (v51 : BitVec 32) (v53 : BitVec 32) (k0_hw1 : k0_chk1 i v51 v53) (k0_t1 : Fin (k0_t1_loop v51 v53).trips), ∀ (k0_h1 : k0_cond1 i = 1#1), ∀ a, (k0_off3 i v51 v53 k0_t1) a + S1x1.size a ≤ S2x42.size a := fun i v51 v53 k0_hw1 k0_t1 k0_h1 => k0_hw1.2.1 k0_t1 k0_h1
theorem k0_off4_inb : ∀ (i : grid0.Coords) (v51 : BitVec 32) (v53 : BitVec 32) (k0_hw1 : k0_chk1 i v51 v53) (k0_t1 : Fin (k0_t1_loop v51 v53).trips), ∀ (k0_h1 : k0_cond1 i = 1#1), ∀ a, (k0_off4 v51 v53 k0_t1) a + S1x1x1x128.size a ≤ S1x42x4x128.size a := fun i v51 v53 k0_hw1 k0_t1 k0_h1 => k0_hw1.2.2.1 k0_t1 k0_h1
theorem k0_off7_inb : ∀ (i : grid0.Coords) (v51 : BitVec 32) (v53 : BitVec 32) (k0_hw1 : k0_chk1 i v51 v53) (k0_t1 : Fin (k0_t1_loop v51 v53).trips), ∀ (k0_h1 : k0_cond1 i = 1#1), ∀ a, (k0_off7 v51 v53 k0_t1) a + S1x1x1x128.size a ≤ S1x42x4x128.size a := fun i v51 v53 k0_hw1 k0_t1 k0_h1 => k0_hw1.2.2.2.1 k0_t1 k0_h1
theorem k0_off8_inb : ∀ (i : grid0.Coords) (v51 : BitVec 32) (v53 : BitVec 32) (k0_hw1 : k0_chk1 i v51 v53) (k0_t1 : Fin (k0_t1_loop v51 v53).trips), ∀ (k0_h1 : k0_cond1 i = 1#1), ∀ a, (k0_off8 v51 v53 k0_t1) a + S1x1x1x128.size a ≤ S1x42x4x128.size a := fun i v51 v53 k0_hw1 k0_t1 k0_h1 => k0_hw1.2.2.2.2.1 k0_t1 k0_h1
theorem k0_off9_inb : ∀ (i : grid0.Coords) (v51 : BitVec 32) (v53 : BitVec 32) (k0_hw1 : k0_chk1 i v51 v53) (k0_t1 : Fin (k0_t1_loop v51 v53).trips), ∀ (k0_h1 : k0_cond1 i = 1#1), ∀ a, (k0_off9 v51 v53 k0_t1) a + S1x1x1x128.size a ≤ S1x42x4x128.size a := fun i v51 v53 k0_hw1 k0_t1 k0_h1 => k0_hw1.2.2.2.2.2.1 k0_t1 k0_h1
theorem k0_t2_ok : ∀ (i : grid0.Coords) (v51 : BitVec 32) (v53 : BitVec 32) (k0_hw1 : k0_chk1 i v51 v53), ∀ (k0_h1 : k0_cond1 i = 1#1), (k0_t2_loop v51 v53).OK := fun i v51 v53 k0_hw1 k0_h1 => k0_hw1.2.2.2.2.2.2.1 k0_h1
theorem k0_off10_inb : ∀ (i : grid0.Coords) (v51 : BitVec 32) (v53 : BitVec 32) (k0_hw1 : k0_chk1 i v51 v53) (k0_t2 : Fin (k0_t2_loop v51 v53).trips), ∀ (k0_h1 : k0_cond1 i = 1#1), ∀ a, (k0_off10 i v51 v53 k0_t2) a + S1x1.size a ≤ S2x42.size a := fun i v51 v53 k0_hw1 k0_t2 k0_h1 => k0_hw1.2.2.2.2.2.2.2.1 k0_t2 k0_h1
theorem k0_off11_inb : ∀ (i : grid0.Coords) (v51 : BitVec 32) (v53 : BitVec 32) (k0_hw1 : k0_chk1 i v51 v53) (k0_t2 : Fin (k0_t2_loop v51 v53).trips), ∀ (k0_h1 : k0_cond1 i = 1#1), ∀ a, (k0_off11 v51 v53 k0_t2) a + S1x1x1x128.size a ≤ S1x42x4x128.size a := fun i v51 v53 k0_hw1 k0_t2 k0_h1 => k0_hw1.2.2.2.2.2.2.2.2.1 k0_t2 k0_h1
theorem k0_off14_inb : ∀ (i : grid0.Coords) (v51 : BitVec 32) (v53 : BitVec 32) (k0_hw1 : k0_chk1 i v51 v53) (k0_t2 : Fin (k0_t2_loop v51 v53).trips), ∀ (k0_h1 : k0_cond1 i = 1#1), ∀ a, (k0_off14 v51 v53 k0_t2) a + S1x1x1x128.size a ≤ S1x42x4x128.size a := fun i v51 v53 k0_hw1 k0_t2 k0_h1 => k0_hw1.2.2.2.2.2.2.2.2.2.1 k0_t2 k0_h1
theorem k0_off15_inb : ∀ (i : grid0.Coords) (v51 : BitVec 32) (v53 : BitVec 32) (k0_hw1 : k0_chk1 i v51 v53) (k0_t2 : Fin (k0_t2_loop v51 v53).trips), ∀ (k0_h1 : k0_cond1 i = 1#1), ∀ a, (k0_off15 v51 v53 k0_t2) a + S1x1x1x128.size a ≤ S1x42x4x128.size a := fun i v51 v53 k0_hw1 k0_t2 k0_h1 => k0_hw1.2.2.2.2.2.2.2.2.2.2.1 k0_t2 k0_h1
theorem k0_off16_inb : ∀ (i : grid0.Coords) (v51 : BitVec 32) (v53 : BitVec 32) (k0_hw1 : k0_chk1 i v51 v53) (k0_t2 : Fin (k0_t2_loop v51 v53).trips), ∀ (k0_h1 : k0_cond1 i = 1#1), ∀ a, (k0_off16 v51 v53 k0_t2) a + S1x1x1x128.size a ≤ S1x42x4x128.size a := fun i v51 v53 k0_hw1 k0_t2 k0_h1 => k0_hw1.2.2.2.2.2.2.2.2.2.2.2 k0_t2 k0_h1

def k0_off17 (i : grid0.Coords) : Fin 2 → Nat :=
  let arg0 : BitVec 32 := BitVec.ofNat 32 (i 0).val
  let v65 : Index := Scalar.indexCast arg0
  let c1_42 : Index := 1#32
  ![v65.toNat, 1]
def k0_off18 (i : grid0.Coords) : Fin 2 → Nat :=
  let arg0 : BitVec 32 := BitVec.ofNat 32 (i 0).val
  let v67 : Index := Scalar.indexCast arg0
  let c2 : Index := 2#32
  ![v67.toNat, 2]
@[reducible] def k0_t3_loop (v66 : BitVec 32) (v68 : BitVec 32) : Scf.Loop 32 :=
  let v69 : BitVec 32 := Scalar.subi v68 v66
  let c1_i32_44 : BitVec 32 := 1#32
  let v71 : BitVec 32 := Scalar.divsi v69 c1_i32_44
  let v72 : BitVec 32 := Scalar.muli v71 c1_i32_44
  let v73 : BitVec 32 := Scalar.addi v66 v72
  let c1_i32_45 : BitVec 32 := 1#32
  ⟨v66, v73, c1_i32_45⟩

def k0_off19 (i : grid0.Coords) (v66 : BitVec 32) (v68 : BitVec 32) (k0_t3 : Fin (k0_t3_loop v66 v68).trips) : Fin 2 → Nat :=
  let arg0 : BitVec 32 := BitVec.ofNat 32 (i 0).val
  let v327 : Index := Scalar.indexCast arg0
  let c1_i32_45 : BitVec 32 := 1#32
  let arg11 : BitVec 32 := Scf.iv v66 c1_i32_45 k0_t3
  let v328 : Index := Scalar.indexCast arg11
  ![v327.toNat, v328.toNat]
def k0_mult3 (v329 : BitVec 32) : BitVec 32 :=
  let c128_i32 : BitVec 32 := 128#32
  let v330 : BitVec 32 := Scalar.muli v329 c128_i32
  v330

def k0_off20 (v66 : BitVec 32) (v68 : BitVec 32) (k0_t3 : Fin (k0_t3_loop v66 v68).trips) : Fin 4 → Nat :=
  let c0_200 : Index := 0#32
  let c1_i32_45 : BitVec 32 := 1#32
  let arg11 : BitVec 32 := Scf.iv v66 c1_i32_45 k0_t3
  let v333 : Index := Scalar.indexCast arg11
  let c0_201 : Index := 0#32
  let c0_202 : Index := 0#32
  ![0, v333.toNat, 0, 0]
def k0_off21 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off22 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c128_206 : Index := 128#32
  ![v349.toNat, 128]

def k0_chk5 (i : grid0.Coords) (v329 : BitVec 32) : Prop :=
  (∀ (k0_h1 : k0_cond1 i = 1#1), 128 ∣ (k0_mult3 v329).toNat) ∧
  (∀ (k0_h1 : k0_cond1 i = 1#1), ∀ (r : Fin 4), ∀ a, (k0_off21 v329 (BitVec.ofNat 32 (32 * r.val))) a + S32x128.size a ≤ S896x128.size a) ∧
  (∀ (k0_h1 : k0_cond1 i = 1#1), ∀ (r : Fin 4), ∀ a, (k0_off22 v329 (BitVec.ofNat 32 (32 * r.val))) a + S32x128.size a ≤ S896x896.size a) ∧
  (∀ (k0_h1 : k0_cond1 i = 1#1), ∀ (r : Fin 4), ∀ (hinb : ∀ a, (k0_off22 v329 (BitVec.ofNat 32 (32 * r.val))) a + S32x128.size a ≤ S896x896.size a), (Rect.unit (s := S896x896) (k0_off22 v329 (BitVec.ofNat 32 (32 * r.val))) S32x128.size hinb).PackedRows (EltTy.packing .bf16))
theorem k0_mult3_dvd : ∀ (i : grid0.Coords) (v329 : BitVec 32) (k0_hw5 : k0_chk5 i v329), ∀ (k0_h1 : k0_cond1 i = 1#1), 128 ∣ (k0_mult3 v329).toNat := fun i v329 k0_hw5 k0_h1 => k0_hw5.1 k0_h1
theorem k0_off21_inb : ∀ (i : grid0.Coords) (v329 : BitVec 32) (k0_hw5 : k0_chk5 i v329), ∀ (k0_h1 : k0_cond1 i = 1#1), ∀ (r : Fin 4), ∀ a, (k0_off21 v329 (BitVec.ofNat 32 (32 * r.val))) a + S32x128.size a ≤ S896x128.size a := fun i v329 k0_hw5 k0_h1 r => k0_hw5.2.1 k0_h1 r
theorem k0_off22_inb : ∀ (i : grid0.Coords) (v329 : BitVec 32) (k0_hw5 : k0_chk5 i v329), ∀ (k0_h1 : k0_cond1 i = 1#1), ∀ (r : Fin 4), ∀ a, (k0_off22 v329 (BitVec.ofNat 32 (32 * r.val))) a + S32x128.size a ≤ S896x896.size a := fun i v329 k0_hw5 k0_h1 r => k0_hw5.2.2.1 k0_h1 r
theorem k0_off22_packedbf16 : ∀ (i : grid0.Coords) (v329 : BitVec 32) (k0_hw5 : k0_chk5 i v329), ∀ (k0_h1 : k0_cond1 i = 1#1), ∀ (r : Fin 4), (Rect.unit (s := S896x896) (k0_off22 v329 (BitVec.ofNat 32 (32 * r.val))) S32x128.size (k0_off22_inb i v329 k0_hw5 k0_h1 r)).PackedRows (EltTy.packing .bf16) := fun i v329 k0_hw5 k0_h1 r => k0_hw5.2.2.2 k0_h1 r (k0_off22_inb i v329 k0_hw5 k0_h1 r)

def k0_off23 (v66 : BitVec 32) (v68 : BitVec 32) (k0_t3 : Fin (k0_t3_loop v66 v68).trips) : Fin 4 → Nat :=
  let c0_208 : Index := 0#32
  let c1_i32_45 : BitVec 32 := 1#32
  let arg11 : BitVec 32 := Scf.iv v66 c1_i32_45 k0_t3
  let v360 : Index := Scalar.indexCast arg11
  let c1_209 : Index := 1#32
  let c0_210 : Index := 0#32
  ![0, v360.toNat, 1, 0]
def k0_off24 (v66 : BitVec 32) (v68 : BitVec 32) (k0_t3 : Fin (k0_t3_loop v66 v68).trips) : Fin 4 → Nat :=
  let c0_216 : Index := 0#32
  let c1_i32_45 : BitVec 32 := 1#32
  let arg11 : BitVec 32 := Scf.iv v66 c1_i32_45 k0_t3
  let v387 : Index := Scalar.indexCast arg11
  let c2_217 : Index := 2#32
  let c0_218 : Index := 0#32
  ![0, v387.toNat, 2, 0]
def k0_off25 (v66 : BitVec 32) (v68 : BitVec 32) (k0_t3 : Fin (k0_t3_loop v66 v68).trips) : Fin 4 → Nat :=
  let c0_224 : Index := 0#32
  let c1_i32_45 : BitVec 32 := 1#32
  let arg11 : BitVec 32 := Scf.iv v66 c1_i32_45 k0_t3
  let v414 : Index := Scalar.indexCast arg11
  let c3_225 : Index := 3#32
  let c0_226 : Index := 0#32
  ![0, v414.toNat, 3, 0]
@[reducible] def k0_t4_loop (v66 : BitVec 32) (v68 : BitVec 32) : Scf.Loop 32 :=
  let v69 : BitVec 32 := Scalar.subi v68 v66
  let c1_i32_44 : BitVec 32 := 1#32
  let v71 : BitVec 32 := Scalar.divsi v69 c1_i32_44
  let v72 : BitVec 32 := Scalar.muli v71 c1_i32_44
  let v73 : BitVec 32 := Scalar.addi v66 v72
  let v70 : BitVec 32 := Scalar.addi v66 v69
  let c1_i32_46 : BitVec 32 := 1#32
  ⟨v73, v70, c1_i32_46⟩
def k0_off26 (i : grid0.Coords) (v66 : BitVec 32) (v68 : BitVec 32) (k0_t4 : Fin (k0_t4_loop v66 v68).trips) : Fin 2 → Nat :=
  let arg0 : BitVec 32 := BitVec.ofNat 32 (i 0).val
  let v327 : Index := Scalar.indexCast arg0
  let v69 : BitVec 32 := Scalar.subi v68 v66
  let c1_i32_44 : BitVec 32 := 1#32
  let v71 : BitVec 32 := Scalar.divsi v69 c1_i32_44
  let v72 : BitVec 32 := Scalar.muli v71 c1_i32_44
  let v73 : BitVec 32 := Scalar.addi v66 v72
  let c1_i32_46 : BitVec 32 := 1#32
  let arg11 : BitVec 32 := Scf.iv v73 c1_i32_46 k0_t4
  let v328 : Index := Scalar.indexCast arg11
  ![v327.toNat, v328.toNat]
def k0_mult4 (v329 : BitVec 32) : BitVec 32 :=
  let c128_i32 : BitVec 32 := 128#32
  let v330 : BitVec 32 := Scalar.muli v329 c128_i32
  v330

def k0_off27 (v66 : BitVec 32) (v68 : BitVec 32) (k0_t4 : Fin (k0_t4_loop v66 v68).trips) : Fin 4 → Nat :=
  let c0_200 : Index := 0#32
  let v69 : BitVec 32 := Scalar.subi v68 v66
  let c1_i32_44 : BitVec 32 := 1#32
  let v71 : BitVec 32 := Scalar.divsi v69 c1_i32_44
  let v72 : BitVec 32 := Scalar.muli v71 c1_i32_44
  let v73 : BitVec 32 := Scalar.addi v66 v72
  let c1_i32_46 : BitVec 32 := 1#32
  let arg11 : BitVec 32 := Scf.iv v73 c1_i32_46 k0_t4
  let v333 : Index := Scalar.indexCast arg11
  let c0_201 : Index := 0#32
  let c0_202 : Index := 0#32
  ![0, v333.toNat, 0, 0]
def k0_off28 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off29 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c128_206 : Index := 128#32
  ![v349.toNat, 128]

def k0_chk6 (i : grid0.Coords) (v329 : BitVec 32) : Prop :=
  (∀ (k0_h1 : k0_cond1 i = 1#1), 128 ∣ (k0_mult4 v329).toNat) ∧
  (∀ (k0_h1 : k0_cond1 i = 1#1), ∀ (r : Fin 4), ∀ a, (k0_off28 v329 (BitVec.ofNat 32 (32 * r.val))) a + S32x128.size a ≤ S896x128.size a) ∧
  (∀ (k0_h1 : k0_cond1 i = 1#1), ∀ (r : Fin 4), ∀ a, (k0_off29 v329 (BitVec.ofNat 32 (32 * r.val))) a + S32x128.size a ≤ S896x896.size a) ∧
  (∀ (k0_h1 : k0_cond1 i = 1#1), ∀ (r : Fin 4), ∀ (hinb : ∀ a, (k0_off29 v329 (BitVec.ofNat 32 (32 * r.val))) a + S32x128.size a ≤ S896x896.size a), (Rect.unit (s := S896x896) (k0_off29 v329 (BitVec.ofNat 32 (32 * r.val))) S32x128.size hinb).PackedRows (EltTy.packing .bf16))
theorem k0_mult4_dvd : ∀ (i : grid0.Coords) (v329 : BitVec 32) (k0_hw6 : k0_chk6 i v329), ∀ (k0_h1 : k0_cond1 i = 1#1), 128 ∣ (k0_mult4 v329).toNat := fun i v329 k0_hw6 k0_h1 => k0_hw6.1 k0_h1
theorem k0_off28_inb : ∀ (i : grid0.Coords) (v329 : BitVec 32) (k0_hw6 : k0_chk6 i v329), ∀ (k0_h1 : k0_cond1 i = 1#1), ∀ (r : Fin 4), ∀ a, (k0_off28 v329 (BitVec.ofNat 32 (32 * r.val))) a + S32x128.size a ≤ S896x128.size a := fun i v329 k0_hw6 k0_h1 r => k0_hw6.2.1 k0_h1 r
theorem k0_off29_inb : ∀ (i : grid0.Coords) (v329 : BitVec 32) (k0_hw6 : k0_chk6 i v329), ∀ (k0_h1 : k0_cond1 i = 1#1), ∀ (r : Fin 4), ∀ a, (k0_off29 v329 (BitVec.ofNat 32 (32 * r.val))) a + S32x128.size a ≤ S896x896.size a := fun i v329 k0_hw6 k0_h1 r => k0_hw6.2.2.1 k0_h1 r
theorem k0_off29_packedbf16 : ∀ (i : grid0.Coords) (v329 : BitVec 32) (k0_hw6 : k0_chk6 i v329), ∀ (k0_h1 : k0_cond1 i = 1#1), ∀ (r : Fin 4), (Rect.unit (s := S896x896) (k0_off29 v329 (BitVec.ofNat 32 (32 * r.val))) S32x128.size (k0_off29_inb i v329 k0_hw6 k0_h1 r)).PackedRows (EltTy.packing .bf16) := fun i v329 k0_hw6 k0_h1 r => k0_hw6.2.2.2 k0_h1 r (k0_off29_inb i v329 k0_hw6 k0_h1 r)

def k0_off30 (v66 : BitVec 32) (v68 : BitVec 32) (k0_t4 : Fin (k0_t4_loop v66 v68).trips) : Fin 4 → Nat :=
  let c0_208 : Index := 0#32
  let v69 : BitVec 32 := Scalar.subi v68 v66
  let c1_i32_44 : BitVec 32 := 1#32
  let v71 : BitVec 32 := Scalar.divsi v69 c1_i32_44
  let v72 : BitVec 32 := Scalar.muli v71 c1_i32_44
  let v73 : BitVec 32 := Scalar.addi v66 v72
  let c1_i32_46 : BitVec 32 := 1#32
  let arg11 : BitVec 32 := Scf.iv v73 c1_i32_46 k0_t4
  let v360 : Index := Scalar.indexCast arg11
  let c1_209 : Index := 1#32
  let c0_210 : Index := 0#32
  ![0, v360.toNat, 1, 0]
def k0_off31 (v66 : BitVec 32) (v68 : BitVec 32) (k0_t4 : Fin (k0_t4_loop v66 v68).trips) : Fin 4 → Nat :=
  let c0_216 : Index := 0#32
  let v69 : BitVec 32 := Scalar.subi v68 v66
  let c1_i32_44 : BitVec 32 := 1#32
  let v71 : BitVec 32 := Scalar.divsi v69 c1_i32_44
  let v72 : BitVec 32 := Scalar.muli v71 c1_i32_44
  let v73 : BitVec 32 := Scalar.addi v66 v72
  let c1_i32_46 : BitVec 32 := 1#32
  let arg11 : BitVec 32 := Scf.iv v73 c1_i32_46 k0_t4
  let v387 : Index := Scalar.indexCast arg11
  let c2_217 : Index := 2#32
  let c0_218 : Index := 0#32
  ![0, v387.toNat, 2, 0]
def k0_off32 (v66 : BitVec 32) (v68 : BitVec 32) (k0_t4 : Fin (k0_t4_loop v66 v68).trips) : Fin 4 → Nat :=
  let c0_224 : Index := 0#32
  let v69 : BitVec 32 := Scalar.subi v68 v66
  let c1_i32_44 : BitVec 32 := 1#32
  let v71 : BitVec 32 := Scalar.divsi v69 c1_i32_44
  let v72 : BitVec 32 := Scalar.muli v71 c1_i32_44
  let v73 : BitVec 32 := Scalar.addi v66 v72
  let c1_i32_46 : BitVec 32 := 1#32
  let arg11 : BitVec 32 := Scf.iv v73 c1_i32_46 k0_t4
  let v414 : Index := Scalar.indexCast arg11
  let c3_225 : Index := 3#32
  let c0_226 : Index := 0#32
  ![0, v414.toNat, 3, 0]

def k0_chk4 (i : grid0.Coords) (v66 : BitVec 32) (v68 : BitVec 32) : Prop :=
  (∀ (k0_h1 : k0_cond1 i = 1#1), (k0_t3_loop v66 v68).OK) ∧
  (∀ k0_t3 : Fin (k0_t3_loop v66 v68).trips, ∀ (k0_h1 : k0_cond1 i = 1#1), ∀ a, (k0_off19 i v66 v68 k0_t3) a + S1x1.size a ≤ S2x42.size a) ∧
  (∀ k0_t3 : Fin (k0_t3_loop v66 v68).trips, ∀ (k0_h1 : k0_cond1 i = 1#1), ∀ a, (k0_off20 v66 v68 k0_t3) a + S1x1x1x128.size a ≤ S1x42x4x128.size a) ∧
  (∀ k0_t3 : Fin (k0_t3_loop v66 v68).trips, ∀ (k0_h1 : k0_cond1 i = 1#1), ∀ a, (k0_off23 v66 v68 k0_t3) a + S1x1x1x128.size a ≤ S1x42x4x128.size a) ∧
  (∀ k0_t3 : Fin (k0_t3_loop v66 v68).trips, ∀ (k0_h1 : k0_cond1 i = 1#1), ∀ a, (k0_off24 v66 v68 k0_t3) a + S1x1x1x128.size a ≤ S1x42x4x128.size a) ∧
  (∀ k0_t3 : Fin (k0_t3_loop v66 v68).trips, ∀ (k0_h1 : k0_cond1 i = 1#1), ∀ a, (k0_off25 v66 v68 k0_t3) a + S1x1x1x128.size a ≤ S1x42x4x128.size a) ∧
  (∀ (k0_h1 : k0_cond1 i = 1#1), (k0_t4_loop v66 v68).OK) ∧
  (∀ k0_t4 : Fin (k0_t4_loop v66 v68).trips, ∀ (k0_h1 : k0_cond1 i = 1#1), ∀ a, (k0_off26 i v66 v68 k0_t4) a + S1x1.size a ≤ S2x42.size a) ∧
  (∀ k0_t4 : Fin (k0_t4_loop v66 v68).trips, ∀ (k0_h1 : k0_cond1 i = 1#1), ∀ a, (k0_off27 v66 v68 k0_t4) a + S1x1x1x128.size a ≤ S1x42x4x128.size a) ∧
  (∀ k0_t4 : Fin (k0_t4_loop v66 v68).trips, ∀ (k0_h1 : k0_cond1 i = 1#1), ∀ a, (k0_off30 v66 v68 k0_t4) a + S1x1x1x128.size a ≤ S1x42x4x128.size a) ∧
  (∀ k0_t4 : Fin (k0_t4_loop v66 v68).trips, ∀ (k0_h1 : k0_cond1 i = 1#1), ∀ a, (k0_off31 v66 v68 k0_t4) a + S1x1x1x128.size a ≤ S1x42x4x128.size a) ∧
  (∀ k0_t4 : Fin (k0_t4_loop v66 v68).trips, ∀ (k0_h1 : k0_cond1 i = 1#1), ∀ a, (k0_off32 v66 v68 k0_t4) a + S1x1x1x128.size a ≤ S1x42x4x128.size a)
theorem k0_t3_ok : ∀ (i : grid0.Coords) (v66 : BitVec 32) (v68 : BitVec 32) (k0_hw4 : k0_chk4 i v66 v68), ∀ (k0_h1 : k0_cond1 i = 1#1), (k0_t3_loop v66 v68).OK := fun i v66 v68 k0_hw4 k0_h1 => k0_hw4.1 k0_h1
theorem k0_off19_inb : ∀ (i : grid0.Coords) (v66 : BitVec 32) (v68 : BitVec 32) (k0_hw4 : k0_chk4 i v66 v68) (k0_t3 : Fin (k0_t3_loop v66 v68).trips), ∀ (k0_h1 : k0_cond1 i = 1#1), ∀ a, (k0_off19 i v66 v68 k0_t3) a + S1x1.size a ≤ S2x42.size a := fun i v66 v68 k0_hw4 k0_t3 k0_h1 => k0_hw4.2.1 k0_t3 k0_h1
theorem k0_off20_inb : ∀ (i : grid0.Coords) (v66 : BitVec 32) (v68 : BitVec 32) (k0_hw4 : k0_chk4 i v66 v68) (k0_t3 : Fin (k0_t3_loop v66 v68).trips), ∀ (k0_h1 : k0_cond1 i = 1#1), ∀ a, (k0_off20 v66 v68 k0_t3) a + S1x1x1x128.size a ≤ S1x42x4x128.size a := fun i v66 v68 k0_hw4 k0_t3 k0_h1 => k0_hw4.2.2.1 k0_t3 k0_h1
theorem k0_off23_inb : ∀ (i : grid0.Coords) (v66 : BitVec 32) (v68 : BitVec 32) (k0_hw4 : k0_chk4 i v66 v68) (k0_t3 : Fin (k0_t3_loop v66 v68).trips), ∀ (k0_h1 : k0_cond1 i = 1#1), ∀ a, (k0_off23 v66 v68 k0_t3) a + S1x1x1x128.size a ≤ S1x42x4x128.size a := fun i v66 v68 k0_hw4 k0_t3 k0_h1 => k0_hw4.2.2.2.1 k0_t3 k0_h1
theorem k0_off24_inb : ∀ (i : grid0.Coords) (v66 : BitVec 32) (v68 : BitVec 32) (k0_hw4 : k0_chk4 i v66 v68) (k0_t3 : Fin (k0_t3_loop v66 v68).trips), ∀ (k0_h1 : k0_cond1 i = 1#1), ∀ a, (k0_off24 v66 v68 k0_t3) a + S1x1x1x128.size a ≤ S1x42x4x128.size a := fun i v66 v68 k0_hw4 k0_t3 k0_h1 => k0_hw4.2.2.2.2.1 k0_t3 k0_h1
theorem k0_off25_inb : ∀ (i : grid0.Coords) (v66 : BitVec 32) (v68 : BitVec 32) (k0_hw4 : k0_chk4 i v66 v68) (k0_t3 : Fin (k0_t3_loop v66 v68).trips), ∀ (k0_h1 : k0_cond1 i = 1#1), ∀ a, (k0_off25 v66 v68 k0_t3) a + S1x1x1x128.size a ≤ S1x42x4x128.size a := fun i v66 v68 k0_hw4 k0_t3 k0_h1 => k0_hw4.2.2.2.2.2.1 k0_t3 k0_h1
theorem k0_t4_ok : ∀ (i : grid0.Coords) (v66 : BitVec 32) (v68 : BitVec 32) (k0_hw4 : k0_chk4 i v66 v68), ∀ (k0_h1 : k0_cond1 i = 1#1), (k0_t4_loop v66 v68).OK := fun i v66 v68 k0_hw4 k0_h1 => k0_hw4.2.2.2.2.2.2.1 k0_h1
theorem k0_off26_inb : ∀ (i : grid0.Coords) (v66 : BitVec 32) (v68 : BitVec 32) (k0_hw4 : k0_chk4 i v66 v68) (k0_t4 : Fin (k0_t4_loop v66 v68).trips), ∀ (k0_h1 : k0_cond1 i = 1#1), ∀ a, (k0_off26 i v66 v68 k0_t4) a + S1x1.size a ≤ S2x42.size a := fun i v66 v68 k0_hw4 k0_t4 k0_h1 => k0_hw4.2.2.2.2.2.2.2.1 k0_t4 k0_h1
theorem k0_off27_inb : ∀ (i : grid0.Coords) (v66 : BitVec 32) (v68 : BitVec 32) (k0_hw4 : k0_chk4 i v66 v68) (k0_t4 : Fin (k0_t4_loop v66 v68).trips), ∀ (k0_h1 : k0_cond1 i = 1#1), ∀ a, (k0_off27 v66 v68 k0_t4) a + S1x1x1x128.size a ≤ S1x42x4x128.size a := fun i v66 v68 k0_hw4 k0_t4 k0_h1 => k0_hw4.2.2.2.2.2.2.2.2.1 k0_t4 k0_h1
theorem k0_off30_inb : ∀ (i : grid0.Coords) (v66 : BitVec 32) (v68 : BitVec 32) (k0_hw4 : k0_chk4 i v66 v68) (k0_t4 : Fin (k0_t4_loop v66 v68).trips), ∀ (k0_h1 : k0_cond1 i = 1#1), ∀ a, (k0_off30 v66 v68 k0_t4) a + S1x1x1x128.size a ≤ S1x42x4x128.size a := fun i v66 v68 k0_hw4 k0_t4 k0_h1 => k0_hw4.2.2.2.2.2.2.2.2.2.1 k0_t4 k0_h1
theorem k0_off31_inb : ∀ (i : grid0.Coords) (v66 : BitVec 32) (v68 : BitVec 32) (k0_hw4 : k0_chk4 i v66 v68) (k0_t4 : Fin (k0_t4_loop v66 v68).trips), ∀ (k0_h1 : k0_cond1 i = 1#1), ∀ a, (k0_off31 v66 v68 k0_t4) a + S1x1x1x128.size a ≤ S1x42x4x128.size a := fun i v66 v68 k0_hw4 k0_t4 k0_h1 => k0_hw4.2.2.2.2.2.2.2.2.2.2.1 k0_t4 k0_h1
theorem k0_off32_inb : ∀ (i : grid0.Coords) (v66 : BitVec 32) (v68 : BitVec 32) (k0_hw4 : k0_chk4 i v66 v68) (k0_t4 : Fin (k0_t4_loop v66 v68).trips), ∀ (k0_h1 : k0_cond1 i = 1#1), ∀ a, (k0_off32 v66 v68 k0_t4) a + S1x1x1x128.size a ≤ S1x42x4x128.size a := fun i v66 v68 k0_hw4 k0_t4 k0_h1 => k0_hw4.2.2.2.2.2.2.2.2.2.2.2 k0_t4 k0_h1

def k0_off33 (i : grid0.Coords) : Fin 2 → Nat :=
  let arg0 : BitVec 32 := BitVec.ofNat 32 (i 0).val
  let v80 : Index := Scalar.indexCast arg0
  let c2_52 : Index := 2#32
  ![v80.toNat, 2]
def k0_off34 (i : grid0.Coords) : Fin 2 → Nat :=
  let arg0 : BitVec 32 := BitVec.ofNat 32 (i 0).val
  let v82 : Index := Scalar.indexCast arg0
  let c3 : Index := 3#32
  ![v82.toNat, 3]
@[reducible] def k0_t5_loop (v81 : BitVec 32) (v83 : BitVec 32) : Scf.Loop 32 :=
  let v84 : BitVec 32 := Scalar.subi v83 v81
  let c1_i32_54 : BitVec 32 := 1#32
  let v86 : BitVec 32 := Scalar.divsi v84 c1_i32_54
  let v87 : BitVec 32 := Scalar.muli v86 c1_i32_54
  let v88 : BitVec 32 := Scalar.addi v81 v87
  let c1_i32_55 : BitVec 32 := 1#32
  ⟨v81, v88, c1_i32_55⟩

def k0_off35 (i : grid0.Coords) (v81 : BitVec 32) (v83 : BitVec 32) (k0_t5 : Fin (k0_t5_loop v81 v83).trips) : Fin 2 → Nat :=
  let arg0 : BitVec 32 := BitVec.ofNat 32 (i 0).val
  let v327 : Index := Scalar.indexCast arg0
  let c1_i32_55 : BitVec 32 := 1#32
  let arg11 : BitVec 32 := Scf.iv v81 c1_i32_55 k0_t5
  let v328 : Index := Scalar.indexCast arg11
  ![v327.toNat, v328.toNat]
def k0_mult5 (v329 : BitVec 32) : BitVec 32 :=
  let c128_i32 : BitVec 32 := 128#32
  let v330 : BitVec 32 := Scalar.muli v329 c128_i32
  v330

def k0_off36 (v81 : BitVec 32) (v83 : BitVec 32) (k0_t5 : Fin (k0_t5_loop v81 v83).trips) : Fin 4 → Nat :=
  let c0_200 : Index := 0#32
  let c1_i32_55 : BitVec 32 := 1#32
  let arg11 : BitVec 32 := Scf.iv v81 c1_i32_55 k0_t5
  let v333 : Index := Scalar.indexCast arg11
  let c0_201 : Index := 0#32
  let c0_202 : Index := 0#32
  ![0, v333.toNat, 0, 0]
def k0_off37 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off38 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c256_206 : Index := 256#32
  ![v349.toNat, 256]

def k0_chk8 (i : grid0.Coords) (v329 : BitVec 32) : Prop :=
  (∀ (k0_h1 : k0_cond1 i = 1#1), 128 ∣ (k0_mult5 v329).toNat) ∧
  (∀ (k0_h1 : k0_cond1 i = 1#1), ∀ (r : Fin 4), ∀ a, (k0_off37 v329 (BitVec.ofNat 32 (32 * r.val))) a + S32x128.size a ≤ S896x128.size a) ∧
  (∀ (k0_h1 : k0_cond1 i = 1#1), ∀ (r : Fin 4), ∀ a, (k0_off38 v329 (BitVec.ofNat 32 (32 * r.val))) a + S32x128.size a ≤ S896x896.size a) ∧
  (∀ (k0_h1 : k0_cond1 i = 1#1), ∀ (r : Fin 4), ∀ (hinb : ∀ a, (k0_off38 v329 (BitVec.ofNat 32 (32 * r.val))) a + S32x128.size a ≤ S896x896.size a), (Rect.unit (s := S896x896) (k0_off38 v329 (BitVec.ofNat 32 (32 * r.val))) S32x128.size hinb).PackedRows (EltTy.packing .bf16))
theorem k0_mult5_dvd : ∀ (i : grid0.Coords) (v329 : BitVec 32) (k0_hw8 : k0_chk8 i v329), ∀ (k0_h1 : k0_cond1 i = 1#1), 128 ∣ (k0_mult5 v329).toNat := fun i v329 k0_hw8 k0_h1 => k0_hw8.1 k0_h1
theorem k0_off37_inb : ∀ (i : grid0.Coords) (v329 : BitVec 32) (k0_hw8 : k0_chk8 i v329), ∀ (k0_h1 : k0_cond1 i = 1#1), ∀ (r : Fin 4), ∀ a, (k0_off37 v329 (BitVec.ofNat 32 (32 * r.val))) a + S32x128.size a ≤ S896x128.size a := fun i v329 k0_hw8 k0_h1 r => k0_hw8.2.1 k0_h1 r
theorem k0_off38_inb : ∀ (i : grid0.Coords) (v329 : BitVec 32) (k0_hw8 : k0_chk8 i v329), ∀ (k0_h1 : k0_cond1 i = 1#1), ∀ (r : Fin 4), ∀ a, (k0_off38 v329 (BitVec.ofNat 32 (32 * r.val))) a + S32x128.size a ≤ S896x896.size a := fun i v329 k0_hw8 k0_h1 r => k0_hw8.2.2.1 k0_h1 r
theorem k0_off38_packedbf16 : ∀ (i : grid0.Coords) (v329 : BitVec 32) (k0_hw8 : k0_chk8 i v329), ∀ (k0_h1 : k0_cond1 i = 1#1), ∀ (r : Fin 4), (Rect.unit (s := S896x896) (k0_off38 v329 (BitVec.ofNat 32 (32 * r.val))) S32x128.size (k0_off38_inb i v329 k0_hw8 k0_h1 r)).PackedRows (EltTy.packing .bf16) := fun i v329 k0_hw8 k0_h1 r => k0_hw8.2.2.2 k0_h1 r (k0_off38_inb i v329 k0_hw8 k0_h1 r)

def k0_off39 (v81 : BitVec 32) (v83 : BitVec 32) (k0_t5 : Fin (k0_t5_loop v81 v83).trips) : Fin 4 → Nat :=
  let c0_208 : Index := 0#32
  let c1_i32_55 : BitVec 32 := 1#32
  let arg11 : BitVec 32 := Scf.iv v81 c1_i32_55 k0_t5
  let v360 : Index := Scalar.indexCast arg11
  let c1_209 : Index := 1#32
  let c0_210 : Index := 0#32
  ![0, v360.toNat, 1, 0]
def k0_off40 (v81 : BitVec 32) (v83 : BitVec 32) (k0_t5 : Fin (k0_t5_loop v81 v83).trips) : Fin 4 → Nat :=
  let c0_216 : Index := 0#32
  let c1_i32_55 : BitVec 32 := 1#32
  let arg11 : BitVec 32 := Scf.iv v81 c1_i32_55 k0_t5
  let v387 : Index := Scalar.indexCast arg11
  let c2_217 : Index := 2#32
  let c0_218 : Index := 0#32
  ![0, v387.toNat, 2, 0]
def k0_off41 (v81 : BitVec 32) (v83 : BitVec 32) (k0_t5 : Fin (k0_t5_loop v81 v83).trips) : Fin 4 → Nat :=
  let c0_224 : Index := 0#32
  let c1_i32_55 : BitVec 32 := 1#32
  let arg11 : BitVec 32 := Scf.iv v81 c1_i32_55 k0_t5
  let v414 : Index := Scalar.indexCast arg11
  let c3_225 : Index := 3#32
  let c0_226 : Index := 0#32
  ![0, v414.toNat, 3, 0]
@[reducible] def k0_t6_loop (v81 : BitVec 32) (v83 : BitVec 32) : Scf.Loop 32 :=
  let v84 : BitVec 32 := Scalar.subi v83 v81
  let c1_i32_54 : BitVec 32 := 1#32
  let v86 : BitVec 32 := Scalar.divsi v84 c1_i32_54
  let v87 : BitVec 32 := Scalar.muli v86 c1_i32_54
  let v88 : BitVec 32 := Scalar.addi v81 v87
  let v85 : BitVec 32 := Scalar.addi v81 v84
  let c1_i32_56 : BitVec 32 := 1#32
  ⟨v88, v85, c1_i32_56⟩
def k0_off42 (i : grid0.Coords) (v81 : BitVec 32) (v83 : BitVec 32) (k0_t6 : Fin (k0_t6_loop v81 v83).trips) : Fin 2 → Nat :=
  let arg0 : BitVec 32 := BitVec.ofNat 32 (i 0).val
  let v327 : Index := Scalar.indexCast arg0
  let v84 : BitVec 32 := Scalar.subi v83 v81
  let c1_i32_54 : BitVec 32 := 1#32
  let v86 : BitVec 32 := Scalar.divsi v84 c1_i32_54
  let v87 : BitVec 32 := Scalar.muli v86 c1_i32_54
  let v88 : BitVec 32 := Scalar.addi v81 v87
  let c1_i32_56 : BitVec 32 := 1#32
  let arg11 : BitVec 32 := Scf.iv v88 c1_i32_56 k0_t6
  let v328 : Index := Scalar.indexCast arg11
  ![v327.toNat, v328.toNat]
def k0_mult6 (v329 : BitVec 32) : BitVec 32 :=
  let c128_i32 : BitVec 32 := 128#32
  let v330 : BitVec 32 := Scalar.muli v329 c128_i32
  v330

def k0_off43 (v81 : BitVec 32) (v83 : BitVec 32) (k0_t6 : Fin (k0_t6_loop v81 v83).trips) : Fin 4 → Nat :=
  let c0_200 : Index := 0#32
  let v84 : BitVec 32 := Scalar.subi v83 v81
  let c1_i32_54 : BitVec 32 := 1#32
  let v86 : BitVec 32 := Scalar.divsi v84 c1_i32_54
  let v87 : BitVec 32 := Scalar.muli v86 c1_i32_54
  let v88 : BitVec 32 := Scalar.addi v81 v87
  let c1_i32_56 : BitVec 32 := 1#32
  let arg11 : BitVec 32 := Scf.iv v88 c1_i32_56 k0_t6
  let v333 : Index := Scalar.indexCast arg11
  let c0_201 : Index := 0#32
  let c0_202 : Index := 0#32
  ![0, v333.toNat, 0, 0]
def k0_off44 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off45 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c256_206 : Index := 256#32
  ![v349.toNat, 256]

def k0_chk9 (i : grid0.Coords) (v329 : BitVec 32) : Prop :=
  (∀ (k0_h1 : k0_cond1 i = 1#1), 128 ∣ (k0_mult6 v329).toNat) ∧
  (∀ (k0_h1 : k0_cond1 i = 1#1), ∀ (r : Fin 4), ∀ a, (k0_off44 v329 (BitVec.ofNat 32 (32 * r.val))) a + S32x128.size a ≤ S896x128.size a) ∧
  (∀ (k0_h1 : k0_cond1 i = 1#1), ∀ (r : Fin 4), ∀ a, (k0_off45 v329 (BitVec.ofNat 32 (32 * r.val))) a + S32x128.size a ≤ S896x896.size a) ∧
  (∀ (k0_h1 : k0_cond1 i = 1#1), ∀ (r : Fin 4), ∀ (hinb : ∀ a, (k0_off45 v329 (BitVec.ofNat 32 (32 * r.val))) a + S32x128.size a ≤ S896x896.size a), (Rect.unit (s := S896x896) (k0_off45 v329 (BitVec.ofNat 32 (32 * r.val))) S32x128.size hinb).PackedRows (EltTy.packing .bf16))
theorem k0_mult6_dvd : ∀ (i : grid0.Coords) (v329 : BitVec 32) (k0_hw9 : k0_chk9 i v329), ∀ (k0_h1 : k0_cond1 i = 1#1), 128 ∣ (k0_mult6 v329).toNat := fun i v329 k0_hw9 k0_h1 => k0_hw9.1 k0_h1
theorem k0_off44_inb : ∀ (i : grid0.Coords) (v329 : BitVec 32) (k0_hw9 : k0_chk9 i v329), ∀ (k0_h1 : k0_cond1 i = 1#1), ∀ (r : Fin 4), ∀ a, (k0_off44 v329 (BitVec.ofNat 32 (32 * r.val))) a + S32x128.size a ≤ S896x128.size a := fun i v329 k0_hw9 k0_h1 r => k0_hw9.2.1 k0_h1 r
theorem k0_off45_inb : ∀ (i : grid0.Coords) (v329 : BitVec 32) (k0_hw9 : k0_chk9 i v329), ∀ (k0_h1 : k0_cond1 i = 1#1), ∀ (r : Fin 4), ∀ a, (k0_off45 v329 (BitVec.ofNat 32 (32 * r.val))) a + S32x128.size a ≤ S896x896.size a := fun i v329 k0_hw9 k0_h1 r => k0_hw9.2.2.1 k0_h1 r
theorem k0_off45_packedbf16 : ∀ (i : grid0.Coords) (v329 : BitVec 32) (k0_hw9 : k0_chk9 i v329), ∀ (k0_h1 : k0_cond1 i = 1#1), ∀ (r : Fin 4), (Rect.unit (s := S896x896) (k0_off45 v329 (BitVec.ofNat 32 (32 * r.val))) S32x128.size (k0_off45_inb i v329 k0_hw9 k0_h1 r)).PackedRows (EltTy.packing .bf16) := fun i v329 k0_hw9 k0_h1 r => k0_hw9.2.2.2 k0_h1 r (k0_off45_inb i v329 k0_hw9 k0_h1 r)

def k0_off46 (v81 : BitVec 32) (v83 : BitVec 32) (k0_t6 : Fin (k0_t6_loop v81 v83).trips) : Fin 4 → Nat :=
  let c0_208 : Index := 0#32
  let v84 : BitVec 32 := Scalar.subi v83 v81
  let c1_i32_54 : BitVec 32 := 1#32
  let v86 : BitVec 32 := Scalar.divsi v84 c1_i32_54
  let v87 : BitVec 32 := Scalar.muli v86 c1_i32_54
  let v88 : BitVec 32 := Scalar.addi v81 v87
  let c1_i32_56 : BitVec 32 := 1#32
  let arg11 : BitVec 32 := Scf.iv v88 c1_i32_56 k0_t6
  let v360 : Index := Scalar.indexCast arg11
  let c1_209 : Index := 1#32
  let c0_210 : Index := 0#32
  ![0, v360.toNat, 1, 0]
def k0_off47 (v81 : BitVec 32) (v83 : BitVec 32) (k0_t6 : Fin (k0_t6_loop v81 v83).trips) : Fin 4 → Nat :=
  let c0_216 : Index := 0#32
  let v84 : BitVec 32 := Scalar.subi v83 v81
  let c1_i32_54 : BitVec 32 := 1#32
  let v86 : BitVec 32 := Scalar.divsi v84 c1_i32_54
  let v87 : BitVec 32 := Scalar.muli v86 c1_i32_54
  let v88 : BitVec 32 := Scalar.addi v81 v87
  let c1_i32_56 : BitVec 32 := 1#32
  let arg11 : BitVec 32 := Scf.iv v88 c1_i32_56 k0_t6
  let v387 : Index := Scalar.indexCast arg11
  let c2_217 : Index := 2#32
  let c0_218 : Index := 0#32
  ![0, v387.toNat, 2, 0]
def k0_off48 (v81 : BitVec 32) (v83 : BitVec 32) (k0_t6 : Fin (k0_t6_loop v81 v83).trips) : Fin 4 → Nat :=
  let c0_224 : Index := 0#32
  let v84 : BitVec 32 := Scalar.subi v83 v81
  let c1_i32_54 : BitVec 32 := 1#32
  let v86 : BitVec 32 := Scalar.divsi v84 c1_i32_54
  let v87 : BitVec 32 := Scalar.muli v86 c1_i32_54
  let v88 : BitVec 32 := Scalar.addi v81 v87
  let c1_i32_56 : BitVec 32 := 1#32
  let arg11 : BitVec 32 := Scf.iv v88 c1_i32_56 k0_t6
  let v414 : Index := Scalar.indexCast arg11
  let c3_225 : Index := 3#32
  let c0_226 : Index := 0#32
  ![0, v414.toNat, 3, 0]

def k0_chk7 (i : grid0.Coords) (v81 : BitVec 32) (v83 : BitVec 32) : Prop :=
  (∀ (k0_h1 : k0_cond1 i = 1#1), (k0_t5_loop v81 v83).OK) ∧
  (∀ k0_t5 : Fin (k0_t5_loop v81 v83).trips, ∀ (k0_h1 : k0_cond1 i = 1#1), ∀ a, (k0_off35 i v81 v83 k0_t5) a + S1x1.size a ≤ S2x42.size a) ∧
  (∀ k0_t5 : Fin (k0_t5_loop v81 v83).trips, ∀ (k0_h1 : k0_cond1 i = 1#1), ∀ a, (k0_off36 v81 v83 k0_t5) a + S1x1x1x128.size a ≤ S1x42x4x128.size a) ∧
  (∀ k0_t5 : Fin (k0_t5_loop v81 v83).trips, ∀ (k0_h1 : k0_cond1 i = 1#1), ∀ a, (k0_off39 v81 v83 k0_t5) a + S1x1x1x128.size a ≤ S1x42x4x128.size a) ∧
  (∀ k0_t5 : Fin (k0_t5_loop v81 v83).trips, ∀ (k0_h1 : k0_cond1 i = 1#1), ∀ a, (k0_off40 v81 v83 k0_t5) a + S1x1x1x128.size a ≤ S1x42x4x128.size a) ∧
  (∀ k0_t5 : Fin (k0_t5_loop v81 v83).trips, ∀ (k0_h1 : k0_cond1 i = 1#1), ∀ a, (k0_off41 v81 v83 k0_t5) a + S1x1x1x128.size a ≤ S1x42x4x128.size a) ∧
  (∀ (k0_h1 : k0_cond1 i = 1#1), (k0_t6_loop v81 v83).OK) ∧
  (∀ k0_t6 : Fin (k0_t6_loop v81 v83).trips, ∀ (k0_h1 : k0_cond1 i = 1#1), ∀ a, (k0_off42 i v81 v83 k0_t6) a + S1x1.size a ≤ S2x42.size a) ∧
  (∀ k0_t6 : Fin (k0_t6_loop v81 v83).trips, ∀ (k0_h1 : k0_cond1 i = 1#1), ∀ a, (k0_off43 v81 v83 k0_t6) a + S1x1x1x128.size a ≤ S1x42x4x128.size a) ∧
  (∀ k0_t6 : Fin (k0_t6_loop v81 v83).trips, ∀ (k0_h1 : k0_cond1 i = 1#1), ∀ a, (k0_off46 v81 v83 k0_t6) a + S1x1x1x128.size a ≤ S1x42x4x128.size a) ∧
  (∀ k0_t6 : Fin (k0_t6_loop v81 v83).trips, ∀ (k0_h1 : k0_cond1 i = 1#1), ∀ a, (k0_off47 v81 v83 k0_t6) a + S1x1x1x128.size a ≤ S1x42x4x128.size a) ∧
  (∀ k0_t6 : Fin (k0_t6_loop v81 v83).trips, ∀ (k0_h1 : k0_cond1 i = 1#1), ∀ a, (k0_off48 v81 v83 k0_t6) a + S1x1x1x128.size a ≤ S1x42x4x128.size a)
theorem k0_t5_ok : ∀ (i : grid0.Coords) (v81 : BitVec 32) (v83 : BitVec 32) (k0_hw7 : k0_chk7 i v81 v83), ∀ (k0_h1 : k0_cond1 i = 1#1), (k0_t5_loop v81 v83).OK := fun i v81 v83 k0_hw7 k0_h1 => k0_hw7.1 k0_h1
theorem k0_off35_inb : ∀ (i : grid0.Coords) (v81 : BitVec 32) (v83 : BitVec 32) (k0_hw7 : k0_chk7 i v81 v83) (k0_t5 : Fin (k0_t5_loop v81 v83).trips), ∀ (k0_h1 : k0_cond1 i = 1#1), ∀ a, (k0_off35 i v81 v83 k0_t5) a + S1x1.size a ≤ S2x42.size a := fun i v81 v83 k0_hw7 k0_t5 k0_h1 => k0_hw7.2.1 k0_t5 k0_h1
theorem k0_off36_inb : ∀ (i : grid0.Coords) (v81 : BitVec 32) (v83 : BitVec 32) (k0_hw7 : k0_chk7 i v81 v83) (k0_t5 : Fin (k0_t5_loop v81 v83).trips), ∀ (k0_h1 : k0_cond1 i = 1#1), ∀ a, (k0_off36 v81 v83 k0_t5) a + S1x1x1x128.size a ≤ S1x42x4x128.size a := fun i v81 v83 k0_hw7 k0_t5 k0_h1 => k0_hw7.2.2.1 k0_t5 k0_h1
theorem k0_off39_inb : ∀ (i : grid0.Coords) (v81 : BitVec 32) (v83 : BitVec 32) (k0_hw7 : k0_chk7 i v81 v83) (k0_t5 : Fin (k0_t5_loop v81 v83).trips), ∀ (k0_h1 : k0_cond1 i = 1#1), ∀ a, (k0_off39 v81 v83 k0_t5) a + S1x1x1x128.size a ≤ S1x42x4x128.size a := fun i v81 v83 k0_hw7 k0_t5 k0_h1 => k0_hw7.2.2.2.1 k0_t5 k0_h1
theorem k0_off40_inb : ∀ (i : grid0.Coords) (v81 : BitVec 32) (v83 : BitVec 32) (k0_hw7 : k0_chk7 i v81 v83) (k0_t5 : Fin (k0_t5_loop v81 v83).trips), ∀ (k0_h1 : k0_cond1 i = 1#1), ∀ a, (k0_off40 v81 v83 k0_t5) a + S1x1x1x128.size a ≤ S1x42x4x128.size a := fun i v81 v83 k0_hw7 k0_t5 k0_h1 => k0_hw7.2.2.2.2.1 k0_t5 k0_h1
theorem k0_off41_inb : ∀ (i : grid0.Coords) (v81 : BitVec 32) (v83 : BitVec 32) (k0_hw7 : k0_chk7 i v81 v83) (k0_t5 : Fin (k0_t5_loop v81 v83).trips), ∀ (k0_h1 : k0_cond1 i = 1#1), ∀ a, (k0_off41 v81 v83 k0_t5) a + S1x1x1x128.size a ≤ S1x42x4x128.size a := fun i v81 v83 k0_hw7 k0_t5 k0_h1 => k0_hw7.2.2.2.2.2.1 k0_t5 k0_h1
theorem k0_t6_ok : ∀ (i : grid0.Coords) (v81 : BitVec 32) (v83 : BitVec 32) (k0_hw7 : k0_chk7 i v81 v83), ∀ (k0_h1 : k0_cond1 i = 1#1), (k0_t6_loop v81 v83).OK := fun i v81 v83 k0_hw7 k0_h1 => k0_hw7.2.2.2.2.2.2.1 k0_h1
theorem k0_off42_inb : ∀ (i : grid0.Coords) (v81 : BitVec 32) (v83 : BitVec 32) (k0_hw7 : k0_chk7 i v81 v83) (k0_t6 : Fin (k0_t6_loop v81 v83).trips), ∀ (k0_h1 : k0_cond1 i = 1#1), ∀ a, (k0_off42 i v81 v83 k0_t6) a + S1x1.size a ≤ S2x42.size a := fun i v81 v83 k0_hw7 k0_t6 k0_h1 => k0_hw7.2.2.2.2.2.2.2.1 k0_t6 k0_h1
theorem k0_off43_inb : ∀ (i : grid0.Coords) (v81 : BitVec 32) (v83 : BitVec 32) (k0_hw7 : k0_chk7 i v81 v83) (k0_t6 : Fin (k0_t6_loop v81 v83).trips), ∀ (k0_h1 : k0_cond1 i = 1#1), ∀ a, (k0_off43 v81 v83 k0_t6) a + S1x1x1x128.size a ≤ S1x42x4x128.size a := fun i v81 v83 k0_hw7 k0_t6 k0_h1 => k0_hw7.2.2.2.2.2.2.2.2.1 k0_t6 k0_h1
theorem k0_off46_inb : ∀ (i : grid0.Coords) (v81 : BitVec 32) (v83 : BitVec 32) (k0_hw7 : k0_chk7 i v81 v83) (k0_t6 : Fin (k0_t6_loop v81 v83).trips), ∀ (k0_h1 : k0_cond1 i = 1#1), ∀ a, (k0_off46 v81 v83 k0_t6) a + S1x1x1x128.size a ≤ S1x42x4x128.size a := fun i v81 v83 k0_hw7 k0_t6 k0_h1 => k0_hw7.2.2.2.2.2.2.2.2.2.1 k0_t6 k0_h1
theorem k0_off47_inb : ∀ (i : grid0.Coords) (v81 : BitVec 32) (v83 : BitVec 32) (k0_hw7 : k0_chk7 i v81 v83) (k0_t6 : Fin (k0_t6_loop v81 v83).trips), ∀ (k0_h1 : k0_cond1 i = 1#1), ∀ a, (k0_off47 v81 v83 k0_t6) a + S1x1x1x128.size a ≤ S1x42x4x128.size a := fun i v81 v83 k0_hw7 k0_t6 k0_h1 => k0_hw7.2.2.2.2.2.2.2.2.2.2.1 k0_t6 k0_h1
theorem k0_off48_inb : ∀ (i : grid0.Coords) (v81 : BitVec 32) (v83 : BitVec 32) (k0_hw7 : k0_chk7 i v81 v83) (k0_t6 : Fin (k0_t6_loop v81 v83).trips), ∀ (k0_h1 : k0_cond1 i = 1#1), ∀ a, (k0_off48 v81 v83 k0_t6) a + S1x1x1x128.size a ≤ S1x42x4x128.size a := fun i v81 v83 k0_hw7 k0_t6 k0_h1 => k0_hw7.2.2.2.2.2.2.2.2.2.2.2 k0_t6 k0_h1

def k0_off49 (i : grid0.Coords) : Fin 2 → Nat :=
  let arg0 : BitVec 32 := BitVec.ofNat 32 (i 0).val
  let v95 : Index := Scalar.indexCast arg0
  let c3_62 : Index := 3#32
  ![v95.toNat, 3]
def k0_off50 (i : grid0.Coords) : Fin 2 → Nat :=
  let arg0 : BitVec 32 := BitVec.ofNat 32 (i 0).val
  let v97 : Index := Scalar.indexCast arg0
  let c4 : Index := 4#32
  ![v97.toNat, 4]
@[reducible] def k0_t7_loop (v96 : BitVec 32) (v98 : BitVec 32) : Scf.Loop 32 :=
  let v99 : BitVec 32 := Scalar.subi v98 v96
  let c1_i32_64 : BitVec 32 := 1#32
  let v101 : BitVec 32 := Scalar.divsi v99 c1_i32_64
  let v102 : BitVec 32 := Scalar.muli v101 c1_i32_64
  let v103 : BitVec 32 := Scalar.addi v96 v102
  let c1_i32_65 : BitVec 32 := 1#32
  ⟨v96, v103, c1_i32_65⟩

def k0_off51 (i : grid0.Coords) (v96 : BitVec 32) (v98 : BitVec 32) (k0_t7 : Fin (k0_t7_loop v96 v98).trips) : Fin 2 → Nat :=
  let arg0 : BitVec 32 := BitVec.ofNat 32 (i 0).val
  let v327 : Index := Scalar.indexCast arg0
  let c1_i32_65 : BitVec 32 := 1#32
  let arg11 : BitVec 32 := Scf.iv v96 c1_i32_65 k0_t7
  let v328 : Index := Scalar.indexCast arg11
  ![v327.toNat, v328.toNat]
def k0_mult7 (v329 : BitVec 32) : BitVec 32 :=
  let c128_i32 : BitVec 32 := 128#32
  let v330 : BitVec 32 := Scalar.muli v329 c128_i32
  v330

def k0_off52 (v96 : BitVec 32) (v98 : BitVec 32) (k0_t7 : Fin (k0_t7_loop v96 v98).trips) : Fin 4 → Nat :=
  let c0_200 : Index := 0#32
  let c1_i32_65 : BitVec 32 := 1#32
  let arg11 : BitVec 32 := Scf.iv v96 c1_i32_65 k0_t7
  let v333 : Index := Scalar.indexCast arg11
  let c0_201 : Index := 0#32
  let c0_202 : Index := 0#32
  ![0, v333.toNat, 0, 0]
def k0_off53 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off54 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c384_206 : Index := 384#32
  ![v349.toNat, 384]

def k0_chk11 (i : grid0.Coords) (v329 : BitVec 32) : Prop :=
  (∀ (k0_h1 : k0_cond1 i = 1#1), 128 ∣ (k0_mult7 v329).toNat) ∧
  (∀ (k0_h1 : k0_cond1 i = 1#1), ∀ (r : Fin 4), ∀ a, (k0_off53 v329 (BitVec.ofNat 32 (32 * r.val))) a + S32x128.size a ≤ S896x128.size a) ∧
  (∀ (k0_h1 : k0_cond1 i = 1#1), ∀ (r : Fin 4), ∀ a, (k0_off54 v329 (BitVec.ofNat 32 (32 * r.val))) a + S32x128.size a ≤ S896x896.size a) ∧
  (∀ (k0_h1 : k0_cond1 i = 1#1), ∀ (r : Fin 4), ∀ (hinb : ∀ a, (k0_off54 v329 (BitVec.ofNat 32 (32 * r.val))) a + S32x128.size a ≤ S896x896.size a), (Rect.unit (s := S896x896) (k0_off54 v329 (BitVec.ofNat 32 (32 * r.val))) S32x128.size hinb).PackedRows (EltTy.packing .bf16))
theorem k0_mult7_dvd : ∀ (i : grid0.Coords) (v329 : BitVec 32) (k0_hw11 : k0_chk11 i v329), ∀ (k0_h1 : k0_cond1 i = 1#1), 128 ∣ (k0_mult7 v329).toNat := fun i v329 k0_hw11 k0_h1 => k0_hw11.1 k0_h1
theorem k0_off53_inb : ∀ (i : grid0.Coords) (v329 : BitVec 32) (k0_hw11 : k0_chk11 i v329), ∀ (k0_h1 : k0_cond1 i = 1#1), ∀ (r : Fin 4), ∀ a, (k0_off53 v329 (BitVec.ofNat 32 (32 * r.val))) a + S32x128.size a ≤ S896x128.size a := fun i v329 k0_hw11 k0_h1 r => k0_hw11.2.1 k0_h1 r
theorem k0_off54_inb : ∀ (i : grid0.Coords) (v329 : BitVec 32) (k0_hw11 : k0_chk11 i v329), ∀ (k0_h1 : k0_cond1 i = 1#1), ∀ (r : Fin 4), ∀ a, (k0_off54 v329 (BitVec.ofNat 32 (32 * r.val))) a + S32x128.size a ≤ S896x896.size a := fun i v329 k0_hw11 k0_h1 r => k0_hw11.2.2.1 k0_h1 r
theorem k0_off54_packedbf16 : ∀ (i : grid0.Coords) (v329 : BitVec 32) (k0_hw11 : k0_chk11 i v329), ∀ (k0_h1 : k0_cond1 i = 1#1), ∀ (r : Fin 4), (Rect.unit (s := S896x896) (k0_off54 v329 (BitVec.ofNat 32 (32 * r.val))) S32x128.size (k0_off54_inb i v329 k0_hw11 k0_h1 r)).PackedRows (EltTy.packing .bf16) := fun i v329 k0_hw11 k0_h1 r => k0_hw11.2.2.2 k0_h1 r (k0_off54_inb i v329 k0_hw11 k0_h1 r)

def k0_off55 (v96 : BitVec 32) (v98 : BitVec 32) (k0_t7 : Fin (k0_t7_loop v96 v98).trips) : Fin 4 → Nat :=
  let c0_208 : Index := 0#32
  let c1_i32_65 : BitVec 32 := 1#32
  let arg11 : BitVec 32 := Scf.iv v96 c1_i32_65 k0_t7
  let v360 : Index := Scalar.indexCast arg11
  let c1_209 : Index := 1#32
  let c0_210 : Index := 0#32
  ![0, v360.toNat, 1, 0]
def k0_off56 (v96 : BitVec 32) (v98 : BitVec 32) (k0_t7 : Fin (k0_t7_loop v96 v98).trips) : Fin 4 → Nat :=
  let c0_216 : Index := 0#32
  let c1_i32_65 : BitVec 32 := 1#32
  let arg11 : BitVec 32 := Scf.iv v96 c1_i32_65 k0_t7
  let v387 : Index := Scalar.indexCast arg11
  let c2_217 : Index := 2#32
  let c0_218 : Index := 0#32
  ![0, v387.toNat, 2, 0]
def k0_off57 (v96 : BitVec 32) (v98 : BitVec 32) (k0_t7 : Fin (k0_t7_loop v96 v98).trips) : Fin 4 → Nat :=
  let c0_224 : Index := 0#32
  let c1_i32_65 : BitVec 32 := 1#32
  let arg11 : BitVec 32 := Scf.iv v96 c1_i32_65 k0_t7
  let v414 : Index := Scalar.indexCast arg11
  let c3_225 : Index := 3#32
  let c0_226 : Index := 0#32
  ![0, v414.toNat, 3, 0]
@[reducible] def k0_t8_loop (v96 : BitVec 32) (v98 : BitVec 32) : Scf.Loop 32 :=
  let v99 : BitVec 32 := Scalar.subi v98 v96
  let c1_i32_64 : BitVec 32 := 1#32
  let v101 : BitVec 32 := Scalar.divsi v99 c1_i32_64
  let v102 : BitVec 32 := Scalar.muli v101 c1_i32_64
  let v103 : BitVec 32 := Scalar.addi v96 v102
  let v100 : BitVec 32 := Scalar.addi v96 v99
  let c1_i32_66 : BitVec 32 := 1#32
  ⟨v103, v100, c1_i32_66⟩
def k0_off58 (i : grid0.Coords) (v96 : BitVec 32) (v98 : BitVec 32) (k0_t8 : Fin (k0_t8_loop v96 v98).trips) : Fin 2 → Nat :=
  let arg0 : BitVec 32 := BitVec.ofNat 32 (i 0).val
  let v327 : Index := Scalar.indexCast arg0
  let v99 : BitVec 32 := Scalar.subi v98 v96
  let c1_i32_64 : BitVec 32 := 1#32
  let v101 : BitVec 32 := Scalar.divsi v99 c1_i32_64
  let v102 : BitVec 32 := Scalar.muli v101 c1_i32_64
  let v103 : BitVec 32 := Scalar.addi v96 v102
  let c1_i32_66 : BitVec 32 := 1#32
  let arg11 : BitVec 32 := Scf.iv v103 c1_i32_66 k0_t8
  let v328 : Index := Scalar.indexCast arg11
  ![v327.toNat, v328.toNat]
def k0_mult8 (v329 : BitVec 32) : BitVec 32 :=
  let c128_i32 : BitVec 32 := 128#32
  let v330 : BitVec 32 := Scalar.muli v329 c128_i32
  v330

def k0_off59 (v96 : BitVec 32) (v98 : BitVec 32) (k0_t8 : Fin (k0_t8_loop v96 v98).trips) : Fin 4 → Nat :=
  let c0_200 : Index := 0#32
  let v99 : BitVec 32 := Scalar.subi v98 v96
  let c1_i32_64 : BitVec 32 := 1#32
  let v101 : BitVec 32 := Scalar.divsi v99 c1_i32_64
  let v102 : BitVec 32 := Scalar.muli v101 c1_i32_64
  let v103 : BitVec 32 := Scalar.addi v96 v102
  let c1_i32_66 : BitVec 32 := 1#32
  let arg11 : BitVec 32 := Scf.iv v103 c1_i32_66 k0_t8
  let v333 : Index := Scalar.indexCast arg11
  let c0_201 : Index := 0#32
  let c0_202 : Index := 0#32
  ![0, v333.toNat, 0, 0]
def k0_off60 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off61 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c384_206 : Index := 384#32
  ![v349.toNat, 384]

def k0_chk12 (i : grid0.Coords) (v329 : BitVec 32) : Prop :=
  (∀ (k0_h1 : k0_cond1 i = 1#1), 128 ∣ (k0_mult8 v329).toNat) ∧
  (∀ (k0_h1 : k0_cond1 i = 1#1), ∀ (r : Fin 4), ∀ a, (k0_off60 v329 (BitVec.ofNat 32 (32 * r.val))) a + S32x128.size a ≤ S896x128.size a) ∧
  (∀ (k0_h1 : k0_cond1 i = 1#1), ∀ (r : Fin 4), ∀ a, (k0_off61 v329 (BitVec.ofNat 32 (32 * r.val))) a + S32x128.size a ≤ S896x896.size a) ∧
  (∀ (k0_h1 : k0_cond1 i = 1#1), ∀ (r : Fin 4), ∀ (hinb : ∀ a, (k0_off61 v329 (BitVec.ofNat 32 (32 * r.val))) a + S32x128.size a ≤ S896x896.size a), (Rect.unit (s := S896x896) (k0_off61 v329 (BitVec.ofNat 32 (32 * r.val))) S32x128.size hinb).PackedRows (EltTy.packing .bf16))
theorem k0_mult8_dvd : ∀ (i : grid0.Coords) (v329 : BitVec 32) (k0_hw12 : k0_chk12 i v329), ∀ (k0_h1 : k0_cond1 i = 1#1), 128 ∣ (k0_mult8 v329).toNat := fun i v329 k0_hw12 k0_h1 => k0_hw12.1 k0_h1
theorem k0_off60_inb : ∀ (i : grid0.Coords) (v329 : BitVec 32) (k0_hw12 : k0_chk12 i v329), ∀ (k0_h1 : k0_cond1 i = 1#1), ∀ (r : Fin 4), ∀ a, (k0_off60 v329 (BitVec.ofNat 32 (32 * r.val))) a + S32x128.size a ≤ S896x128.size a := fun i v329 k0_hw12 k0_h1 r => k0_hw12.2.1 k0_h1 r
theorem k0_off61_inb : ∀ (i : grid0.Coords) (v329 : BitVec 32) (k0_hw12 : k0_chk12 i v329), ∀ (k0_h1 : k0_cond1 i = 1#1), ∀ (r : Fin 4), ∀ a, (k0_off61 v329 (BitVec.ofNat 32 (32 * r.val))) a + S32x128.size a ≤ S896x896.size a := fun i v329 k0_hw12 k0_h1 r => k0_hw12.2.2.1 k0_h1 r
theorem k0_off61_packedbf16 : ∀ (i : grid0.Coords) (v329 : BitVec 32) (k0_hw12 : k0_chk12 i v329), ∀ (k0_h1 : k0_cond1 i = 1#1), ∀ (r : Fin 4), (Rect.unit (s := S896x896) (k0_off61 v329 (BitVec.ofNat 32 (32 * r.val))) S32x128.size (k0_off61_inb i v329 k0_hw12 k0_h1 r)).PackedRows (EltTy.packing .bf16) := fun i v329 k0_hw12 k0_h1 r => k0_hw12.2.2.2 k0_h1 r (k0_off61_inb i v329 k0_hw12 k0_h1 r)

def k0_off62 (v96 : BitVec 32) (v98 : BitVec 32) (k0_t8 : Fin (k0_t8_loop v96 v98).trips) : Fin 4 → Nat :=
  let c0_208 : Index := 0#32
  let v99 : BitVec 32 := Scalar.subi v98 v96
  let c1_i32_64 : BitVec 32 := 1#32
  let v101 : BitVec 32 := Scalar.divsi v99 c1_i32_64
  let v102 : BitVec 32 := Scalar.muli v101 c1_i32_64
  let v103 : BitVec 32 := Scalar.addi v96 v102
  let c1_i32_66 : BitVec 32 := 1#32
  let arg11 : BitVec 32 := Scf.iv v103 c1_i32_66 k0_t8
  let v360 : Index := Scalar.indexCast arg11
  let c1_209 : Index := 1#32
  let c0_210 : Index := 0#32
  ![0, v360.toNat, 1, 0]
def k0_off63 (v96 : BitVec 32) (v98 : BitVec 32) (k0_t8 : Fin (k0_t8_loop v96 v98).trips) : Fin 4 → Nat :=
  let c0_216 : Index := 0#32
  let v99 : BitVec 32 := Scalar.subi v98 v96
  let c1_i32_64 : BitVec 32 := 1#32
  let v101 : BitVec 32 := Scalar.divsi v99 c1_i32_64
  let v102 : BitVec 32 := Scalar.muli v101 c1_i32_64
  let v103 : BitVec 32 := Scalar.addi v96 v102
  let c1_i32_66 : BitVec 32 := 1#32
  let arg11 : BitVec 32 := Scf.iv v103 c1_i32_66 k0_t8
  let v387 : Index := Scalar.indexCast arg11
  let c2_217 : Index := 2#32
  let c0_218 : Index := 0#32
  ![0, v387.toNat, 2, 0]
def k0_off64 (v96 : BitVec 32) (v98 : BitVec 32) (k0_t8 : Fin (k0_t8_loop v96 v98).trips) : Fin 4 → Nat :=
  let c0_224 : Index := 0#32
  let v99 : BitVec 32 := Scalar.subi v98 v96
  let c1_i32_64 : BitVec 32 := 1#32
  let v101 : BitVec 32 := Scalar.divsi v99 c1_i32_64
  let v102 : BitVec 32 := Scalar.muli v101 c1_i32_64
  let v103 : BitVec 32 := Scalar.addi v96 v102
  let c1_i32_66 : BitVec 32 := 1#32
  let arg11 : BitVec 32 := Scf.iv v103 c1_i32_66 k0_t8
  let v414 : Index := Scalar.indexCast arg11
  let c3_225 : Index := 3#32
  let c0_226 : Index := 0#32
  ![0, v414.toNat, 3, 0]

def k0_chk10 (i : grid0.Coords) (v96 : BitVec 32) (v98 : BitVec 32) : Prop :=
  (∀ (k0_h1 : k0_cond1 i = 1#1), (k0_t7_loop v96 v98).OK) ∧
  (∀ k0_t7 : Fin (k0_t7_loop v96 v98).trips, ∀ (k0_h1 : k0_cond1 i = 1#1), ∀ a, (k0_off51 i v96 v98 k0_t7) a + S1x1.size a ≤ S2x42.size a) ∧
  (∀ k0_t7 : Fin (k0_t7_loop v96 v98).trips, ∀ (k0_h1 : k0_cond1 i = 1#1), ∀ a, (k0_off52 v96 v98 k0_t7) a + S1x1x1x128.size a ≤ S1x42x4x128.size a) ∧
  (∀ k0_t7 : Fin (k0_t7_loop v96 v98).trips, ∀ (k0_h1 : k0_cond1 i = 1#1), ∀ a, (k0_off55 v96 v98 k0_t7) a + S1x1x1x128.size a ≤ S1x42x4x128.size a) ∧
  (∀ k0_t7 : Fin (k0_t7_loop v96 v98).trips, ∀ (k0_h1 : k0_cond1 i = 1#1), ∀ a, (k0_off56 v96 v98 k0_t7) a + S1x1x1x128.size a ≤ S1x42x4x128.size a) ∧
  (∀ k0_t7 : Fin (k0_t7_loop v96 v98).trips, ∀ (k0_h1 : k0_cond1 i = 1#1), ∀ a, (k0_off57 v96 v98 k0_t7) a + S1x1x1x128.size a ≤ S1x42x4x128.size a) ∧
  (∀ (k0_h1 : k0_cond1 i = 1#1), (k0_t8_loop v96 v98).OK) ∧
  (∀ k0_t8 : Fin (k0_t8_loop v96 v98).trips, ∀ (k0_h1 : k0_cond1 i = 1#1), ∀ a, (k0_off58 i v96 v98 k0_t8) a + S1x1.size a ≤ S2x42.size a) ∧
  (∀ k0_t8 : Fin (k0_t8_loop v96 v98).trips, ∀ (k0_h1 : k0_cond1 i = 1#1), ∀ a, (k0_off59 v96 v98 k0_t8) a + S1x1x1x128.size a ≤ S1x42x4x128.size a) ∧
  (∀ k0_t8 : Fin (k0_t8_loop v96 v98).trips, ∀ (k0_h1 : k0_cond1 i = 1#1), ∀ a, (k0_off62 v96 v98 k0_t8) a + S1x1x1x128.size a ≤ S1x42x4x128.size a) ∧
  (∀ k0_t8 : Fin (k0_t8_loop v96 v98).trips, ∀ (k0_h1 : k0_cond1 i = 1#1), ∀ a, (k0_off63 v96 v98 k0_t8) a + S1x1x1x128.size a ≤ S1x42x4x128.size a) ∧
  (∀ k0_t8 : Fin (k0_t8_loop v96 v98).trips, ∀ (k0_h1 : k0_cond1 i = 1#1), ∀ a, (k0_off64 v96 v98 k0_t8) a + S1x1x1x128.size a ≤ S1x42x4x128.size a)
theorem k0_t7_ok : ∀ (i : grid0.Coords) (v96 : BitVec 32) (v98 : BitVec 32) (k0_hw10 : k0_chk10 i v96 v98), ∀ (k0_h1 : k0_cond1 i = 1#1), (k0_t7_loop v96 v98).OK := fun i v96 v98 k0_hw10 k0_h1 => k0_hw10.1 k0_h1
theorem k0_off51_inb : ∀ (i : grid0.Coords) (v96 : BitVec 32) (v98 : BitVec 32) (k0_hw10 : k0_chk10 i v96 v98) (k0_t7 : Fin (k0_t7_loop v96 v98).trips), ∀ (k0_h1 : k0_cond1 i = 1#1), ∀ a, (k0_off51 i v96 v98 k0_t7) a + S1x1.size a ≤ S2x42.size a := fun i v96 v98 k0_hw10 k0_t7 k0_h1 => k0_hw10.2.1 k0_t7 k0_h1
theorem k0_off52_inb : ∀ (i : grid0.Coords) (v96 : BitVec 32) (v98 : BitVec 32) (k0_hw10 : k0_chk10 i v96 v98) (k0_t7 : Fin (k0_t7_loop v96 v98).trips), ∀ (k0_h1 : k0_cond1 i = 1#1), ∀ a, (k0_off52 v96 v98 k0_t7) a + S1x1x1x128.size a ≤ S1x42x4x128.size a := fun i v96 v98 k0_hw10 k0_t7 k0_h1 => k0_hw10.2.2.1 k0_t7 k0_h1
theorem k0_off55_inb : ∀ (i : grid0.Coords) (v96 : BitVec 32) (v98 : BitVec 32) (k0_hw10 : k0_chk10 i v96 v98) (k0_t7 : Fin (k0_t7_loop v96 v98).trips), ∀ (k0_h1 : k0_cond1 i = 1#1), ∀ a, (k0_off55 v96 v98 k0_t7) a + S1x1x1x128.size a ≤ S1x42x4x128.size a := fun i v96 v98 k0_hw10 k0_t7 k0_h1 => k0_hw10.2.2.2.1 k0_t7 k0_h1
theorem k0_off56_inb : ∀ (i : grid0.Coords) (v96 : BitVec 32) (v98 : BitVec 32) (k0_hw10 : k0_chk10 i v96 v98) (k0_t7 : Fin (k0_t7_loop v96 v98).trips), ∀ (k0_h1 : k0_cond1 i = 1#1), ∀ a, (k0_off56 v96 v98 k0_t7) a + S1x1x1x128.size a ≤ S1x42x4x128.size a := fun i v96 v98 k0_hw10 k0_t7 k0_h1 => k0_hw10.2.2.2.2.1 k0_t7 k0_h1
theorem k0_off57_inb : ∀ (i : grid0.Coords) (v96 : BitVec 32) (v98 : BitVec 32) (k0_hw10 : k0_chk10 i v96 v98) (k0_t7 : Fin (k0_t7_loop v96 v98).trips), ∀ (k0_h1 : k0_cond1 i = 1#1), ∀ a, (k0_off57 v96 v98 k0_t7) a + S1x1x1x128.size a ≤ S1x42x4x128.size a := fun i v96 v98 k0_hw10 k0_t7 k0_h1 => k0_hw10.2.2.2.2.2.1 k0_t7 k0_h1
theorem k0_t8_ok : ∀ (i : grid0.Coords) (v96 : BitVec 32) (v98 : BitVec 32) (k0_hw10 : k0_chk10 i v96 v98), ∀ (k0_h1 : k0_cond1 i = 1#1), (k0_t8_loop v96 v98).OK := fun i v96 v98 k0_hw10 k0_h1 => k0_hw10.2.2.2.2.2.2.1 k0_h1
theorem k0_off58_inb : ∀ (i : grid0.Coords) (v96 : BitVec 32) (v98 : BitVec 32) (k0_hw10 : k0_chk10 i v96 v98) (k0_t8 : Fin (k0_t8_loop v96 v98).trips), ∀ (k0_h1 : k0_cond1 i = 1#1), ∀ a, (k0_off58 i v96 v98 k0_t8) a + S1x1.size a ≤ S2x42.size a := fun i v96 v98 k0_hw10 k0_t8 k0_h1 => k0_hw10.2.2.2.2.2.2.2.1 k0_t8 k0_h1
theorem k0_off59_inb : ∀ (i : grid0.Coords) (v96 : BitVec 32) (v98 : BitVec 32) (k0_hw10 : k0_chk10 i v96 v98) (k0_t8 : Fin (k0_t8_loop v96 v98).trips), ∀ (k0_h1 : k0_cond1 i = 1#1), ∀ a, (k0_off59 v96 v98 k0_t8) a + S1x1x1x128.size a ≤ S1x42x4x128.size a := fun i v96 v98 k0_hw10 k0_t8 k0_h1 => k0_hw10.2.2.2.2.2.2.2.2.1 k0_t8 k0_h1
theorem k0_off62_inb : ∀ (i : grid0.Coords) (v96 : BitVec 32) (v98 : BitVec 32) (k0_hw10 : k0_chk10 i v96 v98) (k0_t8 : Fin (k0_t8_loop v96 v98).trips), ∀ (k0_h1 : k0_cond1 i = 1#1), ∀ a, (k0_off62 v96 v98 k0_t8) a + S1x1x1x128.size a ≤ S1x42x4x128.size a := fun i v96 v98 k0_hw10 k0_t8 k0_h1 => k0_hw10.2.2.2.2.2.2.2.2.2.1 k0_t8 k0_h1
theorem k0_off63_inb : ∀ (i : grid0.Coords) (v96 : BitVec 32) (v98 : BitVec 32) (k0_hw10 : k0_chk10 i v96 v98) (k0_t8 : Fin (k0_t8_loop v96 v98).trips), ∀ (k0_h1 : k0_cond1 i = 1#1), ∀ a, (k0_off63 v96 v98 k0_t8) a + S1x1x1x128.size a ≤ S1x42x4x128.size a := fun i v96 v98 k0_hw10 k0_t8 k0_h1 => k0_hw10.2.2.2.2.2.2.2.2.2.2.1 k0_t8 k0_h1
theorem k0_off64_inb : ∀ (i : grid0.Coords) (v96 : BitVec 32) (v98 : BitVec 32) (k0_hw10 : k0_chk10 i v96 v98) (k0_t8 : Fin (k0_t8_loop v96 v98).trips), ∀ (k0_h1 : k0_cond1 i = 1#1), ∀ a, (k0_off64 v96 v98 k0_t8) a + S1x1x1x128.size a ≤ S1x42x4x128.size a := fun i v96 v98 k0_hw10 k0_t8 k0_h1 => k0_hw10.2.2.2.2.2.2.2.2.2.2.2 k0_t8 k0_h1

def k0_off65 (i : grid0.Coords) : Fin 2 → Nat :=
  let arg0 : BitVec 32 := BitVec.ofNat 32 (i 0).val
  let v110 : Index := Scalar.indexCast arg0
  let c4_71 : Index := 4#32
  ![v110.toNat, 4]
def k0_off66 (i : grid0.Coords) : Fin 2 → Nat :=
  let arg0 : BitVec 32 := BitVec.ofNat 32 (i 0).val
  let v112 : Index := Scalar.indexCast arg0
  let c5 : Index := 5#32
  ![v112.toNat, 5]
@[reducible] def k0_t9_loop (v111 : BitVec 32) (v113 : BitVec 32) : Scf.Loop 32 :=
  let v114 : BitVec 32 := Scalar.subi v113 v111
  let c1_i32_73 : BitVec 32 := 1#32
  let v116 : BitVec 32 := Scalar.divsi v114 c1_i32_73
  let v117 : BitVec 32 := Scalar.muli v116 c1_i32_73
  let v118 : BitVec 32 := Scalar.addi v111 v117
  let c1_i32_74 : BitVec 32 := 1#32
  ⟨v111, v118, c1_i32_74⟩

def k0_off67 (i : grid0.Coords) (v111 : BitVec 32) (v113 : BitVec 32) (k0_t9 : Fin (k0_t9_loop v111 v113).trips) : Fin 2 → Nat :=
  let arg0 : BitVec 32 := BitVec.ofNat 32 (i 0).val
  let v327 : Index := Scalar.indexCast arg0
  let c1_i32_74 : BitVec 32 := 1#32
  let arg11 : BitVec 32 := Scf.iv v111 c1_i32_74 k0_t9
  let v328 : Index := Scalar.indexCast arg11
  ![v327.toNat, v328.toNat]
def k0_mult9 (v329 : BitVec 32) : BitVec 32 :=
  let c128_i32 : BitVec 32 := 128#32
  let v330 : BitVec 32 := Scalar.muli v329 c128_i32
  v330

def k0_off68 (v111 : BitVec 32) (v113 : BitVec 32) (k0_t9 : Fin (k0_t9_loop v111 v113).trips) : Fin 4 → Nat :=
  let c0_200 : Index := 0#32
  let c1_i32_74 : BitVec 32 := 1#32
  let arg11 : BitVec 32 := Scf.iv v111 c1_i32_74 k0_t9
  let v333 : Index := Scalar.indexCast arg11
  let c0_201 : Index := 0#32
  let c0_202 : Index := 0#32
  ![0, v333.toNat, 0, 0]
def k0_off69 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off70 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c512_206 : Index := 512#32
  ![v349.toNat, 512]

def k0_chk14 (i : grid0.Coords) (v329 : BitVec 32) : Prop :=
  (∀ (k0_h1 : k0_cond1 i = 1#1), 128 ∣ (k0_mult9 v329).toNat) ∧
  (∀ (k0_h1 : k0_cond1 i = 1#1), ∀ (r : Fin 4), ∀ a, (k0_off69 v329 (BitVec.ofNat 32 (32 * r.val))) a + S32x128.size a ≤ S896x128.size a) ∧
  (∀ (k0_h1 : k0_cond1 i = 1#1), ∀ (r : Fin 4), ∀ a, (k0_off70 v329 (BitVec.ofNat 32 (32 * r.val))) a + S32x128.size a ≤ S896x896.size a) ∧
  (∀ (k0_h1 : k0_cond1 i = 1#1), ∀ (r : Fin 4), ∀ (hinb : ∀ a, (k0_off70 v329 (BitVec.ofNat 32 (32 * r.val))) a + S32x128.size a ≤ S896x896.size a), (Rect.unit (s := S896x896) (k0_off70 v329 (BitVec.ofNat 32 (32 * r.val))) S32x128.size hinb).PackedRows (EltTy.packing .bf16))
theorem k0_mult9_dvd : ∀ (i : grid0.Coords) (v329 : BitVec 32) (k0_hw14 : k0_chk14 i v329), ∀ (k0_h1 : k0_cond1 i = 1#1), 128 ∣ (k0_mult9 v329).toNat := fun i v329 k0_hw14 k0_h1 => k0_hw14.1 k0_h1
theorem k0_off69_inb : ∀ (i : grid0.Coords) (v329 : BitVec 32) (k0_hw14 : k0_chk14 i v329), ∀ (k0_h1 : k0_cond1 i = 1#1), ∀ (r : Fin 4), ∀ a, (k0_off69 v329 (BitVec.ofNat 32 (32 * r.val))) a + S32x128.size a ≤ S896x128.size a := fun i v329 k0_hw14 k0_h1 r => k0_hw14.2.1 k0_h1 r
theorem k0_off70_inb : ∀ (i : grid0.Coords) (v329 : BitVec 32) (k0_hw14 : k0_chk14 i v329), ∀ (k0_h1 : k0_cond1 i = 1#1), ∀ (r : Fin 4), ∀ a, (k0_off70 v329 (BitVec.ofNat 32 (32 * r.val))) a + S32x128.size a ≤ S896x896.size a := fun i v329 k0_hw14 k0_h1 r => k0_hw14.2.2.1 k0_h1 r
theorem k0_off70_packedbf16 : ∀ (i : grid0.Coords) (v329 : BitVec 32) (k0_hw14 : k0_chk14 i v329), ∀ (k0_h1 : k0_cond1 i = 1#1), ∀ (r : Fin 4), (Rect.unit (s := S896x896) (k0_off70 v329 (BitVec.ofNat 32 (32 * r.val))) S32x128.size (k0_off70_inb i v329 k0_hw14 k0_h1 r)).PackedRows (EltTy.packing .bf16) := fun i v329 k0_hw14 k0_h1 r => k0_hw14.2.2.2 k0_h1 r (k0_off70_inb i v329 k0_hw14 k0_h1 r)

def k0_off71 (v111 : BitVec 32) (v113 : BitVec 32) (k0_t9 : Fin (k0_t9_loop v111 v113).trips) : Fin 4 → Nat :=
  let c0_208 : Index := 0#32
  let c1_i32_74 : BitVec 32 := 1#32
  let arg11 : BitVec 32 := Scf.iv v111 c1_i32_74 k0_t9
  let v360 : Index := Scalar.indexCast arg11
  let c1_209 : Index := 1#32
  let c0_210 : Index := 0#32
  ![0, v360.toNat, 1, 0]
def k0_off72 (v111 : BitVec 32) (v113 : BitVec 32) (k0_t9 : Fin (k0_t9_loop v111 v113).trips) : Fin 4 → Nat :=
  let c0_216 : Index := 0#32
  let c1_i32_74 : BitVec 32 := 1#32
  let arg11 : BitVec 32 := Scf.iv v111 c1_i32_74 k0_t9
  let v387 : Index := Scalar.indexCast arg11
  let c2_217 : Index := 2#32
  let c0_218 : Index := 0#32
  ![0, v387.toNat, 2, 0]
def k0_off73 (v111 : BitVec 32) (v113 : BitVec 32) (k0_t9 : Fin (k0_t9_loop v111 v113).trips) : Fin 4 → Nat :=
  let c0_224 : Index := 0#32
  let c1_i32_74 : BitVec 32 := 1#32
  let arg11 : BitVec 32 := Scf.iv v111 c1_i32_74 k0_t9
  let v414 : Index := Scalar.indexCast arg11
  let c3_225 : Index := 3#32
  let c0_226 : Index := 0#32
  ![0, v414.toNat, 3, 0]
@[reducible] def k0_t10_loop (v111 : BitVec 32) (v113 : BitVec 32) : Scf.Loop 32 :=
  let v114 : BitVec 32 := Scalar.subi v113 v111
  let c1_i32_73 : BitVec 32 := 1#32
  let v116 : BitVec 32 := Scalar.divsi v114 c1_i32_73
  let v117 : BitVec 32 := Scalar.muli v116 c1_i32_73
  let v118 : BitVec 32 := Scalar.addi v111 v117
  let v115 : BitVec 32 := Scalar.addi v111 v114
  let c1_i32_75 : BitVec 32 := 1#32
  ⟨v118, v115, c1_i32_75⟩
def k0_off74 (i : grid0.Coords) (v111 : BitVec 32) (v113 : BitVec 32) (k0_t10 : Fin (k0_t10_loop v111 v113).trips) : Fin 2 → Nat :=
  let arg0 : BitVec 32 := BitVec.ofNat 32 (i 0).val
  let v327 : Index := Scalar.indexCast arg0
  let v114 : BitVec 32 := Scalar.subi v113 v111
  let c1_i32_73 : BitVec 32 := 1#32
  let v116 : BitVec 32 := Scalar.divsi v114 c1_i32_73
  let v117 : BitVec 32 := Scalar.muli v116 c1_i32_73
  let v118 : BitVec 32 := Scalar.addi v111 v117
  let c1_i32_75 : BitVec 32 := 1#32
  let arg11 : BitVec 32 := Scf.iv v118 c1_i32_75 k0_t10
  let v328 : Index := Scalar.indexCast arg11
  ![v327.toNat, v328.toNat]
def k0_mult10 (v329 : BitVec 32) : BitVec 32 :=
  let c128_i32 : BitVec 32 := 128#32
  let v330 : BitVec 32 := Scalar.muli v329 c128_i32
  v330

def k0_off75 (v111 : BitVec 32) (v113 : BitVec 32) (k0_t10 : Fin (k0_t10_loop v111 v113).trips) : Fin 4 → Nat :=
  let c0_200 : Index := 0#32
  let v114 : BitVec 32 := Scalar.subi v113 v111
  let c1_i32_73 : BitVec 32 := 1#32
  let v116 : BitVec 32 := Scalar.divsi v114 c1_i32_73
  let v117 : BitVec 32 := Scalar.muli v116 c1_i32_73
  let v118 : BitVec 32 := Scalar.addi v111 v117
  let c1_i32_75 : BitVec 32 := 1#32
  let arg11 : BitVec 32 := Scf.iv v118 c1_i32_75 k0_t10
  let v333 : Index := Scalar.indexCast arg11
  let c0_201 : Index := 0#32
  let c0_202 : Index := 0#32
  ![0, v333.toNat, 0, 0]
def k0_off76 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off77 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c512_206 : Index := 512#32
  ![v349.toNat, 512]

def k0_chk15 (i : grid0.Coords) (v329 : BitVec 32) : Prop :=
  (∀ (k0_h1 : k0_cond1 i = 1#1), 128 ∣ (k0_mult10 v329).toNat) ∧
  (∀ (k0_h1 : k0_cond1 i = 1#1), ∀ (r : Fin 4), ∀ a, (k0_off76 v329 (BitVec.ofNat 32 (32 * r.val))) a + S32x128.size a ≤ S896x128.size a) ∧
  (∀ (k0_h1 : k0_cond1 i = 1#1), ∀ (r : Fin 4), ∀ a, (k0_off77 v329 (BitVec.ofNat 32 (32 * r.val))) a + S32x128.size a ≤ S896x896.size a) ∧
  (∀ (k0_h1 : k0_cond1 i = 1#1), ∀ (r : Fin 4), ∀ (hinb : ∀ a, (k0_off77 v329 (BitVec.ofNat 32 (32 * r.val))) a + S32x128.size a ≤ S896x896.size a), (Rect.unit (s := S896x896) (k0_off77 v329 (BitVec.ofNat 32 (32 * r.val))) S32x128.size hinb).PackedRows (EltTy.packing .bf16))
theorem k0_mult10_dvd : ∀ (i : grid0.Coords) (v329 : BitVec 32) (k0_hw15 : k0_chk15 i v329), ∀ (k0_h1 : k0_cond1 i = 1#1), 128 ∣ (k0_mult10 v329).toNat := fun i v329 k0_hw15 k0_h1 => k0_hw15.1 k0_h1
theorem k0_off76_inb : ∀ (i : grid0.Coords) (v329 : BitVec 32) (k0_hw15 : k0_chk15 i v329), ∀ (k0_h1 : k0_cond1 i = 1#1), ∀ (r : Fin 4), ∀ a, (k0_off76 v329 (BitVec.ofNat 32 (32 * r.val))) a + S32x128.size a ≤ S896x128.size a := fun i v329 k0_hw15 k0_h1 r => k0_hw15.2.1 k0_h1 r
theorem k0_off77_inb : ∀ (i : grid0.Coords) (v329 : BitVec 32) (k0_hw15 : k0_chk15 i v329), ∀ (k0_h1 : k0_cond1 i = 1#1), ∀ (r : Fin 4), ∀ a, (k0_off77 v329 (BitVec.ofNat 32 (32 * r.val))) a + S32x128.size a ≤ S896x896.size a := fun i v329 k0_hw15 k0_h1 r => k0_hw15.2.2.1 k0_h1 r
theorem k0_off77_packedbf16 : ∀ (i : grid0.Coords) (v329 : BitVec 32) (k0_hw15 : k0_chk15 i v329), ∀ (k0_h1 : k0_cond1 i = 1#1), ∀ (r : Fin 4), (Rect.unit (s := S896x896) (k0_off77 v329 (BitVec.ofNat 32 (32 * r.val))) S32x128.size (k0_off77_inb i v329 k0_hw15 k0_h1 r)).PackedRows (EltTy.packing .bf16) := fun i v329 k0_hw15 k0_h1 r => k0_hw15.2.2.2 k0_h1 r (k0_off77_inb i v329 k0_hw15 k0_h1 r)

def k0_off78 (v111 : BitVec 32) (v113 : BitVec 32) (k0_t10 : Fin (k0_t10_loop v111 v113).trips) : Fin 4 → Nat :=
  let c0_208 : Index := 0#32
  let v114 : BitVec 32 := Scalar.subi v113 v111
  let c1_i32_73 : BitVec 32 := 1#32
  let v116 : BitVec 32 := Scalar.divsi v114 c1_i32_73
  let v117 : BitVec 32 := Scalar.muli v116 c1_i32_73
  let v118 : BitVec 32 := Scalar.addi v111 v117
  let c1_i32_75 : BitVec 32 := 1#32
  let arg11 : BitVec 32 := Scf.iv v118 c1_i32_75 k0_t10
  let v360 : Index := Scalar.indexCast arg11
  let c1_209 : Index := 1#32
  let c0_210 : Index := 0#32
  ![0, v360.toNat, 1, 0]
def k0_off79 (v111 : BitVec 32) (v113 : BitVec 32) (k0_t10 : Fin (k0_t10_loop v111 v113).trips) : Fin 4 → Nat :=
  let c0_216 : Index := 0#32
  let v114 : BitVec 32 := Scalar.subi v113 v111
  let c1_i32_73 : BitVec 32 := 1#32
  let v116 : BitVec 32 := Scalar.divsi v114 c1_i32_73
  let v117 : BitVec 32 := Scalar.muli v116 c1_i32_73
  let v118 : BitVec 32 := Scalar.addi v111 v117
  let c1_i32_75 : BitVec 32 := 1#32
  let arg11 : BitVec 32 := Scf.iv v118 c1_i32_75 k0_t10
  let v387 : Index := Scalar.indexCast arg11
  let c2_217 : Index := 2#32
  let c0_218 : Index := 0#32
  ![0, v387.toNat, 2, 0]
def k0_off80 (v111 : BitVec 32) (v113 : BitVec 32) (k0_t10 : Fin (k0_t10_loop v111 v113).trips) : Fin 4 → Nat :=
  let c0_224 : Index := 0#32
  let v114 : BitVec 32 := Scalar.subi v113 v111
  let c1_i32_73 : BitVec 32 := 1#32
  let v116 : BitVec 32 := Scalar.divsi v114 c1_i32_73
  let v117 : BitVec 32 := Scalar.muli v116 c1_i32_73
  let v118 : BitVec 32 := Scalar.addi v111 v117
  let c1_i32_75 : BitVec 32 := 1#32
  let arg11 : BitVec 32 := Scf.iv v118 c1_i32_75 k0_t10
  let v414 : Index := Scalar.indexCast arg11
  let c3_225 : Index := 3#32
  let c0_226 : Index := 0#32
  ![0, v414.toNat, 3, 0]

def k0_chk13 (i : grid0.Coords) (v111 : BitVec 32) (v113 : BitVec 32) : Prop :=
  (∀ (k0_h1 : k0_cond1 i = 1#1), (k0_t9_loop v111 v113).OK) ∧
  (∀ k0_t9 : Fin (k0_t9_loop v111 v113).trips, ∀ (k0_h1 : k0_cond1 i = 1#1), ∀ a, (k0_off67 i v111 v113 k0_t9) a + S1x1.size a ≤ S2x42.size a) ∧
  (∀ k0_t9 : Fin (k0_t9_loop v111 v113).trips, ∀ (k0_h1 : k0_cond1 i = 1#1), ∀ a, (k0_off68 v111 v113 k0_t9) a + S1x1x1x128.size a ≤ S1x42x4x128.size a) ∧
  (∀ k0_t9 : Fin (k0_t9_loop v111 v113).trips, ∀ (k0_h1 : k0_cond1 i = 1#1), ∀ a, (k0_off71 v111 v113 k0_t9) a + S1x1x1x128.size a ≤ S1x42x4x128.size a) ∧
  (∀ k0_t9 : Fin (k0_t9_loop v111 v113).trips, ∀ (k0_h1 : k0_cond1 i = 1#1), ∀ a, (k0_off72 v111 v113 k0_t9) a + S1x1x1x128.size a ≤ S1x42x4x128.size a) ∧
  (∀ k0_t9 : Fin (k0_t9_loop v111 v113).trips, ∀ (k0_h1 : k0_cond1 i = 1#1), ∀ a, (k0_off73 v111 v113 k0_t9) a + S1x1x1x128.size a ≤ S1x42x4x128.size a) ∧
  (∀ (k0_h1 : k0_cond1 i = 1#1), (k0_t10_loop v111 v113).OK) ∧
  (∀ k0_t10 : Fin (k0_t10_loop v111 v113).trips, ∀ (k0_h1 : k0_cond1 i = 1#1), ∀ a, (k0_off74 i v111 v113 k0_t10) a + S1x1.size a ≤ S2x42.size a) ∧
  (∀ k0_t10 : Fin (k0_t10_loop v111 v113).trips, ∀ (k0_h1 : k0_cond1 i = 1#1), ∀ a, (k0_off75 v111 v113 k0_t10) a + S1x1x1x128.size a ≤ S1x42x4x128.size a) ∧
  (∀ k0_t10 : Fin (k0_t10_loop v111 v113).trips, ∀ (k0_h1 : k0_cond1 i = 1#1), ∀ a, (k0_off78 v111 v113 k0_t10) a + S1x1x1x128.size a ≤ S1x42x4x128.size a) ∧
  (∀ k0_t10 : Fin (k0_t10_loop v111 v113).trips, ∀ (k0_h1 : k0_cond1 i = 1#1), ∀ a, (k0_off79 v111 v113 k0_t10) a + S1x1x1x128.size a ≤ S1x42x4x128.size a) ∧
  (∀ k0_t10 : Fin (k0_t10_loop v111 v113).trips, ∀ (k0_h1 : k0_cond1 i = 1#1), ∀ a, (k0_off80 v111 v113 k0_t10) a + S1x1x1x128.size a ≤ S1x42x4x128.size a)
theorem k0_t9_ok : ∀ (i : grid0.Coords) (v111 : BitVec 32) (v113 : BitVec 32) (k0_hw13 : k0_chk13 i v111 v113), ∀ (k0_h1 : k0_cond1 i = 1#1), (k0_t9_loop v111 v113).OK := fun i v111 v113 k0_hw13 k0_h1 => k0_hw13.1 k0_h1
theorem k0_off67_inb : ∀ (i : grid0.Coords) (v111 : BitVec 32) (v113 : BitVec 32) (k0_hw13 : k0_chk13 i v111 v113) (k0_t9 : Fin (k0_t9_loop v111 v113).trips), ∀ (k0_h1 : k0_cond1 i = 1#1), ∀ a, (k0_off67 i v111 v113 k0_t9) a + S1x1.size a ≤ S2x42.size a := fun i v111 v113 k0_hw13 k0_t9 k0_h1 => k0_hw13.2.1 k0_t9 k0_h1
theorem k0_off68_inb : ∀ (i : grid0.Coords) (v111 : BitVec 32) (v113 : BitVec 32) (k0_hw13 : k0_chk13 i v111 v113) (k0_t9 : Fin (k0_t9_loop v111 v113).trips), ∀ (k0_h1 : k0_cond1 i = 1#1), ∀ a, (k0_off68 v111 v113 k0_t9) a + S1x1x1x128.size a ≤ S1x42x4x128.size a := fun i v111 v113 k0_hw13 k0_t9 k0_h1 => k0_hw13.2.2.1 k0_t9 k0_h1
theorem k0_off71_inb : ∀ (i : grid0.Coords) (v111 : BitVec 32) (v113 : BitVec 32) (k0_hw13 : k0_chk13 i v111 v113) (k0_t9 : Fin (k0_t9_loop v111 v113).trips), ∀ (k0_h1 : k0_cond1 i = 1#1), ∀ a, (k0_off71 v111 v113 k0_t9) a + S1x1x1x128.size a ≤ S1x42x4x128.size a := fun i v111 v113 k0_hw13 k0_t9 k0_h1 => k0_hw13.2.2.2.1 k0_t9 k0_h1
theorem k0_off72_inb : ∀ (i : grid0.Coords) (v111 : BitVec 32) (v113 : BitVec 32) (k0_hw13 : k0_chk13 i v111 v113) (k0_t9 : Fin (k0_t9_loop v111 v113).trips), ∀ (k0_h1 : k0_cond1 i = 1#1), ∀ a, (k0_off72 v111 v113 k0_t9) a + S1x1x1x128.size a ≤ S1x42x4x128.size a := fun i v111 v113 k0_hw13 k0_t9 k0_h1 => k0_hw13.2.2.2.2.1 k0_t9 k0_h1
theorem k0_off73_inb : ∀ (i : grid0.Coords) (v111 : BitVec 32) (v113 : BitVec 32) (k0_hw13 : k0_chk13 i v111 v113) (k0_t9 : Fin (k0_t9_loop v111 v113).trips), ∀ (k0_h1 : k0_cond1 i = 1#1), ∀ a, (k0_off73 v111 v113 k0_t9) a + S1x1x1x128.size a ≤ S1x42x4x128.size a := fun i v111 v113 k0_hw13 k0_t9 k0_h1 => k0_hw13.2.2.2.2.2.1 k0_t9 k0_h1
theorem k0_t10_ok : ∀ (i : grid0.Coords) (v111 : BitVec 32) (v113 : BitVec 32) (k0_hw13 : k0_chk13 i v111 v113), ∀ (k0_h1 : k0_cond1 i = 1#1), (k0_t10_loop v111 v113).OK := fun i v111 v113 k0_hw13 k0_h1 => k0_hw13.2.2.2.2.2.2.1 k0_h1
theorem k0_off74_inb : ∀ (i : grid0.Coords) (v111 : BitVec 32) (v113 : BitVec 32) (k0_hw13 : k0_chk13 i v111 v113) (k0_t10 : Fin (k0_t10_loop v111 v113).trips), ∀ (k0_h1 : k0_cond1 i = 1#1), ∀ a, (k0_off74 i v111 v113 k0_t10) a + S1x1.size a ≤ S2x42.size a := fun i v111 v113 k0_hw13 k0_t10 k0_h1 => k0_hw13.2.2.2.2.2.2.2.1 k0_t10 k0_h1
theorem k0_off75_inb : ∀ (i : grid0.Coords) (v111 : BitVec 32) (v113 : BitVec 32) (k0_hw13 : k0_chk13 i v111 v113) (k0_t10 : Fin (k0_t10_loop v111 v113).trips), ∀ (k0_h1 : k0_cond1 i = 1#1), ∀ a, (k0_off75 v111 v113 k0_t10) a + S1x1x1x128.size a ≤ S1x42x4x128.size a := fun i v111 v113 k0_hw13 k0_t10 k0_h1 => k0_hw13.2.2.2.2.2.2.2.2.1 k0_t10 k0_h1
theorem k0_off78_inb : ∀ (i : grid0.Coords) (v111 : BitVec 32) (v113 : BitVec 32) (k0_hw13 : k0_chk13 i v111 v113) (k0_t10 : Fin (k0_t10_loop v111 v113).trips), ∀ (k0_h1 : k0_cond1 i = 1#1), ∀ a, (k0_off78 v111 v113 k0_t10) a + S1x1x1x128.size a ≤ S1x42x4x128.size a := fun i v111 v113 k0_hw13 k0_t10 k0_h1 => k0_hw13.2.2.2.2.2.2.2.2.2.1 k0_t10 k0_h1
theorem k0_off79_inb : ∀ (i : grid0.Coords) (v111 : BitVec 32) (v113 : BitVec 32) (k0_hw13 : k0_chk13 i v111 v113) (k0_t10 : Fin (k0_t10_loop v111 v113).trips), ∀ (k0_h1 : k0_cond1 i = 1#1), ∀ a, (k0_off79 v111 v113 k0_t10) a + S1x1x1x128.size a ≤ S1x42x4x128.size a := fun i v111 v113 k0_hw13 k0_t10 k0_h1 => k0_hw13.2.2.2.2.2.2.2.2.2.2.1 k0_t10 k0_h1
theorem k0_off80_inb : ∀ (i : grid0.Coords) (v111 : BitVec 32) (v113 : BitVec 32) (k0_hw13 : k0_chk13 i v111 v113) (k0_t10 : Fin (k0_t10_loop v111 v113).trips), ∀ (k0_h1 : k0_cond1 i = 1#1), ∀ a, (k0_off80 v111 v113 k0_t10) a + S1x1x1x128.size a ≤ S1x42x4x128.size a := fun i v111 v113 k0_hw13 k0_t10 k0_h1 => k0_hw13.2.2.2.2.2.2.2.2.2.2.2 k0_t10 k0_h1

def k0_off81 (i : grid0.Coords) : Fin 2 → Nat :=
  let arg0 : BitVec 32 := BitVec.ofNat 32 (i 0).val
  let v125 : Index := Scalar.indexCast arg0
  let c5_80 : Index := 5#32
  ![v125.toNat, 5]
def k0_off82 (i : grid0.Coords) : Fin 2 → Nat :=
  let arg0 : BitVec 32 := BitVec.ofNat 32 (i 0).val
  let v127 : Index := Scalar.indexCast arg0
  let c6 : Index := 6#32
  ![v127.toNat, 6]
@[reducible] def k0_t11_loop (v126 : BitVec 32) (v128 : BitVec 32) : Scf.Loop 32 :=
  let v129 : BitVec 32 := Scalar.subi v128 v126
  let c1_i32_82 : BitVec 32 := 1#32
  let v131 : BitVec 32 := Scalar.divsi v129 c1_i32_82
  let v132 : BitVec 32 := Scalar.muli v131 c1_i32_82
  let v133 : BitVec 32 := Scalar.addi v126 v132
  let c1_i32_83 : BitVec 32 := 1#32
  ⟨v126, v133, c1_i32_83⟩

def k0_off83 (i : grid0.Coords) (v126 : BitVec 32) (v128 : BitVec 32) (k0_t11 : Fin (k0_t11_loop v126 v128).trips) : Fin 2 → Nat :=
  let arg0 : BitVec 32 := BitVec.ofNat 32 (i 0).val
  let v327 : Index := Scalar.indexCast arg0
  let c1_i32_83 : BitVec 32 := 1#32
  let arg11 : BitVec 32 := Scf.iv v126 c1_i32_83 k0_t11
  let v328 : Index := Scalar.indexCast arg11
  ![v327.toNat, v328.toNat]
def k0_mult11 (v329 : BitVec 32) : BitVec 32 :=
  let c128_i32 : BitVec 32 := 128#32
  let v330 : BitVec 32 := Scalar.muli v329 c128_i32
  v330

def k0_off84 (v126 : BitVec 32) (v128 : BitVec 32) (k0_t11 : Fin (k0_t11_loop v126 v128).trips) : Fin 4 → Nat :=
  let c0_200 : Index := 0#32
  let c1_i32_83 : BitVec 32 := 1#32
  let arg11 : BitVec 32 := Scf.iv v126 c1_i32_83 k0_t11
  let v333 : Index := Scalar.indexCast arg11
  let c0_201 : Index := 0#32
  let c0_202 : Index := 0#32
  ![0, v333.toNat, 0, 0]
def k0_off85 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off86 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c640_206 : Index := 640#32
  ![v349.toNat, 640]

def k0_chk17 (i : grid0.Coords) (v329 : BitVec 32) : Prop :=
  (∀ (k0_h1 : k0_cond1 i = 1#1), 128 ∣ (k0_mult11 v329).toNat) ∧
  (∀ (k0_h1 : k0_cond1 i = 1#1), ∀ (r : Fin 4), ∀ a, (k0_off85 v329 (BitVec.ofNat 32 (32 * r.val))) a + S32x128.size a ≤ S896x128.size a) ∧
  (∀ (k0_h1 : k0_cond1 i = 1#1), ∀ (r : Fin 4), ∀ a, (k0_off86 v329 (BitVec.ofNat 32 (32 * r.val))) a + S32x128.size a ≤ S896x896.size a) ∧
  (∀ (k0_h1 : k0_cond1 i = 1#1), ∀ (r : Fin 4), ∀ (hinb : ∀ a, (k0_off86 v329 (BitVec.ofNat 32 (32 * r.val))) a + S32x128.size a ≤ S896x896.size a), (Rect.unit (s := S896x896) (k0_off86 v329 (BitVec.ofNat 32 (32 * r.val))) S32x128.size hinb).PackedRows (EltTy.packing .bf16))
theorem k0_mult11_dvd : ∀ (i : grid0.Coords) (v329 : BitVec 32) (k0_hw17 : k0_chk17 i v329), ∀ (k0_h1 : k0_cond1 i = 1#1), 128 ∣ (k0_mult11 v329).toNat := fun i v329 k0_hw17 k0_h1 => k0_hw17.1 k0_h1
theorem k0_off85_inb : ∀ (i : grid0.Coords) (v329 : BitVec 32) (k0_hw17 : k0_chk17 i v329), ∀ (k0_h1 : k0_cond1 i = 1#1), ∀ (r : Fin 4), ∀ a, (k0_off85 v329 (BitVec.ofNat 32 (32 * r.val))) a + S32x128.size a ≤ S896x128.size a := fun i v329 k0_hw17 k0_h1 r => k0_hw17.2.1 k0_h1 r
theorem k0_off86_inb : ∀ (i : grid0.Coords) (v329 : BitVec 32) (k0_hw17 : k0_chk17 i v329), ∀ (k0_h1 : k0_cond1 i = 1#1), ∀ (r : Fin 4), ∀ a, (k0_off86 v329 (BitVec.ofNat 32 (32 * r.val))) a + S32x128.size a ≤ S896x896.size a := fun i v329 k0_hw17 k0_h1 r => k0_hw17.2.2.1 k0_h1 r
theorem k0_off86_packedbf16 : ∀ (i : grid0.Coords) (v329 : BitVec 32) (k0_hw17 : k0_chk17 i v329), ∀ (k0_h1 : k0_cond1 i = 1#1), ∀ (r : Fin 4), (Rect.unit (s := S896x896) (k0_off86 v329 (BitVec.ofNat 32 (32 * r.val))) S32x128.size (k0_off86_inb i v329 k0_hw17 k0_h1 r)).PackedRows (EltTy.packing .bf16) := fun i v329 k0_hw17 k0_h1 r => k0_hw17.2.2.2 k0_h1 r (k0_off86_inb i v329 k0_hw17 k0_h1 r)

def k0_off87 (v126 : BitVec 32) (v128 : BitVec 32) (k0_t11 : Fin (k0_t11_loop v126 v128).trips) : Fin 4 → Nat :=
  let c0_208 : Index := 0#32
  let c1_i32_83 : BitVec 32 := 1#32
  let arg11 : BitVec 32 := Scf.iv v126 c1_i32_83 k0_t11
  let v360 : Index := Scalar.indexCast arg11
  let c1_209 : Index := 1#32
  let c0_210 : Index := 0#32
  ![0, v360.toNat, 1, 0]
def k0_off88 (v126 : BitVec 32) (v128 : BitVec 32) (k0_t11 : Fin (k0_t11_loop v126 v128).trips) : Fin 4 → Nat :=
  let c0_216 : Index := 0#32
  let c1_i32_83 : BitVec 32 := 1#32
  let arg11 : BitVec 32 := Scf.iv v126 c1_i32_83 k0_t11
  let v387 : Index := Scalar.indexCast arg11
  let c2_217 : Index := 2#32
  let c0_218 : Index := 0#32
  ![0, v387.toNat, 2, 0]
def k0_off89 (v126 : BitVec 32) (v128 : BitVec 32) (k0_t11 : Fin (k0_t11_loop v126 v128).trips) : Fin 4 → Nat :=
  let c0_224 : Index := 0#32
  let c1_i32_83 : BitVec 32 := 1#32
  let arg11 : BitVec 32 := Scf.iv v126 c1_i32_83 k0_t11
  let v414 : Index := Scalar.indexCast arg11
  let c3_225 : Index := 3#32
  let c0_226 : Index := 0#32
  ![0, v414.toNat, 3, 0]
@[reducible] def k0_t12_loop (v126 : BitVec 32) (v128 : BitVec 32) : Scf.Loop 32 :=
  let v129 : BitVec 32 := Scalar.subi v128 v126
  let c1_i32_82 : BitVec 32 := 1#32
  let v131 : BitVec 32 := Scalar.divsi v129 c1_i32_82
  let v132 : BitVec 32 := Scalar.muli v131 c1_i32_82
  let v133 : BitVec 32 := Scalar.addi v126 v132
  let v130 : BitVec 32 := Scalar.addi v126 v129
  let c1_i32_84 : BitVec 32 := 1#32
  ⟨v133, v130, c1_i32_84⟩
def k0_off90 (i : grid0.Coords) (v126 : BitVec 32) (v128 : BitVec 32) (k0_t12 : Fin (k0_t12_loop v126 v128).trips) : Fin 2 → Nat :=
  let arg0 : BitVec 32 := BitVec.ofNat 32 (i 0).val
  let v327 : Index := Scalar.indexCast arg0
  let v129 : BitVec 32 := Scalar.subi v128 v126
  let c1_i32_82 : BitVec 32 := 1#32
  let v131 : BitVec 32 := Scalar.divsi v129 c1_i32_82
  let v132 : BitVec 32 := Scalar.muli v131 c1_i32_82
  let v133 : BitVec 32 := Scalar.addi v126 v132
  let c1_i32_84 : BitVec 32 := 1#32
  let arg11 : BitVec 32 := Scf.iv v133 c1_i32_84 k0_t12
  let v328 : Index := Scalar.indexCast arg11
  ![v327.toNat, v328.toNat]
def k0_mult12 (v329 : BitVec 32) : BitVec 32 :=
  let c128_i32 : BitVec 32 := 128#32
  let v330 : BitVec 32 := Scalar.muli v329 c128_i32
  v330

def k0_off91 (v126 : BitVec 32) (v128 : BitVec 32) (k0_t12 : Fin (k0_t12_loop v126 v128).trips) : Fin 4 → Nat :=
  let c0_200 : Index := 0#32
  let v129 : BitVec 32 := Scalar.subi v128 v126
  let c1_i32_82 : BitVec 32 := 1#32
  let v131 : BitVec 32 := Scalar.divsi v129 c1_i32_82
  let v132 : BitVec 32 := Scalar.muli v131 c1_i32_82
  let v133 : BitVec 32 := Scalar.addi v126 v132
  let c1_i32_84 : BitVec 32 := 1#32
  let arg11 : BitVec 32 := Scf.iv v133 c1_i32_84 k0_t12
  let v333 : Index := Scalar.indexCast arg11
  let c0_201 : Index := 0#32
  let c0_202 : Index := 0#32
  ![0, v333.toNat, 0, 0]
def k0_off92 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off93 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c640_206 : Index := 640#32
  ![v349.toNat, 640]

def k0_chk18 (i : grid0.Coords) (v329 : BitVec 32) : Prop :=
  (∀ (k0_h1 : k0_cond1 i = 1#1), 128 ∣ (k0_mult12 v329).toNat) ∧
  (∀ (k0_h1 : k0_cond1 i = 1#1), ∀ (r : Fin 4), ∀ a, (k0_off92 v329 (BitVec.ofNat 32 (32 * r.val))) a + S32x128.size a ≤ S896x128.size a) ∧
  (∀ (k0_h1 : k0_cond1 i = 1#1), ∀ (r : Fin 4), ∀ a, (k0_off93 v329 (BitVec.ofNat 32 (32 * r.val))) a + S32x128.size a ≤ S896x896.size a) ∧
  (∀ (k0_h1 : k0_cond1 i = 1#1), ∀ (r : Fin 4), ∀ (hinb : ∀ a, (k0_off93 v329 (BitVec.ofNat 32 (32 * r.val))) a + S32x128.size a ≤ S896x896.size a), (Rect.unit (s := S896x896) (k0_off93 v329 (BitVec.ofNat 32 (32 * r.val))) S32x128.size hinb).PackedRows (EltTy.packing .bf16))
theorem k0_mult12_dvd : ∀ (i : grid0.Coords) (v329 : BitVec 32) (k0_hw18 : k0_chk18 i v329), ∀ (k0_h1 : k0_cond1 i = 1#1), 128 ∣ (k0_mult12 v329).toNat := fun i v329 k0_hw18 k0_h1 => k0_hw18.1 k0_h1
theorem k0_off92_inb : ∀ (i : grid0.Coords) (v329 : BitVec 32) (k0_hw18 : k0_chk18 i v329), ∀ (k0_h1 : k0_cond1 i = 1#1), ∀ (r : Fin 4), ∀ a, (k0_off92 v329 (BitVec.ofNat 32 (32 * r.val))) a + S32x128.size a ≤ S896x128.size a := fun i v329 k0_hw18 k0_h1 r => k0_hw18.2.1 k0_h1 r
theorem k0_off93_inb : ∀ (i : grid0.Coords) (v329 : BitVec 32) (k0_hw18 : k0_chk18 i v329), ∀ (k0_h1 : k0_cond1 i = 1#1), ∀ (r : Fin 4), ∀ a, (k0_off93 v329 (BitVec.ofNat 32 (32 * r.val))) a + S32x128.size a ≤ S896x896.size a := fun i v329 k0_hw18 k0_h1 r => k0_hw18.2.2.1 k0_h1 r
theorem k0_off93_packedbf16 : ∀ (i : grid0.Coords) (v329 : BitVec 32) (k0_hw18 : k0_chk18 i v329), ∀ (k0_h1 : k0_cond1 i = 1#1), ∀ (r : Fin 4), (Rect.unit (s := S896x896) (k0_off93 v329 (BitVec.ofNat 32 (32 * r.val))) S32x128.size (k0_off93_inb i v329 k0_hw18 k0_h1 r)).PackedRows (EltTy.packing .bf16) := fun i v329 k0_hw18 k0_h1 r => k0_hw18.2.2.2 k0_h1 r (k0_off93_inb i v329 k0_hw18 k0_h1 r)

def k0_off94 (v126 : BitVec 32) (v128 : BitVec 32) (k0_t12 : Fin (k0_t12_loop v126 v128).trips) : Fin 4 → Nat :=
  let c0_208 : Index := 0#32
  let v129 : BitVec 32 := Scalar.subi v128 v126
  let c1_i32_82 : BitVec 32 := 1#32
  let v131 : BitVec 32 := Scalar.divsi v129 c1_i32_82
  let v132 : BitVec 32 := Scalar.muli v131 c1_i32_82
  let v133 : BitVec 32 := Scalar.addi v126 v132
  let c1_i32_84 : BitVec 32 := 1#32
  let arg11 : BitVec 32 := Scf.iv v133 c1_i32_84 k0_t12
  let v360 : Index := Scalar.indexCast arg11
  let c1_209 : Index := 1#32
  let c0_210 : Index := 0#32
  ![0, v360.toNat, 1, 0]
def k0_off95 (v126 : BitVec 32) (v128 : BitVec 32) (k0_t12 : Fin (k0_t12_loop v126 v128).trips) : Fin 4 → Nat :=
  let c0_216 : Index := 0#32
  let v129 : BitVec 32 := Scalar.subi v128 v126
  let c1_i32_82 : BitVec 32 := 1#32
  let v131 : BitVec 32 := Scalar.divsi v129 c1_i32_82
  let v132 : BitVec 32 := Scalar.muli v131 c1_i32_82
  let v133 : BitVec 32 := Scalar.addi v126 v132
  let c1_i32_84 : BitVec 32 := 1#32
  let arg11 : BitVec 32 := Scf.iv v133 c1_i32_84 k0_t12
  let v387 : Index := Scalar.indexCast arg11
  let c2_217 : Index := 2#32
  let c0_218 : Index := 0#32
  ![0, v387.toNat, 2, 0]
def k0_off96 (v126 : BitVec 32) (v128 : BitVec 32) (k0_t12 : Fin (k0_t12_loop v126 v128).trips) : Fin 4 → Nat :=
  let c0_224 : Index := 0#32
  let v129 : BitVec 32 := Scalar.subi v128 v126
  let c1_i32_82 : BitVec 32 := 1#32
  let v131 : BitVec 32 := Scalar.divsi v129 c1_i32_82
  let v132 : BitVec 32 := Scalar.muli v131 c1_i32_82
  let v133 : BitVec 32 := Scalar.addi v126 v132
  let c1_i32_84 : BitVec 32 := 1#32
  let arg11 : BitVec 32 := Scf.iv v133 c1_i32_84 k0_t12
  let v414 : Index := Scalar.indexCast arg11
  let c3_225 : Index := 3#32
  let c0_226 : Index := 0#32
  ![0, v414.toNat, 3, 0]

def k0_chk16 (i : grid0.Coords) (v126 : BitVec 32) (v128 : BitVec 32) : Prop :=
  (∀ (k0_h1 : k0_cond1 i = 1#1), (k0_t11_loop v126 v128).OK) ∧
  (∀ k0_t11 : Fin (k0_t11_loop v126 v128).trips, ∀ (k0_h1 : k0_cond1 i = 1#1), ∀ a, (k0_off83 i v126 v128 k0_t11) a + S1x1.size a ≤ S2x42.size a) ∧
  (∀ k0_t11 : Fin (k0_t11_loop v126 v128).trips, ∀ (k0_h1 : k0_cond1 i = 1#1), ∀ a, (k0_off84 v126 v128 k0_t11) a + S1x1x1x128.size a ≤ S1x42x4x128.size a) ∧
  (∀ k0_t11 : Fin (k0_t11_loop v126 v128).trips, ∀ (k0_h1 : k0_cond1 i = 1#1), ∀ a, (k0_off87 v126 v128 k0_t11) a + S1x1x1x128.size a ≤ S1x42x4x128.size a) ∧
  (∀ k0_t11 : Fin (k0_t11_loop v126 v128).trips, ∀ (k0_h1 : k0_cond1 i = 1#1), ∀ a, (k0_off88 v126 v128 k0_t11) a + S1x1x1x128.size a ≤ S1x42x4x128.size a) ∧
  (∀ k0_t11 : Fin (k0_t11_loop v126 v128).trips, ∀ (k0_h1 : k0_cond1 i = 1#1), ∀ a, (k0_off89 v126 v128 k0_t11) a + S1x1x1x128.size a ≤ S1x42x4x128.size a) ∧
  (∀ (k0_h1 : k0_cond1 i = 1#1), (k0_t12_loop v126 v128).OK) ∧
  (∀ k0_t12 : Fin (k0_t12_loop v126 v128).trips, ∀ (k0_h1 : k0_cond1 i = 1#1), ∀ a, (k0_off90 i v126 v128 k0_t12) a + S1x1.size a ≤ S2x42.size a) ∧
  (∀ k0_t12 : Fin (k0_t12_loop v126 v128).trips, ∀ (k0_h1 : k0_cond1 i = 1#1), ∀ a, (k0_off91 v126 v128 k0_t12) a + S1x1x1x128.size a ≤ S1x42x4x128.size a) ∧
  (∀ k0_t12 : Fin (k0_t12_loop v126 v128).trips, ∀ (k0_h1 : k0_cond1 i = 1#1), ∀ a, (k0_off94 v126 v128 k0_t12) a + S1x1x1x128.size a ≤ S1x42x4x128.size a) ∧
  (∀ k0_t12 : Fin (k0_t12_loop v126 v128).trips, ∀ (k0_h1 : k0_cond1 i = 1#1), ∀ a, (k0_off95 v126 v128 k0_t12) a + S1x1x1x128.size a ≤ S1x42x4x128.size a) ∧
  (∀ k0_t12 : Fin (k0_t12_loop v126 v128).trips, ∀ (k0_h1 : k0_cond1 i = 1#1), ∀ a, (k0_off96 v126 v128 k0_t12) a + S1x1x1x128.size a ≤ S1x42x4x128.size a)
theorem k0_t11_ok : ∀ (i : grid0.Coords) (v126 : BitVec 32) (v128 : BitVec 32) (k0_hw16 : k0_chk16 i v126 v128), ∀ (k0_h1 : k0_cond1 i = 1#1), (k0_t11_loop v126 v128).OK := fun i v126 v128 k0_hw16 k0_h1 => k0_hw16.1 k0_h1
theorem k0_off83_inb : ∀ (i : grid0.Coords) (v126 : BitVec 32) (v128 : BitVec 32) (k0_hw16 : k0_chk16 i v126 v128) (k0_t11 : Fin (k0_t11_loop v126 v128).trips), ∀ (k0_h1 : k0_cond1 i = 1#1), ∀ a, (k0_off83 i v126 v128 k0_t11) a + S1x1.size a ≤ S2x42.size a := fun i v126 v128 k0_hw16 k0_t11 k0_h1 => k0_hw16.2.1 k0_t11 k0_h1
theorem k0_off84_inb : ∀ (i : grid0.Coords) (v126 : BitVec 32) (v128 : BitVec 32) (k0_hw16 : k0_chk16 i v126 v128) (k0_t11 : Fin (k0_t11_loop v126 v128).trips), ∀ (k0_h1 : k0_cond1 i = 1#1), ∀ a, (k0_off84 v126 v128 k0_t11) a + S1x1x1x128.size a ≤ S1x42x4x128.size a := fun i v126 v128 k0_hw16 k0_t11 k0_h1 => k0_hw16.2.2.1 k0_t11 k0_h1
theorem k0_off87_inb : ∀ (i : grid0.Coords) (v126 : BitVec 32) (v128 : BitVec 32) (k0_hw16 : k0_chk16 i v126 v128) (k0_t11 : Fin (k0_t11_loop v126 v128).trips), ∀ (k0_h1 : k0_cond1 i = 1#1), ∀ a, (k0_off87 v126 v128 k0_t11) a + S1x1x1x128.size a ≤ S1x42x4x128.size a := fun i v126 v128 k0_hw16 k0_t11 k0_h1 => k0_hw16.2.2.2.1 k0_t11 k0_h1
theorem k0_off88_inb : ∀ (i : grid0.Coords) (v126 : BitVec 32) (v128 : BitVec 32) (k0_hw16 : k0_chk16 i v126 v128) (k0_t11 : Fin (k0_t11_loop v126 v128).trips), ∀ (k0_h1 : k0_cond1 i = 1#1), ∀ a, (k0_off88 v126 v128 k0_t11) a + S1x1x1x128.size a ≤ S1x42x4x128.size a := fun i v126 v128 k0_hw16 k0_t11 k0_h1 => k0_hw16.2.2.2.2.1 k0_t11 k0_h1
theorem k0_off89_inb : ∀ (i : grid0.Coords) (v126 : BitVec 32) (v128 : BitVec 32) (k0_hw16 : k0_chk16 i v126 v128) (k0_t11 : Fin (k0_t11_loop v126 v128).trips), ∀ (k0_h1 : k0_cond1 i = 1#1), ∀ a, (k0_off89 v126 v128 k0_t11) a + S1x1x1x128.size a ≤ S1x42x4x128.size a := fun i v126 v128 k0_hw16 k0_t11 k0_h1 => k0_hw16.2.2.2.2.2.1 k0_t11 k0_h1
theorem k0_t12_ok : ∀ (i : grid0.Coords) (v126 : BitVec 32) (v128 : BitVec 32) (k0_hw16 : k0_chk16 i v126 v128), ∀ (k0_h1 : k0_cond1 i = 1#1), (k0_t12_loop v126 v128).OK := fun i v126 v128 k0_hw16 k0_h1 => k0_hw16.2.2.2.2.2.2.1 k0_h1
theorem k0_off90_inb : ∀ (i : grid0.Coords) (v126 : BitVec 32) (v128 : BitVec 32) (k0_hw16 : k0_chk16 i v126 v128) (k0_t12 : Fin (k0_t12_loop v126 v128).trips), ∀ (k0_h1 : k0_cond1 i = 1#1), ∀ a, (k0_off90 i v126 v128 k0_t12) a + S1x1.size a ≤ S2x42.size a := fun i v126 v128 k0_hw16 k0_t12 k0_h1 => k0_hw16.2.2.2.2.2.2.2.1 k0_t12 k0_h1
theorem k0_off91_inb : ∀ (i : grid0.Coords) (v126 : BitVec 32) (v128 : BitVec 32) (k0_hw16 : k0_chk16 i v126 v128) (k0_t12 : Fin (k0_t12_loop v126 v128).trips), ∀ (k0_h1 : k0_cond1 i = 1#1), ∀ a, (k0_off91 v126 v128 k0_t12) a + S1x1x1x128.size a ≤ S1x42x4x128.size a := fun i v126 v128 k0_hw16 k0_t12 k0_h1 => k0_hw16.2.2.2.2.2.2.2.2.1 k0_t12 k0_h1
theorem k0_off94_inb : ∀ (i : grid0.Coords) (v126 : BitVec 32) (v128 : BitVec 32) (k0_hw16 : k0_chk16 i v126 v128) (k0_t12 : Fin (k0_t12_loop v126 v128).trips), ∀ (k0_h1 : k0_cond1 i = 1#1), ∀ a, (k0_off94 v126 v128 k0_t12) a + S1x1x1x128.size a ≤ S1x42x4x128.size a := fun i v126 v128 k0_hw16 k0_t12 k0_h1 => k0_hw16.2.2.2.2.2.2.2.2.2.1 k0_t12 k0_h1
theorem k0_off95_inb : ∀ (i : grid0.Coords) (v126 : BitVec 32) (v128 : BitVec 32) (k0_hw16 : k0_chk16 i v126 v128) (k0_t12 : Fin (k0_t12_loop v126 v128).trips), ∀ (k0_h1 : k0_cond1 i = 1#1), ∀ a, (k0_off95 v126 v128 k0_t12) a + S1x1x1x128.size a ≤ S1x42x4x128.size a := fun i v126 v128 k0_hw16 k0_t12 k0_h1 => k0_hw16.2.2.2.2.2.2.2.2.2.2.1 k0_t12 k0_h1
theorem k0_off96_inb : ∀ (i : grid0.Coords) (v126 : BitVec 32) (v128 : BitVec 32) (k0_hw16 : k0_chk16 i v126 v128) (k0_t12 : Fin (k0_t12_loop v126 v128).trips), ∀ (k0_h1 : k0_cond1 i = 1#1), ∀ a, (k0_off96 v126 v128 k0_t12) a + S1x1x1x128.size a ≤ S1x42x4x128.size a := fun i v126 v128 k0_hw16 k0_t12 k0_h1 => k0_hw16.2.2.2.2.2.2.2.2.2.2.2 k0_t12 k0_h1

def k0_off97 (i : grid0.Coords) : Fin 2 → Nat :=
  let arg0 : BitVec 32 := BitVec.ofNat 32 (i 0).val
  let v140 : Index := Scalar.indexCast arg0
  let c6_89 : Index := 6#32
  ![v140.toNat, 6]
def k0_off98 (i : grid0.Coords) : Fin 2 → Nat :=
  let arg0 : BitVec 32 := BitVec.ofNat 32 (i 0).val
  let v142 : Index := Scalar.indexCast arg0
  let c7 : Index := 7#32
  ![v142.toNat, 7]
@[reducible] def k0_t13_loop (v141 : BitVec 32) (v143 : BitVec 32) : Scf.Loop 32 :=
  let v144 : BitVec 32 := Scalar.subi v143 v141
  let c1_i32_91 : BitVec 32 := 1#32
  let v146 : BitVec 32 := Scalar.divsi v144 c1_i32_91
  let v147 : BitVec 32 := Scalar.muli v146 c1_i32_91
  let v148 : BitVec 32 := Scalar.addi v141 v147
  let c1_i32_92 : BitVec 32 := 1#32
  ⟨v141, v148, c1_i32_92⟩

def k0_off99 (i : grid0.Coords) (v141 : BitVec 32) (v143 : BitVec 32) (k0_t13 : Fin (k0_t13_loop v141 v143).trips) : Fin 2 → Nat :=
  let arg0 : BitVec 32 := BitVec.ofNat 32 (i 0).val
  let v327 : Index := Scalar.indexCast arg0
  let c1_i32_92 : BitVec 32 := 1#32
  let arg11 : BitVec 32 := Scf.iv v141 c1_i32_92 k0_t13
  let v328 : Index := Scalar.indexCast arg11
  ![v327.toNat, v328.toNat]
def k0_mult13 (v329 : BitVec 32) : BitVec 32 :=
  let c128_i32 : BitVec 32 := 128#32
  let v330 : BitVec 32 := Scalar.muli v329 c128_i32
  v330

def k0_off100 (v141 : BitVec 32) (v143 : BitVec 32) (k0_t13 : Fin (k0_t13_loop v141 v143).trips) : Fin 4 → Nat :=
  let c0_200 : Index := 0#32
  let c1_i32_92 : BitVec 32 := 1#32
  let arg11 : BitVec 32 := Scf.iv v141 c1_i32_92 k0_t13
  let v333 : Index := Scalar.indexCast arg11
  let c0_201 : Index := 0#32
  let c0_202 : Index := 0#32
  ![0, v333.toNat, 0, 0]
def k0_off101 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off102 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c768_206 : Index := 768#32
  ![v349.toNat, 768]

def k0_chk20 (i : grid0.Coords) (v329 : BitVec 32) : Prop :=
  (∀ (k0_h1 : k0_cond1 i = 1#1), 128 ∣ (k0_mult13 v329).toNat) ∧
  (∀ (k0_h1 : k0_cond1 i = 1#1), ∀ (r : Fin 4), ∀ a, (k0_off101 v329 (BitVec.ofNat 32 (32 * r.val))) a + S32x128.size a ≤ S896x128.size a) ∧
  (∀ (k0_h1 : k0_cond1 i = 1#1), ∀ (r : Fin 4), ∀ a, (k0_off102 v329 (BitVec.ofNat 32 (32 * r.val))) a + S32x128.size a ≤ S896x896.size a) ∧
  (∀ (k0_h1 : k0_cond1 i = 1#1), ∀ (r : Fin 4), ∀ (hinb : ∀ a, (k0_off102 v329 (BitVec.ofNat 32 (32 * r.val))) a + S32x128.size a ≤ S896x896.size a), (Rect.unit (s := S896x896) (k0_off102 v329 (BitVec.ofNat 32 (32 * r.val))) S32x128.size hinb).PackedRows (EltTy.packing .bf16))
theorem k0_mult13_dvd : ∀ (i : grid0.Coords) (v329 : BitVec 32) (k0_hw20 : k0_chk20 i v329), ∀ (k0_h1 : k0_cond1 i = 1#1), 128 ∣ (k0_mult13 v329).toNat := fun i v329 k0_hw20 k0_h1 => k0_hw20.1 k0_h1
theorem k0_off101_inb : ∀ (i : grid0.Coords) (v329 : BitVec 32) (k0_hw20 : k0_chk20 i v329), ∀ (k0_h1 : k0_cond1 i = 1#1), ∀ (r : Fin 4), ∀ a, (k0_off101 v329 (BitVec.ofNat 32 (32 * r.val))) a + S32x128.size a ≤ S896x128.size a := fun i v329 k0_hw20 k0_h1 r => k0_hw20.2.1 k0_h1 r
theorem k0_off102_inb : ∀ (i : grid0.Coords) (v329 : BitVec 32) (k0_hw20 : k0_chk20 i v329), ∀ (k0_h1 : k0_cond1 i = 1#1), ∀ (r : Fin 4), ∀ a, (k0_off102 v329 (BitVec.ofNat 32 (32 * r.val))) a + S32x128.size a ≤ S896x896.size a := fun i v329 k0_hw20 k0_h1 r => k0_hw20.2.2.1 k0_h1 r
theorem k0_off102_packedbf16 : ∀ (i : grid0.Coords) (v329 : BitVec 32) (k0_hw20 : k0_chk20 i v329), ∀ (k0_h1 : k0_cond1 i = 1#1), ∀ (r : Fin 4), (Rect.unit (s := S896x896) (k0_off102 v329 (BitVec.ofNat 32 (32 * r.val))) S32x128.size (k0_off102_inb i v329 k0_hw20 k0_h1 r)).PackedRows (EltTy.packing .bf16) := fun i v329 k0_hw20 k0_h1 r => k0_hw20.2.2.2 k0_h1 r (k0_off102_inb i v329 k0_hw20 k0_h1 r)

def k0_off103 (v141 : BitVec 32) (v143 : BitVec 32) (k0_t13 : Fin (k0_t13_loop v141 v143).trips) : Fin 4 → Nat :=
  let c0_208 : Index := 0#32
  let c1_i32_92 : BitVec 32 := 1#32
  let arg11 : BitVec 32 := Scf.iv v141 c1_i32_92 k0_t13
  let v360 : Index := Scalar.indexCast arg11
  let c1_209 : Index := 1#32
  let c0_210 : Index := 0#32
  ![0, v360.toNat, 1, 0]
def k0_off104 (v141 : BitVec 32) (v143 : BitVec 32) (k0_t13 : Fin (k0_t13_loop v141 v143).trips) : Fin 4 → Nat :=
  let c0_216 : Index := 0#32
  let c1_i32_92 : BitVec 32 := 1#32
  let arg11 : BitVec 32 := Scf.iv v141 c1_i32_92 k0_t13
  let v387 : Index := Scalar.indexCast arg11
  let c2_217 : Index := 2#32
  let c0_218 : Index := 0#32
  ![0, v387.toNat, 2, 0]
def k0_off105 (v141 : BitVec 32) (v143 : BitVec 32) (k0_t13 : Fin (k0_t13_loop v141 v143).trips) : Fin 4 → Nat :=
  let c0_224 : Index := 0#32
  let c1_i32_92 : BitVec 32 := 1#32
  let arg11 : BitVec 32 := Scf.iv v141 c1_i32_92 k0_t13
  let v414 : Index := Scalar.indexCast arg11
  let c3_225 : Index := 3#32
  let c0_226 : Index := 0#32
  ![0, v414.toNat, 3, 0]
@[reducible] def k0_t14_loop (v141 : BitVec 32) (v143 : BitVec 32) : Scf.Loop 32 :=
  let v144 : BitVec 32 := Scalar.subi v143 v141
  let c1_i32_91 : BitVec 32 := 1#32
  let v146 : BitVec 32 := Scalar.divsi v144 c1_i32_91
  let v147 : BitVec 32 := Scalar.muli v146 c1_i32_91
  let v148 : BitVec 32 := Scalar.addi v141 v147
  let v145 : BitVec 32 := Scalar.addi v141 v144
  let c1_i32_93 : BitVec 32 := 1#32
  ⟨v148, v145, c1_i32_93⟩
def k0_off106 (i : grid0.Coords) (v141 : BitVec 32) (v143 : BitVec 32) (k0_t14 : Fin (k0_t14_loop v141 v143).trips) : Fin 2 → Nat :=
  let arg0 : BitVec 32 := BitVec.ofNat 32 (i 0).val
  let v327 : Index := Scalar.indexCast arg0
  let v144 : BitVec 32 := Scalar.subi v143 v141
  let c1_i32_91 : BitVec 32 := 1#32
  let v146 : BitVec 32 := Scalar.divsi v144 c1_i32_91
  let v147 : BitVec 32 := Scalar.muli v146 c1_i32_91
  let v148 : BitVec 32 := Scalar.addi v141 v147
  let c1_i32_93 : BitVec 32 := 1#32
  let arg11 : BitVec 32 := Scf.iv v148 c1_i32_93 k0_t14
  let v328 : Index := Scalar.indexCast arg11
  ![v327.toNat, v328.toNat]
def k0_mult14 (v329 : BitVec 32) : BitVec 32 :=
  let c128_i32 : BitVec 32 := 128#32
  let v330 : BitVec 32 := Scalar.muli v329 c128_i32
  v330

def k0_off107 (v141 : BitVec 32) (v143 : BitVec 32) (k0_t14 : Fin (k0_t14_loop v141 v143).trips) : Fin 4 → Nat :=
  let c0_200 : Index := 0#32
  let v144 : BitVec 32 := Scalar.subi v143 v141
  let c1_i32_91 : BitVec 32 := 1#32
  let v146 : BitVec 32 := Scalar.divsi v144 c1_i32_91
  let v147 : BitVec 32 := Scalar.muli v146 c1_i32_91
  let v148 : BitVec 32 := Scalar.addi v141 v147
  let c1_i32_93 : BitVec 32 := 1#32
  let arg11 : BitVec 32 := Scf.iv v148 c1_i32_93 k0_t14
  let v333 : Index := Scalar.indexCast arg11
  let c0_201 : Index := 0#32
  let c0_202 : Index := 0#32
  ![0, v333.toNat, 0, 0]
def k0_off108 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v342 : Index := Scalar.indexCast v332
  let c0_204 : Index := 0#32
  ![v342.toNat, 0]
def k0_off109 (v329 : BitVec 32) (c0_i32_199 : BitVec 32) : Fin 2 → Nat :=
  let c128_i32 : BitVec 32 := 128#32
  let v330 : BitVec 32 := Scalar.muli v329 c128_i32
  let v331 : BitVec 32 := v330
  let v332 : BitVec 32 := Scalar.addi v331 c0_i32_199
  let v349 : Index := Scalar.indexCast v332
  let c768_206 : Index := 768#32
  ![v349.toNat, 768]

def k0_chk21 (i : grid0.Coords) (v329 : BitVec 32) : Prop :=
  (∀ (k0_h1 : k0_cond1 i = 1#1), 128 ∣ (k0_mult14 v329).toNat) ∧
  (∀ (k0_h1 : k0_cond1 i = 1#1), ∀ (r : Fin 4), ∀ a, (k0_off108 v329 (BitVec.ofNat 32 (32 * r.val))) a + S32x128.size a ≤ S896x128.size a) ∧
  (∀ (k0_h1 : k0_cond1 i = 1#1), ∀ (r : Fin 4), ∀ a, (k0_off109 v329 (BitVec.ofNat 32 (32 * r.val))) a + S32x128.size a ≤ S896x896.size a) ∧
  (∀ (k0_h1 : k0_cond1 i = 1#1), ∀ (r : Fin 4), ∀ (hinb : ∀ a, (k0_off109 v329 (BitVec.ofNat 32 (32 * r.val))) a + S32x128.size a ≤ S896x896.size a), (Rect.unit (s := S896x896) (k0_off109 v329 (BitVec.ofNat 32 (32 * r.val))) S32x128.size hinb).PackedRows (EltTy.packing .bf16))
theorem k0_mult14_dvd : ∀ (i : grid0.Coords) (v329 : BitVec 32) (k0_hw21 : k0_chk21 i v329), ∀ (k0_h1 : k0_cond1 i = 1#1), 128 ∣ (k0_mult14 v329).toNat := fun i v329 k0_hw21 k0_h1 => k0_hw21.1 k0_h1
theorem k0_off108_inb : ∀ (i : grid0.Coords) (v329 : BitVec 32) (k0_hw21 : k0_chk21 i v329), ∀ (k0_h1 : k0_cond1 i = 1#1), ∀ (r : Fin 4), ∀ a, (k0_off108 v329 (BitVec.ofNat 32 (32 * r.val))) a + S32x128.size a ≤ S896x128.size a := fun i v329 k0_hw21 k0_h1 r => k0_hw21.2.1 k0_h1 r
theorem k0_off109_inb : ∀ (i : grid0.Coords) (v329 : BitVec 32) (k0_hw21 : k0_chk21 i v329), ∀ (k0_h1 : k0_cond1 i = 1#1), ∀ (r : Fin 4), ∀ a, (k0_off109 v329 (BitVec.ofNat 32 (32 * r.val))) a + S32x128.size a ≤ S896x896.size a := fun i v329 k0_hw21 k0_h1 r => k0_hw21.2.2.1 k0_h1 r
theorem k0_off109_packedbf16 : ∀ (i : grid0.Coords) (v329 : BitVec 32) (k0_hw21 : k0_chk21 i v329), ∀ (k0_h1 : k0_cond1 i = 1#1), ∀ (r : Fin 4), (Rect.unit (s := S896x896) (k0_off109 v329 (BitVec.ofNat 32 (32 * r.val))) S32x128.size (k0_off109_inb i v329 k0_hw21 k0_h1 r)).PackedRows (EltTy.packing .bf16) := fun i v329 k0_hw21 k0_h1 r => k0_hw21.2.2.2 k0_h1 r (k0_off109_inb i v329 k0_hw21 k0_h1 r)

def k0_off110 (v141 : BitVec 32) (v143 : BitVec 32) (k0_t14 : Fin (k0_t14_loop v141 v143).trips) : Fin 4 → Nat :=
  let c0_208 : Index := 0#32
  let v144 : BitVec 32 := Scalar.subi v143 v141
  let c1_i32_91 : BitVec 32 := 1#32
  let v146 : BitVec 32 := Scalar.divsi v144 c1_i32_91
  let v147 : BitVec 32 := Scalar.muli v146 c1_i32_91
  let v148 : BitVec 32 := Scalar.addi v141 v147
  let c1_i32_93 : BitVec 32 := 1#32
  let arg11 : BitVec 32 := Scf.iv v148 c1_i32_93 k0_t14
  let v360 : Index := Scalar.indexCast arg11
  let c1_209 : Index := 1#32
  let c0_210 : Index := 0#32
  ![0, v360.toNat, 1, 0]
def k0_off111 (v141 : BitVec 32) (v143 : BitVec 32) (k0_t14 : Fin (k0_t14_loop v141 v143).trips) : Fin 4 → Nat :=
  let c0_216 : Index := 0#32
  let v144 : BitVec 32 := Scalar.subi v143 v141
  let c1_i32_91 : BitVec 32 := 1#32
  let v146 : BitVec 32 := Scalar.divsi v144 c1_i32_91
  let v147 : BitVec 32 := Scalar.muli v146 c1_i32_91
  let v148 : BitVec 32 := Scalar.addi v141 v147
  let c1_i32_93 : BitVec 32 := 1#32
  let arg11 : BitVec 32 := Scf.iv v148 c1_i32_93 k0_t14
  let v387 : Index := Scalar.indexCast arg11
  let c2_217 : Index := 2#32
  let c0_218 : Index := 0#32
  ![0, v387.toNat, 2, 0]
def k0_off112 (v141 : BitVec 32) (v143 : BitVec 32) (k0_t14 : Fin (k0_t14_loop v141 v143).trips) : Fin 4 → Nat :=
  let c0_224 : Index := 0#32
  let v144 : BitVec 32 := Scalar.subi v143 v141
  let c1_i32_91 : BitVec 32 := 1#32
  let v146 : BitVec 32 := Scalar.divsi v144 c1_i32_91
  let v147 : BitVec 32 := Scalar.muli v146 c1_i32_91
  let v148 : BitVec 32 := Scalar.addi v141 v147
  let c1_i32_93 : BitVec 32 := 1#32
  let arg11 : BitVec 32 := Scf.iv v148 c1_i32_93 k0_t14
  let v414 : Index := Scalar.indexCast arg11
  let c3_225 : Index := 3#32
  let c0_226 : Index := 0#32
  ![0, v414.toNat, 3, 0]

def k0_chk19 (i : grid0.Coords) (v141 : BitVec 32) (v143 : BitVec 32) : Prop :=
  (∀ (k0_h1 : k0_cond1 i = 1#1), (k0_t13_loop v141 v143).OK) ∧
  (∀ k0_t13 : Fin (k0_t13_loop v141 v143).trips, ∀ (k0_h1 : k0_cond1 i = 1#1), ∀ a, (k0_off99 i v141 v143 k0_t13) a + S1x1.size a ≤ S2x42.size a) ∧
  (∀ k0_t13 : Fin (k0_t13_loop v141 v143).trips, ∀ (k0_h1 : k0_cond1 i = 1#1), ∀ a, (k0_off100 v141 v143 k0_t13) a + S1x1x1x128.size a ≤ S1x42x4x128.size a) ∧
  (∀ k0_t13 : Fin (k0_t13_loop v141 v143).trips, ∀ (k0_h1 : k0_cond1 i = 1#1), ∀ a, (k0_off103 v141 v143 k0_t13) a + S1x1x1x128.size a ≤ S1x42x4x128.size a) ∧
  (∀ k0_t13 : Fin (k0_t13_loop v141 v143).trips, ∀ (k0_h1 : k0_cond1 i = 1#1), ∀ a, (k0_off104 v141 v143 k0_t13) a + S1x1x1x128.size a ≤ S1x42x4x128.size a) ∧
  (∀ k0_t13 : Fin (k0_t13_loop v141 v143).trips, ∀ (k0_h1 : k0_cond1 i = 1#1), ∀ a, (k0_off105 v141 v143 k0_t13) a + S1x1x1x128.size a ≤ S1x42x4x128.size a) ∧
  (∀ (k0_h1 : k0_cond1 i = 1#1), (k0_t14_loop v141 v143).OK) ∧
  (∀ k0_t14 : Fin (k0_t14_loop v141 v143).trips, ∀ (k0_h1 : k0_cond1 i = 1#1), ∀ a, (k0_off106 i v141 v143 k0_t14) a + S1x1.size a ≤ S2x42.size a) ∧
  (∀ k0_t14 : Fin (k0_t14_loop v141 v143).trips, ∀ (k0_h1 : k0_cond1 i = 1#1), ∀ a, (k0_off107 v141 v143 k0_t14) a + S1x1x1x128.size a ≤ S1x42x4x128.size a) ∧
  (∀ k0_t14 : Fin (k0_t14_loop v141 v143).trips, ∀ (k0_h1 : k0_cond1 i = 1#1), ∀ a, (k0_off110 v141 v143 k0_t14) a + S1x1x1x128.size a ≤ S1x42x4x128.size a) ∧
  (∀ k0_t14 : Fin (k0_t14_loop v141 v143).trips, ∀ (k0_h1 : k0_cond1 i = 1#1), ∀ a, (k0_off111 v141 v143 k0_t14) a + S1x1x1x128.size a ≤ S1x42x4x128.size a) ∧
  (∀ k0_t14 : Fin (k0_t14_loop v141 v143).trips, ∀ (k0_h1 : k0_cond1 i = 1#1), ∀ a, (k0_off112 v141 v143 k0_t14) a + S1x1x1x128.size a ≤ S1x42x4x128.size a)
theorem k0_t13_ok : ∀ (i : grid0.Coords) (v141 : BitVec 32) (v143 : BitVec 32) (k0_hw19 : k0_chk19 i v141 v143), ∀ (k0_h1 : k0_cond1 i = 1#1), (k0_t13_loop v141 v143).OK := fun i v141 v143 k0_hw19 k0_h1 => k0_hw19.1 k0_h1
theorem k0_off99_inb : ∀ (i : grid0.Coords) (v141 : BitVec 32) (v143 : BitVec 32) (k0_hw19 : k0_chk19 i v141 v143) (k0_t13 : Fin (k0_t13_loop v141 v143).trips), ∀ (k0_h1 : k0_cond1 i = 1#1), ∀ a, (k0_off99 i v141 v143 k0_t13) a + S1x1.size a ≤ S2x42.size a := fun i v141 v143 k0_hw19 k0_t13 k0_h1 => k0_hw19.2.1 k0_t13 k0_h1
theorem k0_off100_inb : ∀ (i : grid0.Coords) (v141 : BitVec 32) (v143 : BitVec 32) (k0_hw19 : k0_chk19 i v141 v143) (k0_t13 : Fin (k0_t13_loop v141 v143).trips), ∀ (k0_h1 : k0_cond1 i = 1#1), ∀ a, (k0_off100 v141 v143 k0_t13) a + S1x1x1x128.size a ≤ S1x42x4x128.size a := fun i v141 v143 k0_hw19 k0_t13 k0_h1 => k0_hw19.2.2.1 k0_t13 k0_h1
theorem k0_off103_inb : ∀ (i : grid0.Coords) (v141 : BitVec 32) (v143 : BitVec 32) (k0_hw19 : k0_chk19 i v141 v143) (k0_t13 : Fin (k0_t13_loop v141 v143).trips), ∀ (k0_h1 : k0_cond1 i = 1#1), ∀ a, (k0_off103 v141 v143 k0_t13) a + S1x1x1x128.size a ≤ S1x42x4x128.size a := fun i v141 v143 k0_hw19 k0_t13 k0_h1 => k0_hw19.2.2.2.1 k0_t13 k0_h1
theorem k0_off104_inb : ∀ (i : grid0.Coords) (v141 : BitVec 32) (v143 : BitVec 32) (k0_hw19 : k0_chk19 i v141 v143) (k0_t13 : Fin (k0_t13_loop v141 v143).trips), ∀ (k0_h1 : k0_cond1 i = 1#1), ∀ a, (k0_off104 v141 v143 k0_t13) a + S1x1x1x128.size a ≤ S1x42x4x128.size a := fun i v141 v143 k0_hw19 k0_t13 k0_h1 => k0_hw19.2.2.2.2.1 k0_t13 k0_h1
theorem k0_off105_inb : ∀ (i : grid0.Coords) (v141 : BitVec 32) (v143 : BitVec 32) (k0_hw19 : k0_chk19 i v141 v143) (k0_t13 : Fin (k0_t13_loop v141 v143).trips), ∀ (k0_h1 : k0_cond1 i = 1#1), ∀ a, (k0_off105 v141 v143 k0_t13) a + S1x1x1x128.size a ≤ S1x42x4x128.size a := fun i v141 v143 k0_hw19 k0_t13 k0_h1 => k0_hw19.2.2.2.2.2.1 k0_t13 k0_h1
theorem k0_t14_ok : ∀ (i : grid0.Coords) (v141 : BitVec 32) (v143 : BitVec 32) (k0_hw19 : k0_chk19 i v141 v143), ∀ (k0_h1 : k0_cond1 i = 1#1), (k0_t14_loop v141 v143).OK := fun i v141 v143 k0_hw19 k0_h1 => k0_hw19.2.2.2.2.2.2.1 k0_h1
theorem k0_off106_inb : ∀ (i : grid0.Coords) (v141 : BitVec 32) (v143 : BitVec 32) (k0_hw19 : k0_chk19 i v141 v143) (k0_t14 : Fin (k0_t14_loop v141 v143).trips), ∀ (k0_h1 : k0_cond1 i = 1#1), ∀ a, (k0_off106 i v141 v143 k0_t14) a + S1x1.size a ≤ S2x42.size a := fun i v141 v143 k0_hw19 k0_t14 k0_h1 => k0_hw19.2.2.2.2.2.2.2.1 k0_t14 k0_h1
theorem k0_off107_inb : ∀ (i : grid0.Coords) (v141 : BitVec 32) (v143 : BitVec 32) (k0_hw19 : k0_chk19 i v141 v143) (k0_t14 : Fin (k0_t14_loop v141 v143).trips), ∀ (k0_h1 : k0_cond1 i = 1#1), ∀ a, (k0_off107 v141 v143 k0_t14) a + S1x1x1x128.size a ≤ S1x42x4x128.size a := fun i v141 v143 k0_hw19 k0_t14 k0_h1 => k0_hw19.2.2.2.2.2.2.2.2.1 k0_t14 k0_h1
theorem k0_off110_inb : ∀ (i : grid0.Coords) (v141 : BitVec 32) (v143 : BitVec 32) (k0_hw19 : k0_chk19 i v141 v143) (k0_t14 : Fin (k0_t14_loop v141 v143).trips), ∀ (k0_h1 : k0_cond1 i = 1#1), ∀ a, (k0_off110 v141 v143 k0_t14) a + S1x1x1x128.size a ≤ S1x42x4x128.size a := fun i v141 v143 k0_hw19 k0_t14 k0_h1 => k0_hw19.2.2.2.2.2.2.2.2.2.1 k0_t14 k0_h1
theorem k0_off111_inb : ∀ (i : grid0.Coords) (v141 : BitVec 32) (v143 : BitVec 32) (k0_hw19 : k0_chk19 i v141 v143) (k0_t14 : Fin (k0_t14_loop v141 v143).trips), ∀ (k0_h1 : k0_cond1 i = 1#1), ∀ a, (k0_off111 v141 v143 k0_t14) a + S1x1x1x128.size a ≤ S1x42x4x128.size a := fun i v141 v143 k0_hw19 k0_t14 k0_h1 => k0_hw19.2.2.2.2.2.2.2.2.2.2.1 k0_t14 k0_h1
theorem k0_off112_inb : ∀ (i : grid0.Coords) (v141 : BitVec 32) (v143 : BitVec 32) (k0_hw19 : k0_chk19 i v141 v143) (k0_t14 : Fin (k0_t14_loop v141 v143).trips), ∀ (k0_h1 : k0_cond1 i = 1#1), ∀ a, (k0_off112 v141 v143 k0_t14) a + S1x1x1x128.size a ≤ S1x42x4x128.size a := fun i v141 v143 k0_hw19 k0_t14 k0_h1 => k0_hw19.2.2.2.2.2.2.2.2.2.2.2 k0_t14 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x42 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x42x4x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x896x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x896x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x896x3584 : Shape := ⟨3, ![2, 896, 3584]⟩
abbrev S2x896 : Shape := ⟨2, ![2, 896]⟩
abbrev S2x8 : Shape := ⟨2, ![2, 8]⟩
abbrev S2x42 : Shape := ⟨2, ![2, 42]⟩
abbrev S2x42x128x4 : Shape := ⟨4, ![2, 42, 128, 4]⟩
abbrev S2x896x1 : Shape := ⟨3, ![2, 896, 1]⟩
abbrev S2x42x128x4x1 : Shape := ⟨5, ![2, 42, 128, 4, 1]⟩
abbrev S2x42x128x4x32 : Shape := ⟨5, ![2, 42, 128, 4, 32]⟩
abbrev S_ : Shape := ⟨0, ![]⟩
abbrev S2x42x128x128 : Shape := ⟨4, ![2, 42, 128, 128]⟩
abbrev S42 : Shape := ⟨1, ![42]⟩
abbrev S1x42 : Shape := ⟨2, ![1, 42]⟩
abbrev S2x1 : Shape := ⟨2, ![2, 1]⟩
abbrev S2x7 : Shape := ⟨2, ![2, 7]⟩
abbrev S2x1x7 : Shape := ⟨3, ![2, 1, 7]⟩
abbrev S1x42x1 : Shape := ⟨3, ![1, 42, 1]⟩
abbrev S2x42x7 : Shape := ⟨3, ![2, 42, 7]⟩
abbrev S2x42x1x1 : Shape := ⟨4, ![2, 42, 1, 1]⟩
abbrev S2x7x128x3584 : Shape := ⟨4, ![2, 7, 128, 3584]⟩
abbrev S2 : Shape := ⟨1, ![2]⟩
abbrev S2x42x1 : Shape := ⟨3, ![2, 42, 1]⟩
abbrev S2x42x2 : Shape := ⟨3, ![2, 42, 2]⟩
abbrev S2x42x128x3584 : Shape := ⟨4, ![2, 42, 128, 3584]⟩
abbrev S84 : Shape := ⟨1, ![84]⟩
abbrev S84x128x3584 : Shape := ⟨3, ![84, 128, 3584]⟩
abbrev S14x128x3584 : Shape := ⟨3, ![14, 128, 3584]⟩
abbrev S84x1 : Shape := ⟨2, ![84, 1]⟩
abbrev S2x42x128 : Shape := ⟨3, ![2, 42, 128]⟩
abbrev S84x128 : Shape := ⟨2, ![84, 128]⟩
abbrev S14x128 : Shape := ⟨2, ![14, 128]⟩

abbrev nBuf : Space → Nat
  | .hbm => 109
  | .vmem => 2
  | .smem => 0
  | _ => 0

abbrev bufTy : (tb : Table) → Fin (tcTables nBuf tb) → BufTy
  | .hbm, ⟨0, _⟩ => ⟨S2x896x3584, .fp8e4m3⟩
  | .hbm, ⟨1, _⟩ => ⟨S2x896, .f32⟩
  | .hbm, ⟨2, _⟩ => ⟨S2x8, .i32⟩
  | .hbm, ⟨3, _⟩ => ⟨S2x42, .i32⟩
  | .hbm, ⟨4, _⟩ => ⟨S2x42x128x4, .i32⟩
  | .hbm, ⟨5, _⟩ => ⟨S2x896x3584, .bf16⟩
  | .hbm, ⟨6, _⟩ => ⟨S2x896, .bf16⟩
  | .hbm, ⟨7, _⟩ => ⟨S2x896x1, .bf16⟩
  | .hbm, ⟨8, _⟩ => ⟨S2x896x3584, .bf16⟩
  | .hbm, ⟨9, _⟩ => ⟨S2x896x3584, .bf16⟩
  | .hbm, ⟨10, _⟩ => ⟨S2x42x128x4x1, .i32⟩
  | .hbm, ⟨11, _⟩ => ⟨S2x42x128x4x32, .i32⟩
  | .hbm, ⟨12, _⟩ => ⟨S2x42x128x4x32, .i32⟩
  | .hbm, ⟨13, _⟩ => ⟨S2x42x128x4x32, .i32⟩
  | .hbm, ⟨14, _⟩ => ⟨S_, .i32⟩
  | .hbm, ⟨15, _⟩ => ⟨S2x42x128x4x32, .i32⟩
  | .hbm, ⟨16, _⟩ => ⟨S2x42x128x4x32, .i32⟩
  | .hbm, ⟨17, _⟩ => ⟨S2x42x128x128, .i32⟩
  | .hbm, ⟨18, _⟩ => ⟨S42, .i32⟩
  | .hbm, ⟨19, _⟩ => ⟨S1x42, .i32⟩
  | .hbm, ⟨20, _⟩ => ⟨S2x1, .i32⟩
  | .hbm, ⟨21, _⟩ => ⟨S2x42, .i32⟩
  | .hbm, ⟨22, _⟩ => ⟨S2x42, .i32⟩
  | .hbm, ⟨23, _⟩ => ⟨S2x42, .i1⟩
  | .hbm, ⟨24, _⟩ => ⟨S2x7, .i32⟩
  | .hbm, ⟨25, _⟩ => ⟨S2x1x7, .i32⟩
  | .hbm, ⟨26, _⟩ => ⟨S1x42x1, .i32⟩
  | .hbm, ⟨27, _⟩ => ⟨S2x42x7, .i32⟩
  | .hbm, ⟨28, _⟩ => ⟨S2x42x7, .i32⟩
  | .hbm, ⟨29, _⟩ => ⟨S2x42x7, .i1⟩
  | .hbm, ⟨30, _⟩ => ⟨S2x42x7, .i32⟩
  | .hbm, ⟨31, _⟩ => ⟨S_, .i32⟩
  | .hbm, ⟨32, _⟩ => ⟨S2x42, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S2x42, .i32⟩
  | .hbm, ⟨37, _⟩ => ⟨S2x42, .i32⟩
  | .hbm, ⟨38, _⟩ => ⟨S_, .i32⟩
  | .hbm, ⟨39, _⟩ => ⟨S2x42, .i32⟩
  | .hbm, ⟨40, _⟩ => ⟨S2x42, .i32⟩
  | .hbm, ⟨41, _⟩ => ⟨S2x42x128x128, .bf16⟩
  | .hbm, ⟨42, _⟩ => ⟨S2x42, .bf16⟩
  | .hbm, ⟨43, _⟩ => ⟨S2x42x1x1, .bf16⟩
  | .hbm, ⟨44, _⟩ => ⟨S2x42x128x128, .bf16⟩
  | .hbm, ⟨45, _⟩ => ⟨S2x42x128x128, .bf16⟩
  | .hbm, ⟨46, _⟩ => ⟨S2x7x128x3584, .bf16⟩
  | .hbm, ⟨47, _⟩ => ⟨S2, .i32⟩
  | .hbm, ⟨48, _⟩ => ⟨S2x1, .i32⟩
  | .hbm, ⟨49, _⟩ => ⟨S_, .i32⟩
  | .hbm, ⟨50, _⟩ => ⟨S2x1, .i32⟩
  | .hbm, ⟨51, _⟩ => ⟨S2x1, .i1⟩
  | .hbm, ⟨52, _⟩ => ⟨S_, .i32⟩
  | .hbm, ⟨53, _⟩ => ⟨S2x1, .i32⟩
  | .hbm, ⟨54, _⟩ => ⟨S2x1, .i32⟩
  | .hbm, ⟨55, _⟩ => ⟨S2x1, .i32⟩
  | .hbm, ⟨56, _⟩ => ⟨S_, .i32⟩
  | .hbm, ⟨57, _⟩ => ⟨S2x42, .i32⟩
  | .hbm, ⟨58, _⟩ => ⟨S2x42, .i1⟩
  | .hbm, ⟨59, _⟩ => ⟨S_, .i32⟩
  | .hbm, ⟨60, _⟩ => ⟨S2x42, .i32⟩
  | .hbm, ⟨61, _⟩ => ⟨S2x42, .i32⟩
  | .hbm, ⟨62, _⟩ => ⟨S2x42, .i32⟩
  | .hbm, ⟨63, _⟩ => ⟨S2x42, .i32⟩
  | .hbm, ⟨64, _⟩ => ⟨S2x42x1, .i32⟩
  | .hbm, ⟨65, _⟩ => ⟨S2x42x1, .i32⟩
  | .hbm, ⟨66, _⟩ => ⟨S2x42x2, .i32⟩
  | .hbm, ⟨67, _⟩ => ⟨S2x42x128x3584, .bf16⟩
  | .hbm, ⟨68, _⟩ => ⟨S2x42x128x3584, .f32⟩
  | .hbm, ⟨69, _⟩ => ⟨S2, .i32⟩
  | .hbm, ⟨70, _⟩ => ⟨S2x1, .i32⟩
  | .hbm, ⟨71, _⟩ => ⟨S_, .i32⟩
  | .hbm, ⟨72, _⟩ => ⟨S2x1, .i32⟩
  | .hbm, ⟨73, _⟩ => ⟨S2x1, .i32⟩
  | .hbm, ⟨74, _⟩ => ⟨S2x42, .i32⟩
  | .hbm, ⟨75, _⟩ => ⟨S2x42, .i32⟩
  | .hbm, ⟨76, _⟩ => ⟨S84, .i32⟩
  | .hbm, ⟨77, _⟩ => ⟨S84x128x3584, .f32⟩
  | .hbm, ⟨78, _⟩ => ⟨S_, .f32⟩
  | .hbm, ⟨79, _⟩ => ⟨S14x128x3584, .f32⟩
  | .hbm, ⟨80, _⟩ => ⟨S84x1, .i32⟩
  | .hbm, ⟨81, _⟩ => ⟨S14x128x3584, .f32⟩
  | .hbm, ⟨82, _⟩ => ⟨S2x896x3584, .f32⟩
  | .hbm, ⟨83, _⟩ => ⟨S2x42x128x128, .f32⟩
  | .hbm, ⟨84, _⟩ => ⟨S_, .f32⟩
  | .hbm, ⟨85, _⟩ => ⟨S2x42x128, .f32⟩
  | .hbm, ⟨86, _⟩ => ⟨S84x128, .f32⟩
  | .hbm, ⟨87, _⟩ => ⟨S_, .f32⟩
  | .hbm, ⟨88, _⟩ => ⟨S14x128, .f32⟩
  | .hbm, ⟨89, _⟩ => ⟨S84x1, .i32⟩
  | .hbm, ⟨90, _⟩ => ⟨S14x128, .f32⟩
  | .hbm, ⟨91, _⟩ => ⟨S2x896, .f32⟩
  | .hbm, ⟨92, _⟩ => ⟨S_, .f32⟩
  | .hbm, ⟨93, _⟩ => ⟨S2x896, .f32⟩
  | .hbm, ⟨94, _⟩ => ⟨S2x896, .i1⟩
  | .hbm, ⟨95, _⟩ => ⟨S_, .f32⟩
  | .hbm, ⟨96, _⟩ => ⟨S_, .f32⟩
  | .hbm, ⟨97, _⟩ => ⟨S2x896, .f32⟩
  | .hbm, ⟨98, _⟩ => ⟨S2x896, .f32⟩
  | .hbm, ⟨99, _⟩ => ⟨S2x896x1, .i1⟩
  | .hbm, ⟨100, _⟩ => ⟨S2x896x1, .f32⟩
  | .hbm, ⟨101, _⟩ => ⟨S2x896x3584, .f32⟩
  | .hbm, ⟨102, _⟩ => ⟨S2x896x3584, .f32⟩
  | .hbm, ⟨103, _⟩ => ⟨S_, .f32⟩
  | .hbm, ⟨104, _⟩ => ⟨S_, .f32⟩
  | .hbm, ⟨105, _⟩ => ⟨S2x896x3584, .i1⟩
  | .hbm, ⟨106, _⟩ => ⟨S2x896x3584, .f32⟩
  | .hbm, ⟨107, _⟩ => ⟨S2x896x3584, .f32⟩
  | .hbm, ⟨108, _⟩ => ⟨S2x896x3584, .bf16⟩
  | .local _ .vmem, ⟨0, _⟩ => ⟨S2x896x3584, .fp8e4m3⟩
  | .local _ .vmem, ⟨1, _⟩ => ⟨S2x896x3584, .bf16⟩
  | _, _ => ⟨S2x896x3584, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_0 : Ref sig .tc := ⟨.hbm, 31, rfl⟩
abbrev main_v25 : Ref sig .tc := ⟨.hbm, 32, rfl⟩
abbrev main_c_1 : Ref sig .tc := ⟨.hbm, 33, rfl⟩
abbrev main_c_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_3 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_cst_11 : Ref sig .tc := ⟨.hbm, 95, rfl⟩
abbrev main_call1_v0 : Ref sig .tc := ⟨.hbm, 96, rfl⟩
abbrev main_call1_v1 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x896x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Own.lean ====
/-
  Loads and stores of a memref owned at known contents. `owns c M q X` says that core `c` owns the elements of `M` and
  reads the array `X` through it. A load of a block returns the block of `X`; a store of a block leaves `X` with the block
  replaced (`put`).
-/
module

public import Idealize.ShloMosaic.Lib.Exec
public import Idealize.ShloMosaic.Lib.Tactic
public import Idealize.ShloMosaic.Lib.Pipeline.Kit
public import Idealize.ShloMosaic.Lib.WritesUnit

@[expose] public section

noncomputable section

namespace Cert.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The block of the array `X` at offsets `off` of sizes `size`. -/
def block {s : Shape} {α : Type} (X : s.Idx → α) (off size : Fin s.rank → ℕ) (inb : ∀ a, off a + size a ≤ s.size a) :
    (Rect.unit off size inb).shape.Idx → α :=
  fun x => X ((Rect.unit off size inb).emb x)

/-- The array `X` with the block at offsets `off` of sizes `size` replaced by `w`. -/
def put {s : Shape} {α : Type} (X : s.Idx → α) (off size : Fin s.rank → ℕ) (inb : ∀ a, off a + size a ≤ s.size a)
    (w : (Rect.unit off size inb).shape.Idx → α) : s.Idx → α :=
  fun y => if h : ∀ a, off a ≤ (y a).val ∧ (y a).val < off a + size a then w (Rect.unitLocal (s := s) (off := off) (size := size) y h) else X y

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] (defs : Defs nD τ sig Val Λ) (𝒱 : Variants) (c : Thread nD τ) (bd : Option 𝒱.V) (E : Set Name)
variable {s : Shape} {e : EltTy} {α : Type} {Q : α → sProp (MT nD τ sig Ix Val Name U Lvl)}

/-- A load of the block at `off` of a memref owned at `X` returns that block of `X`. -/
theorem owns_load {cs : CoreSpace} (m : Memref sig c.2.kind cs s e) (X : s.Idx → Val e) {off size : Fin s.rank → ℕ}
    {inb : ∀ a, off a + size a ≤ s.size a} {hl : m.view.LoadsAt (Rect.unit off size inb).toLoadRect}
    {k : ((Rect.unit off size inb).shape.Idx → Val e) → Prog (TpuEff nD τ sig Val Λ c.2) α} :
    (owns c m fullShare X : sProp (MT nD τ sig Ix Val Name U Lvl))
      ⊢ iprop((owns c m fullShare X -∗ wp frame (wpE defs 𝒱 c bd) E (k (block X off size inb)) Q)
        -∗ wp frame (wpE defs 𝒱 c bd) E (.op (.load m (Rect.unit off size inb).toLoadRect hl) k) Q) := by
  rw [show (owns c m fullShare X : sProp (MT nD τ sig Ix Val Name U Lvl))
    = iprop(∃ f, ⌜m.view.read Val f = X⌝ ∗ m.view.loc c ↦[m.view.set]{fullShare} f) from rfl]
  iintro ⟨%f, %hf, H⟩ Hk
  have hS : m.view.setOn (Rect.unit off size inb).toLoadRect.set ⊆ m.view.set := by
    unfold View.setOn View.set
    exact Finset.map_subset_map.mpr (Finset.subset_univ _)
  iapply (wp_load 𝒱 c bd E (Q := Q) (r := (Rect.unit off size inb).toLoadRect) (hl := hl) (f := f) (q := fullShare) hS) $$ H
  iintro H
  have hb : m.view.readAt Val (Rect.unit off size inb).toLoadRect f = block X off size inb := by
    subst hf; rfl
  rw [hb]
  iapply Hk
  iexists f
  isplitr
  · ipureintro; exact hf
  · iexact H

/-- A store of the block at `off` of a memref owned at `X` leaves `X` with that block replaced. -/
theorem owns_store {cs : CoreSpace} (m : Memref sig c.2.kind cs s e) (X : s.Idx → Val e) {off size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} :
    (owns c m fullShare X : sProp (MT nD τ sig Ix Val Name U Lvl))
      ⊢ iprop((owns c m fullShare (put X off size inb w) -∗ wp frame (wpE defs 𝒱 c bd) E (k ⟨⟩) Q)
        -∗ wp frame (wpE defs 𝒱 c bd) E (.op (.store m (Rect.unit off size inb) w Finset.univ hx hm) k) Q) := by
  rw [show (owns c m fullShare X : sProp (MT nD τ sig Ix Val Name U Lvl))
    = iprop(∃ f, ⌜m.view.read Val f = X⌝ ∗ m.view.loc c ↦[m.view.set]{fullShare} f) from rfl,
    show (owns c m fullShare (put X off size inb w) : sProp (MT nD τ sig Ix Val Name U Lvl))
    = iprop(∃ f, ⌜m.view.read Val f = put X off size inb w⌝ ∗ m.view.loc c ↦[m.view.set]{fullShare} f) from rfl]
  iintro ⟨%f, %hf, H⟩ Hk
  have hS : (m.access (Rect.unit off size inb)).set ⊆ m.view.set := View.set_slice_subset _ _
  iapply (wp_store_writes₀ 𝒱 c bd E (Q := Q) (m := m) (r := Rect.unit off size inb) (w := w) (hx := hx) (hm := hm) (f := f) hS) $$ H
  iintro H
  iapply Hk
  iexists _
  isplitr
  · ipureintro
    refine funext fun y => ?_
    rw [View.read_writes_cons_unit m.view f inb w [] y rfl]
    unfold put
    subst hf
    rfl
  · iexact H

/-- A load of one word of scalar memory owned at `X` returns that word of `X`. -/
theorem owns_smemLoad (m : Memref sig c.2.kind .smem s e) (X : s.Idx → Val e) {off size : Fin s.rank → ℕ}
    {inb : ∀ a, off a + size a ≤ s.size a} {h1 : (Rect.unit off size inb).shape.numel = 1} {hp : e.packing = 1}
    {k : Val e → Prog (TpuEff nD τ sig Val Λ c.2) α} :
    (owns c m fullShare X : sProp (MT nD τ sig Ix Val Name U Lvl))
      ⊢ iprop((owns c m fullShare X -∗ wp frame (wpE defs 𝒱 c bd) E
            (k (block X off size inb (Shape.Idx.first (h1.symm ▸ Nat.one_pos)))) Q)
        -∗ wp frame (wpE defs 𝒱 c bd) E (smemLoad m (Rect.unit off size inb) h1 hp >>= k) Q) := by
  exact owns_load defs 𝒱 c bd E m X (k := fun f => k (f (Shape.Idx.first (h1.symm ▸ Nat.one_pos))))

end Cert.Agg
-- ==== Proof.Trip.lean ====
/-
  One adjacency block of the build, as a program over the memrefs it touches. The block in slot `t` of batch `b` is named by
  its column (a word of scalar memory) and holds a mask of 128 × 128 bits, packed in four rows of 128 words. The program adds
  the bits to 128 rows of the degree buffer and the bits times the row's scales to a 128 × 128 block of the matrix buffer,
  one row of words (32 rows of the buffers) after another.
-/
module

public import proofs.«01_k».proof.Proof.Own
public import Idealize.ShloMosaic.Lib.ValueIdxCore
public import Idealize.ShloMosaic.Lib.Pipeline.Value

@[expose] public section

noncomputable section

namespace Cert.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

abbrev S1x1 : Shape := ⟨2, ![1, 1]⟩
abbrev S2x42 : Shape := ⟨2, ![2, 42]⟩
abbrev S1x128 : Shape := ⟨2, ![1, 128]⟩
abbrev S32x128 : Shape := ⟨2, ![32, 128]⟩
abbrev S896x128 : Shape := ⟨2, ![896, 128]⟩
abbrev S896x896 : Shape := ⟨2, ![896, 896]⟩
abbrev S1x1x1x128 : Shape := ⟨4, ![1, 1, 1, 128]⟩
abbrev S1x42x4x128 : Shape := ⟨4, ![1, 42, 4, 128]⟩

section
variable {F : FTy → Type} [FloatOps F]

theorem h_S32x128 : 0 < S32x128.numel := by decide
theorem h_S1x1x1x128 : 0 < S1x1x1x128.numel := by decide
theorem numel1_S1x1 : S1x1.numel = 1 := by decide

/-- The bits of one row of words as floats: row `s`, lane `i` of the result is bit `s` of word `i`. -/
def bitsOf (sub : IVec S32x128 32) (x : Vec F S1x1x1x128 .i32) : FVec F S32x128 .f32 :=
  sitofp .f32 (andi (shrui (broadcastTo S32x128 (shapeCast S1x128 (shapeCast S1x128 x (by decide)) (by decide)) (by decide)) sub)
    (broadcast S32x128 1#32))

/-- The 32 rows of degrees with the bits added. -/
def payD (sub : IVec S32x128 32) (x : Vec F S1x1x1x128 .i32) (d : Vec F S32x128 .f32) : FVec F S32x128 .f32 :=
  shapeCast S32x128 (addf d (bitsOf sub x)) (by decide)

/-- The 32 rows of a matrix block with the scaled bits added. -/
def payL (sub : IVec S32x128 32) (s : FVec F S1x128 .f32) (x : Vec F S1x1x1x128 .i32) (l : Vec F S32x128 .bf16) : FVec F S32x128 .bf16 :=
  shapeCast S32x128 (addf l (truncf .bf16 (mulf (bitsOf sub x) (broadcastTo S32x128 s (by decide))) (by decide))) (by decide)

variable {sig : RefSig} {Λ : Labels} {α : Type}

/-- One row of words: read it, add its bits to 32 rows of degrees and, scaled, to 32 rows of the matrix; then go on as `k`. -/
def wordProg (arg5 : Memref sig .tc .vmem S1x42x4x128 .i32) (arg9 : Memref sig .tc .vmem S896x896 .bf16)
    (arg10 : Memref sig .tc .vmem S896x128 .f32) (sub : IVec S32x128 32) (s : FVec F S1x128 .f32)
    (o5 : Fin 4 → ℕ) (h5 : ∀ a, o5 a + S1x1x1x128.size a ≤ S1x42x4x128.size a)
    (oD : Fin 2 → ℕ) (hD : ∀ a, oD a + S32x128.size a ≤ S896x128.size a)
    (oL : Fin 2 → ℕ) (hL : ∀ a, oL a + S32x128.size a ≤ S896x896.size a)
    (hS : (arg9.access (Rect.unit (s := S896x896) oL S32x128.size hL)).Stores Finset.univ)
    (k : Prog (TpuEff (1 : ℕ) Topo.v7x sig (Elt F) Λ .tc) α) : Prog (TpuEff (1 : ℕ) Topo.v7x sig (Elt F) Λ .tc) α :=
  .op (.load arg5 (Rect.unit (s := S1x42x4x128) o5 S1x1x1x128.size h5).toLoadRect (View.loadsAt_vmem h_S1x1x1x128)) fun x =>
  .op (.load arg10 (Rect.unit (s := S896x128) oD S32x128.size hD).toLoadRect (View.loadsAt_vmem h_S32x128)) fun d =>
  .op (.load arg10 (Rect.unit (s := S896x128) oD S32x128.size hD).toLoadRect (View.loadsAt_vmem h_S32x128)) fun _ =>
  .op (.store arg10 (Rect.unit (s := S896x128) oD S32x128.size hD) (payD sub x d) Finset.univ (View.stores_vmem_bits_univ h_S32x128 rfl) (.inl rfl)) fun _ =>
  .op (.load arg9 (Rect.unit (s := S896x896) oL S32x128.size hL).toLoadRect (View.loadsAt_vmem h_S32x128)) fun l =>
  .op (.load arg9 (Rect.unit (s := S896x896) oL S32x128.size hL).toLoadRect (View.loadsAt_vmem h_S32x128)) fun _ =>
  .op (.store arg9 (Rect.unit (s := S896x896) oL S32x128.size hL) (payL sub s x l) Finset.univ hS (.inl rfl)) fun _ => k

/-- One adjacency block: read its column, check the facts `chk` about it, and do its four rows of words. -/
def tripProg (arg3 : Memref sig .tc .smem S2x42 .i32) (arg5 : Memref sig .tc .vmem S1x42x4x128 .i32)
    (arg9 : Memref sig .tc .vmem S896x896 .bf16) (arg10 : Memref sig .tc .vmem S896x128 .f32)
    (sub : IVec S32x128 32) (s : FVec F S1x128 .f32)
    (o3 : Fin 2 → ℕ) (h3 : ∀ a, o3 a + S1x1.size a ≤ S2x42.size a)
    (o50 o51 o52 o53 : Fin 4 → ℕ)
    (h50 : ∀ a, o50 a + S1x1x1x128.size a ≤ S1x42x4x128.size a) (h51 : ∀ a, o51 a + S1x1x1x128.size a ≤ S1x42x4x128.size a)
    (h52 : ∀ a, o52 a + S1x1x1x128.size a ≤ S1x42x4x128.size a) (h53 : ∀ a, o53 a + S1x1x1x128.size a ≤ S1x42x4x128.size a)
    (chk : BitVec 32 → Prop) (dec : ∀ v, Decidable (chk v))
    (oD oL : BitVec 32 → BitVec 32 → Fin 2 → ℕ)
    (hD : ∀ v, chk v → ∀ (w : Fin 4) (a), oD v (BitVec.ofNat 32 (32 * w.val)) a + S32x128.size a ≤ S896x128.size a)
    (hL : ∀ v, chk v → ∀ (w : Fin 4) (a), oL v (BitVec.ofNat 32 (32 * w.val)) a + S32x128.size a ≤ S896x896.size a)
    (hS : ∀ v (h : chk v) (w : Fin 4), (arg9.access (Rect.unit (s := S896x896) (oL v (BitVec.ofNat 32 (32 * w.val))) S32x128.size (hL v h w))).Stores Finset.univ) :
    Prog (TpuEff (1 : ℕ) Topo.v7x sig (Elt F) Λ .tc) Unit :=
  smemLoad arg3 (Rect.unit (s := S2x42) o3 S1x1.size h3) numel1_S1x1 rfl >>= fun v =>
  .op (.assume (chk v) (dec v)) fun hw =>
  wordProg arg5 arg9 arg10 sub s o50 h50 (oD v 0#32) (hD v hw.down 0) (oL v 0#32) (hL v hw.down 0) (hS v hw.down 0) <|
  wordProg arg5 arg9 arg10 sub s o51 h51 (oD v 32#32) (hD v hw.down 1) (oL v 32#32) (hL v hw.down 1) (hS v hw.down 1) <|
  wordProg arg5 arg9 arg10 sub s o52 h52 (oD v 64#32) (hD v hw.down 2) (oL v 64#32) (hL v hw.down 2) (hS v hw.down 2) <|
  wordProg arg5 arg9 arg10 sub s o53 h53 (oD v 96#32) (hD v hw.down 3) (oL v 96#32) (hL v hw.down 3) (hS v hw.down 3) <|
  .ret ⟨⟩

/-! ## What a row of words and a block do to the buffers -/

/-- Bit (`j`, `i`) of the mask in slot `t`, as a word that is 0 or 1: `j` numbers the column block's node, `i` the row block's. -/
def wordAt (W : S1x42x4x128.Idx → BitVec 32) (t j i : ℕ) : BitVec 32 :=
  IntOp.andi (IntOp.shrui .vector (W (ix4 (0 : Fin 1) (Fin.ofNat 42 t) (Fin.ofNat 4 (j / 32)) (Fin.ofNat 128 i))) (BitVec.ofNat 32 (j % 32))) 1#32

/-- The degree buffer after word row `w` of slot `t`, whose block lies in column block `col`. -/
def wordD (W : S1x42x4x128.Idx → BitVec 32) (t w col : ℕ) (D : S896x128.Idx → F .f32) : S896x128.Idx → F .f32 := fun p =>
  if 128 * col + 32 * w ≤ (p 0).val ∧ (p 0).val < 128 * col + 32 * w + 32 then
    FloatOps.addf (D p) (FloatOps.sitofp .f32 (wordAt W t ((p 0).val % 128) (p 1).val))
  else D p

/-- The matrix buffer after word row `w` of slot `t`, a block of row block `r` and column block `col`. -/
def wordL (W : S1x42x4x128.Idx → BitVec 32) (t w col r : ℕ) (s : S1x128.Idx → F .f32) (L : S896x896.Idx → F .bf16) : S896x896.Idx → F .bf16 := fun p =>
  if (128 * col + 32 * w ≤ (p 0).val ∧ (p 0).val < 128 * col + 32 * w + 32) ∧ 128 * r ≤ (p 1).val ∧ (p 1).val < 128 * r + 128 then
    FloatOps.addf (L p) (FloatOps.truncf .bf16 (by decide) (FloatOps.mulf (FloatOps.sitofp .f32 (wordAt W t ((p 0).val % 128) ((p 1).val % 128))) (s (ix2 (0 : Fin 1) (Fin.ofNat 128 (p 1).val)))))
  else L p

/-- The degree buffer after slot `t`. -/
def stepD (W : S1x42x4x128.Idx → BitVec 32) (t col : ℕ) (D : S896x128.Idx → F .f32) : S896x128.Idx → F .f32 := fun p =>
  if (p 0).val / 128 = col then FloatOps.addf (D p) (FloatOps.sitofp .f32 (wordAt W t ((p 0).val % 128) (p 1).val)) else D p

/-- The matrix buffer after slot `t`, a block of row block `r`. -/
def stepL (W : S1x42x4x128.Idx → BitVec 32) (t col r : ℕ) (s : S1x128.Idx → F .f32) (L : S896x896.Idx → F .bf16) : S896x896.Idx → F .bf16 := fun p =>
  if (p 0).val / 128 = col ∧ (p 1).val / 128 = r then
    FloatOps.addf (L p) (FloatOps.truncf .bf16 (by decide) (FloatOps.mulf (FloatOps.sitofp .f32 (wordAt W t ((p 0).val % 128) ((p 1).val % 128))) (s (ix2 (0 : Fin 1) (Fin.ofNat 128 (p 1).val)))))
  else L p

theorem stepD_eq (W : S1x42x4x128.Idx → BitVec 32) (t col : ℕ) (D : S896x128.Idx → F .f32) :
    wordD W t 3 col (wordD W t 2 col (wordD W t 1 col (wordD W t 0 col D))) = stepD W t col D := by
  funext p
  simp only [wordD, stepD]
  split_ifs <;> first | rfl | omega

theorem stepL_eq (W : S1x42x4x128.Idx → BitVec 32) (t col r : ℕ) (s : S1x128.Idx → F .f32) (L : S896x896.Idx → F .bf16) :
    wordL W t 3 col r s (wordL W t 2 col r s (wordL W t 1 col r s (wordL W t 0 col r s L))) = stepL W t col r s L := by
  funext p
  simp only [wordL, stepL]
  split_ifs <;> first | rfl | omega

/-- The lane number of each row, as the kernel makes it. -/
abbrev subs : IVec S32x128 32 := iota .tc S32x128 32 [0] (by decide)

theorem bitsOf_at (x : Vec F S1x1x1x128 .i32) (a : Fin 32) (i : Fin 128) :
    bitsOf (F := F) subs x (ix2 a i)
      = FloatOps.sitofp .f32 (IntOp.andi (IntOp.shrui .vector (x (ix4 (0 : Fin 1) (0 : Fin 1) (0 : Fin 1) i)) (BitVec.ofNat 32 a.val)) 1#32) := by
  have e1 : (broadcastTo S32x128 (shapeCast S1x128 (shapeCast S1x128 x (by decide)) (by decide)) (by decide) : IVec S32x128 32) (ix2 a i)
      = x (ix4 (0 : Fin 1) (0 : Fin 1) (0 : Fin 1) i) := by
    rw [shapeCast_self]
    rw [broadcastTo_apply _ _ _ (ix2 (0 : Fin 1) i) (fun a => by match a with | ⟨0, _⟩ => rfl | ⟨1, _⟩ => rfl)]
    rw [shapeCast_apply _ _ _ (ix4 (0 : Fin 1) (0 : Fin 1) (0 : Fin 1) i)
      (by rw [Shape.rowMajor_val_two, Shape.rowMajor_val_four]; simp)]
  have e2 : subs (ix2 a i) = BitVec.ofNat 32 a.val := by
    simp [iota]
  rw [← e1, ← e2]
  rfl

theorem bitsOf_apply {W : S1x42x4x128.Idx → BitVec 32} {t w : ℕ} (ht : t < 42) (hw : w < 4) {o5 : Fin 4 → ℕ} (e5 : o5 = ![0, t, w, 0])
    (h5 : ∀ a, o5 a + S1x1x1x128.size a ≤ S1x42x4x128.size a) (a : Fin 32) (i : Fin 128) :
    bitsOf (F := F) subs (block W o5 S1x1x1x128.size h5) (ix2 a i) = FloatOps.sitofp .f32 (wordAt W t (32 * w + a.val) i.val) := by
  subst e5
  have hw' : (32 * w + a.val) / 32 = w := by omega
  have ha' : (32 * w + a.val) % 32 = a.val := by omega
  refine (bitsOf_at _ a i).trans ?_
  unfold wordAt
  rw [hw', ha']
  congr 3
  unfold block
  congr 1
  funext d
  apply Fin.ext
  match d with
  | ⟨0, _⟩ => rfl
  | ⟨1, _⟩ => exact (by simp [Rect.emb, Rect.unit, Nat.mod_eq_of_lt ht])
  | ⟨2, _⟩ => exact (by simp [Rect.emb, Rect.unit, Nat.mod_eq_of_lt hw])
  | ⟨3, _⟩ => exact (by simp [Rect.emb, Rect.unit, Nat.mod_eq_of_lt i.isLt])

theorem put_payD {W : S1x42x4x128.Idx → BitVec 32} {t w col : ℕ} (ht : t < 42) (hw : w < 4) {D : S896x128.Idx → F .f32} {o5 : Fin 4 → ℕ} (e5 : o5 = ![0, t, w, 0])
    (h5 : ∀ a, o5 a + S1x1x1x128.size a ≤ S1x42x4x128.size a) {oD : Fin 2 → ℕ} (eD : oD = ![128 * col + 32 * w, 0])
    (hD : ∀ a, oD a + S32x128.size a ≤ S896x128.size a) :
    put D oD S32x128.size hD (payD subs (block W o5 S1x1x1x128.size h5) (block D oD S32x128.size hD)) = wordD W t w col D := by
  subst eD
  funext p
  unfold put wordD
  have hp1 : (p 1).val < 128 := (p 1).isLt
  by_cases h : 128 * col + 32 * w ≤ (p 0).val ∧ (p 0).val < 128 * col + 32 * w + 32
  · have hA : ∀ a : Fin 2, (![128 * col + 32 * w, 0] : Fin 2 → ℕ) a ≤ (p a).val ∧ (p a).val < (![128 * col + 32 * w, 0] : Fin 2 → ℕ) a + S32x128.size a :=
      Fin.forall_fin_two.mpr ⟨h, Nat.zero_le _, by simpa using hp1⟩
    rw [dif_pos hA, if_pos h]
    have hy : Rect.unitLocal (s := S896x128) (off := ![128 * col + 32 * w, 0]) (size := S32x128.size) p hA
        = ix2 (⟨(p 0).val - (128 * col + 32 * w), by omega⟩ : Fin 32) (⟨(p 1).val, hp1⟩ : Fin 128) := by
      funext d
      match d with
      | ⟨0, _⟩ => rfl
      | ⟨1, _⟩ => rfl
    rw [hy]
    unfold payD
    rw [shapeCast_self]
    show FloatOps.addf _ (bitsOf _ _ _) = _
    rw [bitsOf_apply ht hw e5]
    congr 1
    · unfold block
      congr 1
      funext d
      apply Fin.ext
      match d with
      | ⟨0, _⟩ => exact (by simp [Rect.emb, Rect.unit]; omega)
      | ⟨1, _⟩ => exact (by simp [Rect.emb, Rect.unit])
    · congr 2
      show _ + ((p 0).val - _) = _
      omega
  · rw [dif_neg (fun hA => h (hA 0)), if_neg h]

theorem put_payL {W : S1x42x4x128.Idx → BitVec 32} {t w col r : ℕ} (ht : t < 42) (hw : w < 4) (s : S1x128.Idx → F .f32) {L : S896x896.Idx → F .bf16} {o5 : Fin 4 → ℕ} (e5 : o5 = ![0, t, w, 0])
    (h5 : ∀ a, o5 a + S1x1x1x128.size a ≤ S1x42x4x128.size a) {oL : Fin 2 → ℕ} (eL : oL = ![128 * col + 32 * w, 128 * r])
    (hL : ∀ a, oL a + S32x128.size a ≤ S896x896.size a) :
    put L oL S32x128.size hL (payL subs s (block W o5 S1x1x1x128.size h5) (block L oL S32x128.size hL)) = wordL W t w col r s L := by
  subst eL
  funext p
  unfold put wordL
  by_cases h : (128 * col + 32 * w ≤ (p 0).val ∧ (p 0).val < 128 * col + 32 * w + 32) ∧ 128 * r ≤ (p 1).val ∧ (p 1).val < 128 * r + 128
  · have hA : ∀ a : Fin 2, (![128 * col + 32 * w, 128 * r] : Fin 2 → ℕ) a ≤ (p a).val ∧ (p a).val < (![128 * col + 32 * w, 128 * r] : Fin 2 → ℕ) a + S32x128.size a :=
      Fin.forall_fin_two.mpr h
    rw [dif_pos hA, if_pos h]
    have hy : Rect.unitLocal (s := S896x896) (off := ![128 * col + 32 * w, 128 * r]) (size := S32x128.size) p hA
        = ix2 (⟨(p 0).val - (128 * col + 32 * w), by omega⟩ : Fin 32) (⟨(p 1).val - 128 * r, by omega⟩ : Fin 128) := by
      funext d
      match d with
      | ⟨0, _⟩ => rfl
      | ⟨1, _⟩ => rfl
    rw [hy]
    unfold payL
    rw [shapeCast_self]
    show FloatOps.addf _ (FloatOps.truncf .bf16 (by decide) (FloatOps.mulf (bitsOf _ _ _) (broadcastTo S32x128 s _ _))) = _
    rw [bitsOf_apply ht hw e5, broadcastTo_apply _ _ _ (ix2 (0 : Fin 1) (Fin.ofNat 128 (p 1).val)) (fun a => by
      match a with
      | ⟨0, _⟩ => rfl
      | ⟨1, _⟩ => simp; omega)]
    congr 1
    · unfold block
      congr 1
      funext d
      apply Fin.ext
      match d with
      | ⟨0, _⟩ => exact (by simp [Rect.emb, Rect.unit]; omega)
      | ⟨1, _⟩ => exact (by simp [Rect.emb, Rect.unit]; omega)
    · congr 4
      · show _ + ((p 0).val - _) = _
        omega
      · show (p 1).val - _ = _
        omega
  · rw [dif_neg (fun hA => h ⟨hA 0, hA 1⟩), if_neg h]

end

end Cert.Agg
-- ==== Proof.TripRun.lean ====
/-
  What one adjacency block does, as a rule: from the block's slot and column and the buffers at known contents, the block's
  program leaves the two buffers with the block added (`stepD`, `stepL`).
-/
module

public import proofs.«01_k».proof.Proof.Trip

@[expose] public section

noncomputable section

namespace Cert.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
variable {sig : RefSig} {Ix : Type} [DecidableEq Ix] {Name : Type} [DecidableEq Name] {U : Type} [URA U] {Lvl : Type} [Preorder Lvl] {Λ : Labels}
variable (defs : Defs (1 : ℕ) Topo.v7x sig (Elt F) Λ) (𝒱 : Variants) (c : Dev (1 : ℕ)) (bd : Option 𝒱.V) (E : Set Name)

local notation "𝕄" => MT (1 : ℕ) Topo.v7x sig Ix (Elt F) Name U Lvl

section
variable (arg5 : Memref sig .tc .vmem S1x42x4x128 .i32) (arg9 : Memref sig .tc .vmem S896x896 .bf16)
  (arg10 : Memref sig .tc .vmem S896x128 .f32) (s : FVec F S1x128 .f32)
  (W : S1x42x4x128.Idx → BitVec 32) (L : S896x896.Idx → F .bf16) (D : S896x128.Idx → F .f32)

theorem wp_word {α : Type} {Q : α → sProp 𝕄} {t w col r : ℕ} (ht : t < 42) (hw : w < 4)
    {o5 : Fin 4 → ℕ} {h5 : ∀ a, o5 a + S1x1x1x128.size a ≤ S1x42x4x128.size a}
    {oD : Fin 2 → ℕ} {hD : ∀ a, oD a + S32x128.size a ≤ S896x128.size a}
    {oL : Fin 2 → ℕ} {hL : ∀ a, oL a + S32x128.size a ≤ S896x896.size a}
    {hS : (arg9.access (Rect.unit (s := S896x896) oL S32x128.size hL)).Stores Finset.univ}
    {k : Prog (TpuEff (1 : ℕ) Topo.v7x sig (Elt F) Λ .tc) α}
    (e5 : o5 = ![0, t, w, 0]) (eD : oD = ![128 * col + 32 * w, 0]) (eL : oL = ![128 * col + 32 * w, 128 * r]) :
    (iprop(owns (c : Thread (1 : ℕ) Topo.v7x) arg5 fullShare W ∗ owns (c : Thread (1 : ℕ) Topo.v7x) arg9 fullShare L
        ∗ owns (c : Thread (1 : ℕ) Topo.v7x) arg10 fullShare D) : sProp 𝕄)
      ⊢ iprop(((owns (c : Thread (1 : ℕ) Topo.v7x) arg5 fullShare W ∗ owns (c : Thread (1 : ℕ) Topo.v7x) arg9 fullShare (wordL W t w col r s L)
          ∗ owns (c : Thread (1 : ℕ) Topo.v7x) arg10 fullShare (wordD W t w col D)) -∗ wp frame (wpE defs 𝒱 (c : Thread (1 : ℕ) Topo.v7x) bd) E k Q)
        -∗ wp frame (wpE defs 𝒱 (c : Thread (1 : ℕ) Topo.v7x) bd) E (wordProg arg5 arg9 arg10 subs s o5 h5 oD hD oL hL hS k) Q) := by
  iintro ⟨H5, H9, H10⟩ Hk
  unfold wordProg
  iapply (owns_load defs 𝒱 (c : Thread (1 : ℕ) Topo.v7x) bd E arg5 W) $$ H5
  iintro H5
  iapply (owns_load defs 𝒱 (c : Thread (1 : ℕ) Topo.v7x) bd E arg10 D) $$ H10
  iintro H10
  iapply (owns_load defs 𝒱 (c : Thread (1 : ℕ) Topo.v7x) bd E arg10 D) $$ H10
  iintro H10
  iapply (owns_store defs 𝒱 (c : Thread (1 : ℕ) Topo.v7x) bd E arg10 D) $$ H10
  iintro H10
  iapply (owns_load defs 𝒱 (c : Thread (1 : ℕ) Topo.v7x) bd E arg9 L) $$ H9
  iintro H9
  iapply (owns_load defs 𝒱 (c : Thread (1 : ℕ) Topo.v7x) bd E arg9 L) $$ H9
  iintro H9
  iapply (owns_store defs 𝒱 (c : Thread (1 : ℕ) Topo.v7x) bd E arg9 L) $$ H9
  iintro H9
  rw [put_payD ht hw e5 h5 eD hD, put_payL ht hw s e5 h5 eL hL]
  iapply Hk
  isplitl [H5]
  · iexact H5
  isplitl [H9]
  · iexact H9
  · iexact H10

/-- One adjacency block in slot `t` of batch `b`, of row block `r`, its column word valid. -/
theorem wp_trip (arg3 : Memref sig .tc .smem S2x42 .i32) (T : S2x42.Idx → BitVec 32) {t r : ℕ} {b : Fin 2} (ht : t < 42) (_hr : r < 7)
    (hT : (T (ix2 b (Fin.ofNat 42 t))).toNat < 7)
    {o3 : Fin 2 → ℕ} {h3 : ∀ a, o3 a + S1x1.size a ≤ S2x42.size a}
    {o50 o51 o52 o53 : Fin 4 → ℕ}
    {h50 : ∀ a, o50 a + S1x1x1x128.size a ≤ S1x42x4x128.size a} {h51 : ∀ a, o51 a + S1x1x1x128.size a ≤ S1x42x4x128.size a}
    {h52 : ∀ a, o52 a + S1x1x1x128.size a ≤ S1x42x4x128.size a} {h53 : ∀ a, o53 a + S1x1x1x128.size a ≤ S1x42x4x128.size a}
    {chk : BitVec 32 → Prop} {dec : ∀ v, Decidable (chk v)}
    {oD oL : BitVec 32 → BitVec 32 → Fin 2 → ℕ}
    {hD : ∀ v, chk v → ∀ (w : Fin 4) (a), oD v (BitVec.ofNat 32 (32 * w.val)) a + S32x128.size a ≤ S896x128.size a}
    {hL : ∀ v, chk v → ∀ (w : Fin 4) (a), oL v (BitVec.ofNat 32 (32 * w.val)) a + S32x128.size a ≤ S896x896.size a}
    {hS : ∀ v (h : chk v) (w : Fin 4), (arg9.access (Rect.unit (s := S896x896) (oL v (BitVec.ofNat 32 (32 * w.val))) S32x128.size (hL v h w))).Stores Finset.univ}
    (e3 : o3 = ![b.val, t])
    (e50 : o50 = ![0, t, 0, 0]) (e51 : o51 = ![0, t, 1, 0]) (e52 : o52 = ![0, t, 2, 0]) (e53 : o53 = ![0, t, 3, 0])
    (hchk : ∀ v : BitVec 32, v.toNat < 7 → chk v)
    (eD : ∀ v : BitVec 32, v.toNat < 7 → ∀ w : Fin 4, oD v (BitVec.ofNat 32 (32 * w.val)) = ![128 * v.toNat + 32 * w.val, 0])
    (eL : ∀ v : BitVec 32, v.toNat < 7 → ∀ w : Fin 4, oL v (BitVec.ofNat 32 (32 * w.val)) = ![128 * v.toNat + 32 * w.val, 128 * r]) :
    (iprop(owns (c : Thread (1 : ℕ) Topo.v7x) arg3 fullShare T ∗ owns (c : Thread (1 : ℕ) Topo.v7x) arg5 fullShare W
        ∗ owns (c : Thread (1 : ℕ) Topo.v7x) arg9 fullShare L ∗ owns (c : Thread (1 : ℕ) Topo.v7x) arg10 fullShare D) : sProp 𝕄)
      ⊢ wp frame (wpE defs 𝒱 (c : Thread (1 : ℕ) Topo.v7x) bd) E
          (tripProg arg3 arg5 arg9 arg10 subs s o3 h3 o50 o51 o52 o53 h50 h51 h52 h53 chk dec oD oL hD hL hS) fun _ =>
        iprop(owns (c : Thread (1 : ℕ) Topo.v7x) arg3 fullShare T ∗ owns (c : Thread (1 : ℕ) Topo.v7x) arg5 fullShare W
          ∗ owns (c : Thread (1 : ℕ) Topo.v7x) arg9 fullShare (stepL W t (T (ix2 b (Fin.ofNat 42 t))).toNat r s L)
          ∗ owns (c : Thread (1 : ℕ) Topo.v7x) arg10 fullShare (stepD W t (T (ix2 b (Fin.ofNat 42 t))).toNat D)) := by
  subst e3
  have hv : block T ![b.val, t] S1x1.size h3 (Shape.Idx.first (numel1_S1x1.symm ▸ Nat.one_pos)) = T (ix2 b (Fin.ofNat 42 t)) := by
    unfold block
    congr 1
    funext d
    apply Fin.ext
    match d with
    | ⟨0, _⟩ => exact (by simp [Rect.emb, Rect.unit]; exact Nat.lt_one_iff.mp (Fin.isLt _))
    | ⟨1, _⟩ => exact (by simp [Rect.emb, Rect.unit, Nat.mod_eq_of_lt ht]; exact Nat.lt_one_iff.mp (Fin.isLt _))
  iintro ⟨H3, H5, H9, H10⟩
  unfold tripProg
  iapply (owns_smemLoad defs 𝒱 (c : Thread (1 : ℕ) Topo.v7x) bd E arg3 T) $$ H3
  iintro H3
  rw [hv]
  generalize T (ix2 b (Fin.ofNat 42 t)) = v at hT
  iapply (wp_assume 𝒱 (c : Thread (1 : ℕ) Topo.v7x) bd E (hchk v hT))
  have d0 : oD v 0#32 = ![128 * v.toNat + 32 * 0, 0] := eD v hT 0
  have d1 : oD v 32#32 = ![128 * v.toNat + 32 * 1, 0] := eD v hT 1
  have d2 : oD v 64#32 = ![128 * v.toNat + 32 * 2, 0] := eD v hT 2
  have d3 : oD v 96#32 = ![128 * v.toNat + 32 * 3, 0] := eD v hT 3
  have l0 : oL v 0#32 = ![128 * v.toNat + 32 * 0, 128 * r] := eL v hT 0
  have l1 : oL v 32#32 = ![128 * v.toNat + 32 * 1, 128 * r] := eL v hT 1
  have l2 : oL v 64#32 = ![128 * v.toNat + 32 * 2, 128 * r] := eL v hT 2
  have l3 : oL v 96#32 = ![128 * v.toNat + 32 * 3, 128 * r] := eL v hT 3
  rw [← stepD_eq, ← stepL_eq]
  iapply (wp_word defs 𝒱 c bd E arg5 arg9 arg10 s W _ _ ht (by omega : 0 < 4) e50 d0 l0) $$ [H5 H9 H10]
  · isplitl [H5]
    · iexact H5
    isplitl [H9]
    · iexact H9
    · iexact H10
  iintro ⟨H5, H9, H10⟩
  iapply (wp_word defs 𝒱 c bd E arg5 arg9 arg10 s W _ _ ht (by omega : 1 < 4) e51 d1 l1) $$ [H5 H9 H10]
  · isplitl [H5]
    · iexact H5
    isplitl [H9]
    · iexact H9
    · iexact H10
  iintro ⟨H5, H9, H10⟩
  iapply (wp_word defs 𝒱 c bd E arg5 arg9 arg10 s W _ _ ht (by omega : 2 < 4) e52 d2 l2) $$ [H5 H9 H10]
  · isplitl [H5]
    · iexact H5
    isplitl [H9]
    · iexact H9
    · iexact H10
  iintro ⟨H5, H9, H10⟩
  iapply (wp_word defs 𝒱 c bd E arg5 arg9 arg10 s W _ _ ht (by omega : 3 < 4) e53 d3 l3) $$ [H5 H9 H10]
  · isplitl [H5]
    · iexact H5
    isplitl [H9]
    · iexact H9
    · iexact H10
  iintro ⟨H5, H9, H10⟩
  iapply (le_wp_ret _ _)
  isplitl [H3]
  · iexact H3
  isplitl [H5]
  · iexact H5
  isplitl [H9]
  · iexact H9
  · iexact H10

end

end Cert.Agg
-- ==== Proof.Words.lean ====
/-
  The words of the build: the loop over the slots of one row block, the offsets its trips compute from the loop's counter and
  the block's column, and the facts the program checks about them. They hold when the slot range is ordered and below 42 and
  the column is below 7.
-/
module

public import proofs.«01_k».proof.Proof.Trip
public import Idealize.ShloMosaic.Lib.LoopRemainder

@[expose] public section

namespace Cert.Agg

open Idealize.ShloMosaic

/-- The loop over the slots from `a` to `b`, as the program computes its bounds. -/
@[reducible] def mainLoop (a b : BitVec 32) : Scf.Loop 32 :=
  ⟨a, Scalar.addi a (Scalar.muli (Scalar.divsi (Scalar.subi b a) 1#32) 1#32), 1#32⟩

/-- The loop over what the first loop leaves: nothing, for a step of one. -/
@[reducible] def restLoop (a b : BitVec 32) : Scf.Loop 32 :=
  ⟨Scalar.addi a (Scalar.muli (Scalar.divsi (Scalar.subi b a) 1#32) 1#32), Scalar.addi a (Scalar.subi b a), 1#32⟩

theorem main_ub (a b : BitVec 32) : (mainLoop a b).ub = b := by
  show Scalar.addi a (Scalar.muli (Scalar.divsi (Scalar.subi b a) 1#32) 1#32) = b
  rw [Scalar.muli_divsi_one]
  show a + (b - a) = b
  bv_omega

section
variable {a b : BitVec 32} (hab : a.toNat ≤ b.toNat) (hb : b.toNat ≤ 42)
include hab hb

theorem main_trips : (mainLoop a b).trips = b.toNat - a.toNat := by
  have h1 : (1#32 : BitVec 32).toInt = 1 := by decide
  have ha : a.toInt = a.toNat := BitVec.toInt_eq_toNat_of_lt (by omega)
  have hb' : b.toInt = b.toNat := BitVec.toInt_eq_toNat_of_lt (by omega)
  show Scf.trips a (mainLoop a b).ub 1#32 = _
  rw [main_ub]
  unfold Scf.trips
  rw [h1, ha, hb']
  omega

theorem main_ok : (mainLoop a b).OK := by
  have h := main_trips hab hb
  have ha : a.toInt = a.toNat := BitVec.toInt_eq_toNat_of_lt (by omega)
  have h1 : (1#32 : BitVec 32).toInt = 1 := by decide
  refine ⟨show 0 < (1#32 : BitVec 32).toInt by decide, ?_⟩
  show a.toInt + ((mainLoop a b).trips : ℤ) * (1#32 : BitVec 32).toInt < _
  rw [h, h1, ha]
  norm_num
  omega

omit hab hb in
theorem rest_trips : (restLoop a b).trips = 0 := Scf.rem_trips _ _

omit hab hb in
theorem rest_ok : (restLoop a b).OK := Scf.rem_ok _ _

theorem iv_toNat (k : Fin (mainLoop a b).trips) : (Scf.iv a 1#32 k.val).toNat = a.toNat + k.val := by
  have h : k.val < b.toNat - a.toNat := lt_of_lt_of_eq k.isLt (main_trips hab hb)
  unfold Scf.iv
  rw [BitVec.mul_one, BitVec.toNat_add, BitVec.toNat_ofNat]
  omega

end

/-! ## Offsets -/

/-- Where the trip at slot word `v` of batch `b` reads the block's column. -/
def offT (b : ℕ) (v : BitVec 32) : Fin 2 → ℕ := ![(Scalar.indexCast (BitVec.ofNat 32 b)).toNat, (Scalar.indexCast v).toNat]

/-- Where it reads row of words `w`. -/
def offW (v : BitVec 32) (w : ℕ) : Fin 4 → ℕ := ![0, (Scalar.indexCast v).toNat, w, 0]

/-- The 32 rows of degrees at row `z` of the column block named by the word `v`. -/
def offD (v z : BitVec 32) : Fin 2 → ℕ := ![(Scalar.indexCast (Scalar.addi (Scalar.muli v 128#32) z)).toNat, 0]

/-- The same rows of the matrix, in columns from `q`. -/
def offL (q : ℕ) (v z : BitVec 32) : Fin 2 → ℕ := ![(Scalar.indexCast (Scalar.addi (Scalar.muli v 128#32) z)).toNat, q]

theorem offT_eq {b : Fin 2} {v : BitVec 32} : offT b.val v = ![b.val, v.toNat] := by
  unfold offT
  congr 1
  show (BitVec.ofNat 32 b.val).toNat = _
  rw [BitVec.toNat_ofNat]; omega

theorem offW_eq (v : BitVec 32) (w : ℕ) : offW v w = ![0, v.toNat, w, 0] := rfl

theorem rowWord {v : BitVec 32} (hv : v.toNat < 7) (w : Fin 4) :
    (Scalar.indexCast (Scalar.addi (Scalar.muli v 128#32) (BitVec.ofNat 32 (32 * w.val)))).toNat = 128 * v.toNat + 32 * w.val := by
  show (v * 128#32 + BitVec.ofNat 32 (32 * w.val)).toNat = _
  have h : (128#32 : BitVec 32).toNat = 128 := by decide
  rw [BitVec.toNat_add, BitVec.toNat_mul, h, BitVec.toNat_ofNat]
  omega

theorem offD_eq {v : BitVec 32} (hv : v.toNat < 7) (w : Fin 4) :
    offD v (BitVec.ofNat 32 (32 * w.val)) = ![128 * v.toNat + 32 * w.val, 0] := by
  unfold offD; rw [rowWord hv]

theorem offL_eq (q : ℕ) {v : BitVec 32} (hv : v.toNat < 7) (w : Fin 4) :
    offL q v (BitVec.ofNat 32 (32 * w.val)) = ![128 * v.toNat + 32 * w.val, q] := by
  unfold offL; rw [rowWord hv]

/-! ## What the program checks -/

/-- The facts it checks about a block's column. -/
def tripChk (c : Prop) (q : ℕ) (v : BitVec 32) : Prop :=
  (∀ _ : c, 128 ∣ (Scalar.muli v 128#32).toNat) ∧
  (∀ _ : c, ∀ r : Fin 4, ∀ a, offD v (BitVec.ofNat 32 (32 * r.val)) a + S32x128.size a ≤ S896x128.size a) ∧
  (∀ _ : c, ∀ r : Fin 4, ∀ a, offL q v (BitVec.ofNat 32 (32 * r.val)) a + S32x128.size a ≤ S896x896.size a) ∧
  (∀ _ : c, ∀ r : Fin 4, ∀ hinb : ∀ a, offL q v (BitVec.ofNat 32 (32 * r.val)) a + S32x128.size a ≤ S896x896.size a,
    (Rect.unit (s := S896x896) (offL q v (BitVec.ofNat 32 (32 * r.val))) S32x128.size hinb).PackedRows (EltTy.packing .bf16))

theorem tripChk_of (c : Prop) {q : ℕ} (hq : q + 128 ≤ 896) {v : BitVec 32} (hv : v.toNat < 7) : tripChk c q v := by
  refine ⟨fun _ => ?_, fun _ r => ?_, fun _ r => ?_, fun _ r hinb => ?_⟩
  · show 128 ∣ (v * 128#32).toNat
    rw [BitVec.toNat_mul]
    have : (128#32 : BitVec 32).toNat = 128 := by decide
    rw [this]
    omega
  · rw [offD_eq hv]
    exact Fin.forall_fin_two.mpr ⟨by show 128 * v.toNat + 32 * r.val + 32 ≤ 896; omega, by show 0 + 128 ≤ 128; omega⟩
  · rw [offL_eq q hv]
    exact Fin.forall_fin_two.mpr ⟨by show 128 * v.toNat + 32 * r.val + 32 ≤ 896; omega, by show q + 128 ≤ 896; omega⟩
  · refine Or.inr ⟨by decide, rfl, Or.inl ⟨?_, ?_⟩⟩
    · show 2 ∣ offL q v (BitVec.ofNat 32 (32 * r.val)) 0
      rw [offL_eq q hv]
      show 2 ∣ 128 * v.toNat + 32 * r.val
      omega
    · show 2 ∣ 32
      decide

/-- The facts it checks about the slot range of a row block. -/
def rowChk (c : Prop) (i : ℕ) (a b : BitVec 32) : Prop :=
  (∀ _ : c, (mainLoop a b).OK) ∧
  (∀ k : Fin (mainLoop a b).trips, ∀ _ : c, ∀ d, offT i (Scf.iv a 1#32 k.val) d + S1x1.size d ≤ S2x42.size d) ∧
  (∀ k : Fin (mainLoop a b).trips, ∀ _ : c, ∀ d, offW (Scf.iv a 1#32 k.val) 0 d + S1x1x1x128.size d ≤ S1x42x4x128.size d) ∧
  (∀ k : Fin (mainLoop a b).trips, ∀ _ : c, ∀ d, offW (Scf.iv a 1#32 k.val) 1 d + S1x1x1x128.size d ≤ S1x42x4x128.size d) ∧
  (∀ k : Fin (mainLoop a b).trips, ∀ _ : c, ∀ d, offW (Scf.iv a 1#32 k.val) 2 d + S1x1x1x128.size d ≤ S1x42x4x128.size d) ∧
  (∀ k : Fin (mainLoop a b).trips, ∀ _ : c, ∀ d, offW (Scf.iv a 1#32 k.val) 3 d + S1x1x1x128.size d ≤ S1x42x4x128.size d) ∧
  (∀ _ : c, (restLoop a b).OK) ∧
  (∀ k : Fin (restLoop a b).trips, ∀ _ : c, ∀ d, offT i (Scf.iv (restLoop a b).lb 1#32 k.val) d + S1x1.size d ≤ S2x42.size d) ∧
  (∀ k : Fin (restLoop a b).trips, ∀ _ : c, ∀ d, offW (Scf.iv (restLoop a b).lb 1#32 k.val) 0 d + S1x1x1x128.size d ≤ S1x42x4x128.size d) ∧
  (∀ k : Fin (restLoop a b).trips, ∀ _ : c, ∀ d, offW (Scf.iv (restLoop a b).lb 1#32 k.val) 1 d + S1x1x1x128.size d ≤ S1x42x4x128.size d) ∧
  (∀ k : Fin (restLoop a b).trips, ∀ _ : c, ∀ d, offW (Scf.iv (restLoop a b).lb 1#32 k.val) 2 d + S1x1x1x128.size d ≤ S1x42x4x128.size d) ∧
  (∀ k : Fin (restLoop a b).trips, ∀ _ : c, ∀ d, offW (Scf.iv (restLoop a b).lb 1#32 k.val) 3 d + S1x1x1x128.size d ≤ S1x42x4x128.size d)

theorem no_rest {a b : BitVec 32} (k : Fin (restLoop a b).trips) : False := Scf.rem_no_trip _ _ k

theorem offW_inb {v : BitVec 32} (hv : v.toNat < 42) {w : ℕ} (hw : w < 4) : ∀ d, offW v w d + S1x1x1x128.size d ≤ S1x42x4x128.size d := by
  rw [offW_eq]
  intro d
  match d with
  | ⟨0, _⟩ => exact Nat.le_refl 1
  | ⟨1, _⟩ => exact hv
  | ⟨2, _⟩ => exact hw
  | ⟨3, _⟩ => exact Nat.le_refl 128

theorem rowChk_of (c : Prop) (i : Fin 2) {a b : BitVec 32} (hab : a.toNat ≤ b.toNat) (hb : b.toNat ≤ 42) : rowChk c i.val a b := by
  have hk : ∀ k : Fin (mainLoop a b).trips, (Scf.iv a 1#32 k.val).toNat < 42 := fun k => by
    have h : k.val < b.toNat - a.toNat := lt_of_lt_of_eq k.isLt (main_trips hab hb)
    rw [iv_toNat hab hb]
    omega
  refine ⟨fun _ => main_ok hab hb, fun k _ => ?_, fun k _ => offW_inb (hk k) (by omega), fun k _ => offW_inb (hk k) (by omega),
    fun k _ => offW_inb (hk k) (by omega), fun k _ => offW_inb (hk k) (by omega), fun _ => rest_ok,
    fun k => (no_rest k).elim, fun k => (no_rest k).elim, fun k => (no_rest k).elim, fun k => (no_rest k).elim, fun k => (no_rest k).elim⟩
  rw [offT_eq]
  exact Fin.forall_fin_two.mpr ⟨by show i.val + 1 ≤ 2; omega, hk k⟩

end Cert.Agg
-- ==== Proof.Row.lean ====
/-
  One row block of the build: the loop over its slots adds its adjacency blocks to the two buffers one after another. The
  loop for what the first leaves has no trips.
-/
module

public import proofs.«01_k».proof.Proof.TripRun
public import proofs.«01_k».proof.Proof.Words

@[expose] public section

noncomputable section

namespace Cert.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The column of slot `t` of batch `b`. -/
def colOf (T : S2x42.Idx → BitVec 32) (b : Fin 2) (t : ℕ) : ℕ := (T (ix2 b (Fin.ofNat 42 t))).toNat

/-- The degrees after `n` slots from slot `a`. -/
def rowD (W : S1x42x4x128.Idx → BitVec 32) (T : S2x42.Idx → BitVec 32) (b : Fin 2) (a : ℕ) (D : S896x128.Idx → F .f32) : ℕ → S896x128.Idx → F .f32
  | 0 => D
  | n + 1 => stepD W (a + n) (colOf T b (a + n)) (rowD W T b a D n)

/-- The matrix after `n` slots of row block `r` from slot `a`. -/
def rowL (W : S1x42x4x128.Idx → BitVec 32) (T : S2x42.Idx → BitVec 32) (b : Fin 2) (r : ℕ) (s : FVec F S1x128 .f32) (a : ℕ)
    (L : S896x896.Idx → F .bf16) : ℕ → S896x896.Idx → F .bf16
  | 0 => L
  | n + 1 => stepL W (a + n) (colOf T b (a + n)) r s (rowL W T b r s a L n)

variable {sig : RefSig} {Ix : Type} [DecidableEq Ix] {Name : Type} [DecidableEq Name] {U : Type} [URA U] {Lvl : Type} [Preorder Lvl] {Λ : Labels}
variable (defs : Defs (1 : ℕ) Topo.v7x sig (Elt F) Λ) (𝒱 : Variants) (c : Dev (1 : ℕ)) (bd : Option 𝒱.V) (E : Set Name)

local notation "𝕄" => MT (1 : ℕ) Topo.v7x sig Ix (Elt F) Name U Lvl

/-- What the build holds: the slots' columns, the masks, the matrix and the degrees. -/
def bufs (arg3 : Memref sig .tc .smem S2x42 .i32) (arg5 : Memref sig .tc .vmem S1x42x4x128 .i32)
    (arg9 : Memref sig .tc .vmem S896x896 .bf16) (arg10 : Memref sig .tc .vmem S896x128 .f32)
    (T : S2x42.Idx → BitVec 32) (W : S1x42x4x128.Idx → BitVec 32) (L : S896x896.Idx → F .bf16) (D : S896x128.Idx → F .f32) : sProp 𝕄 :=
  iprop(owns (c : Thread (1 : ℕ) Topo.v7x) arg3 fullShare T ∗ owns (c : Thread (1 : ℕ) Topo.v7x) arg5 fullShare W
    ∗ owns (c : Thread (1 : ℕ) Topo.v7x) arg9 fullShare L ∗ owns (c : Thread (1 : ℕ) Topo.v7x) arg10 fullShare D)

section
variable (arg3 : Memref sig .tc .smem S2x42 .i32) (arg5 : Memref sig .tc .vmem S1x42x4x128 .i32)
    (arg9 : Memref sig .tc .vmem S896x896 .bf16) (arg10 : Memref sig .tc .vmem S896x128 .f32) (s : FVec F S1x128 .f32)
    (T : S2x42.Idx → BitVec 32) (W : S1x42x4x128.Idx → BitVec 32) (L : S896x896.Idx → F .bf16) (D : S896x128.Idx → F .f32)

theorem wp_rowLoop {α : Type} {Q : α → sProp 𝕄} {b : Fin 2} {r : ℕ} (hr : r < 7) {a z : BitVec 32}
    (hab : a.toNat ≤ z.toNat) (hz : z.toNat ≤ 42) (hT : ∀ t, a.toNat ≤ t → t < z.toNat → colOf T b t < 7)
    {hok : (mainLoop a z).OK} {body : Fin (mainLoop a z).trips → PUnit → Prog (TpuEff (1 : ℕ) Topo.v7x sig (Elt F) Λ .tc) PUnit}
    {h3 : ∀ k : Fin (mainLoop a z).trips, ∀ d, offT b.val (Scf.iv a 1#32 k.val) d + S1x1.size d ≤ S2x42.size d}
    {h50 : ∀ k : Fin (mainLoop a z).trips, ∀ d, offW (Scf.iv a 1#32 k.val) 0 d + S1x1x1x128.size d ≤ S1x42x4x128.size d}
    {h51 : ∀ k : Fin (mainLoop a z).trips, ∀ d, offW (Scf.iv a 1#32 k.val) 1 d + S1x1x1x128.size d ≤ S1x42x4x128.size d}
    {h52 : ∀ k : Fin (mainLoop a z).trips, ∀ d, offW (Scf.iv a 1#32 k.val) 2 d + S1x1x1x128.size d ≤ S1x42x4x128.size d}
    {h53 : ∀ k : Fin (mainLoop a z).trips, ∀ d, offW (Scf.iv a 1#32 k.val) 3 d + S1x1x1x128.size d ≤ S1x42x4x128.size d}
    {chk : BitVec 32 → Prop} {dec : ∀ v, Decidable (chk v)}
    {hD : ∀ v, chk v → ∀ (w : Fin 4) (x), offD v (BitVec.ofNat 32 (32 * w.val)) x + S32x128.size x ≤ S896x128.size x}
    {hL : ∀ v, chk v → ∀ (w : Fin 4) (x), offL (128 * r) v (BitVec.ofNat 32 (32 * w.val)) x + S32x128.size x ≤ S896x896.size x}
    {hS : ∀ v (h : chk v) (w : Fin 4), (arg9.access (Rect.unit (s := S896x896) (offL (128 * r) v (BitVec.ofNat 32 (32 * w.val))) S32x128.size (hL v h w))).Stores Finset.univ}
    (hchk : ∀ v : BitVec 32, v.toNat < 7 → chk v)
    (hbody : ∀ k, body k ⟨⟩ = tripProg arg3 arg5 arg9 arg10 subs s (offT b.val (Scf.iv a 1#32 k.val)) (h3 k)
      (offW (Scf.iv a 1#32 k.val) 0) (offW (Scf.iv a 1#32 k.val) 1) (offW (Scf.iv a 1#32 k.val) 2) (offW (Scf.iv a 1#32 k.val) 3)
      (h50 k) (h51 k) (h52 k) (h53 k) chk dec offD (offL (128 * r)) hD hL hS)
    {kk : PUnit → Prog (TpuEff (1 : ℕ) Topo.v7x sig (Elt F) Λ .tc) α} :
    (bufs c arg3 arg5 arg9 arg10 T W L D : sProp 𝕄)
      ⊢ iprop((bufs c arg3 arg5 arg9 arg10 T W (rowL W T b r s a.toNat L (z.toNat - a.toNat)) (rowD W T b a.toNat D (z.toNat - a.toNat))
            -∗ wp frame (wpE defs 𝒱 (c : Thread (1 : ℕ) Topo.v7x) bd) E (kk ⟨⟩) Q)
        -∗ wp frame (wpE defs 𝒱 (c : Thread (1 : ℕ) Topo.v7x) bd) E (Scf.Loop.for (mainLoop a z) hok ⟨⟩ body >>= kk) Q) := by
  have hn := main_trips hab hz
  have key := Scf.wp_for_bind (M := 𝕄) _ (wpE defs 𝒱 (c : Thread (1 : ℕ) Topo.v7x) bd) E (mainLoop a z).lb (mainLoop a z).ub (mainLoop a z).st hok ⟨⟩ body
    (kk := kk) (Q := Q) (fun k _ => bufs c arg3 arg5 arg9 arg10 T W (rowL W T b r s a.toNat L k) (rowD W T b a.toNat D k))
    (by
      intro k _
      have hk : k.val < z.toNat - a.toNat := lt_of_lt_of_eq k.isLt hn
      have hiv := iv_toNat hab hz k
      rw [hbody k]
      unfold bufs
      have h := wp_trip (Ix := Ix) (Name := Name) (U := U) (Lvl := Lvl) defs 𝒱 c bd E arg5 arg9 arg10 s W (rowL W T b r s a.toNat L k.val) (rowD W T b a.toNat D k.val)
        arg3 T (t := a.toNat + k.val) (b := b) (by omega) hr (hT _ (by omega) (by omega))
        (h3 := h3 k) (h50 := h50 k) (h51 := h51 k) (h52 := h52 k) (h53 := h53 k) (dec := dec) (hD := hD) (hL := hL) (hS := hS)
        (by rw [offT_eq, hiv]) (by rw [offW_eq, hiv]) (by rw [offW_eq, hiv]) (by rw [offW_eq, hiv]) (by rw [offW_eq, hiv])
        hchk (fun v hv w => offD_eq hv w) (fun v hv w => offL_eq _ hv w)
      exact h)
  rw [show Scf.trips (mainLoop a z).lb (mainLoop a z).ub (mainLoop a z).st = z.toNat - a.toNat from hn] at key
  refine BIBase.Entails.trans (show (bufs c arg3 arg5 arg9 arg10 T W L D : sProp 𝕄) ⊢ _ from key) ?_
  iintro H Hk
  iapply H
  iintro %acc H
  iapply Hk $$ H

omit [FloatOps F] in
theorem wp_restLoop {α : Type} {Q : α → sProp 𝕄} {a z : BitVec 32}
    {hok : (restLoop a z).OK} {body : Fin (restLoop a z).trips → PUnit → Prog (TpuEff (1 : ℕ) Topo.v7x sig (Elt F) Λ .tc) PUnit}
    {kk : PUnit → Prog (TpuEff (1 : ℕ) Topo.v7x sig (Elt F) Λ .tc) α} :
    wp frame (wpE (Ix := Ix) (Name := Name) (U := U) (Lvl := Lvl) defs 𝒱 (c : Thread (1 : ℕ) Topo.v7x) bd) E (kk ⟨⟩) Q
      ⊢ wp frame (wpE defs 𝒱 (c : Thread (1 : ℕ) Topo.v7x) bd) E (Scf.Loop.for (restLoop a z) hok ⟨⟩ body >>= kk) Q := by
  have h : Scf.Loop.for (restLoop a z) hok ⟨⟩ body = .ret ⟨⟩ := Scf.for_rem_eq _ _ _ _ _
  rw [h]
  exact BIBase.Entails.rfl

end

end Cert.Agg
-- ==== Proof.Blocks.lean ====
/-
  The arrays of the kernel block by block: 128 rows of the degree buffer, 128 lanes of the degree row, 128 lanes of the
  output block, one word of scalar memory, the scales of one row block. A buffer some blocks of which are replaced already is
  a family of blocks up to a bound; a store of the next block raises the bound by one.
-/
module

public import proofs.«01_k».proof.Proof.Row

@[expose] public section

noncomputable section

namespace Cert.Agg

open Idealize.ShloMosaic
open Idealize.ShloMosaic.ValueIdx

abbrev S128 : Shape := ⟨1, ![128]⟩
abbrev S2x8 : Shape := ⟨2, ![2, 8]⟩
abbrev S2x896 : Shape := ⟨2, ![2, 896]⟩
abbrev S128x1 : Shape := ⟨2, ![128, 1]⟩
abbrev S128x128 : Shape := ⟨2, ![128, 128]⟩
abbrev S1x1x128 : Shape := ⟨3, ![1, 1, 128]⟩
abbrev S1x1x896 : Shape := ⟨3, ![1, 1, 896]⟩
abbrev S896x512 : Shape := ⟨2, ![896, 512]⟩
abbrev S1x896x128 : Shape := ⟨3, ![1, 896, 128]⟩
abbrev S1x896x512 : Shape := ⟨3, ![1, 896, 512]⟩

section
variable {α : Type}

/-- A block that is the whole array. -/
theorem block_whole {s : Shape} (X : s.Idx → α) {off : Fin s.rank → ℕ} (inb : ∀ a, off a + s.size a ≤ s.size a) :
    block X off s.size inb = X := by
  funext x
  unfold block
  congr 1
  funext d
  apply Fin.ext
  have := inb d
  show off d + 1 * (x d).val = (x d).val
  omega

/-- A store of the whole array. -/
theorem put_whole {s : Shape} (X : s.Idx → α) {off : Fin s.rank → ℕ} (inb : ∀ a, off a + s.size a ≤ s.size a) (w : s.Idx → α) :
    put X off s.size inb w = w := by
  funext y
  unfold put
  have h : ∀ a, off a ≤ (y a).val ∧ (y a).val < off a + s.size a := fun a => by
    have := inb a; have := (y a).isLt; omega
  rw [dif_pos h]
  congr 1
  funext d
  apply Fin.ext
  have := inb d
  show (y d).val - off d = (y d).val
  omega

/-- One word of the row pointers. -/
theorem block_word8 (P : S2x8.Idx → α) {off : Fin 2 → ℕ} {b : Fin 2} {r : Fin 8} (e : off = ![b.val, r.val])
    (inb : ∀ a, off a + S1x1.size a ≤ S2x8.size a) (x : (Rect.unit (s := S2x8) off S1x1.size inb).shape.Idx) :
    block P off S1x1.size inb x = P (ix2 b r) := by
  subst e
  unfold block
  congr 1
  funext d
  apply Fin.ext
  match d with
  | ⟨0, _⟩ =>
    show b.val + 1 * (x (0 : Fin 2)).val = b.val
    have : (x (0 : Fin 2)).val < 1 := (x (0 : Fin 2)).isLt
    omega
  | ⟨1, _⟩ =>
    show r.val + 1 * (x (1 : Fin 2)).val = r.val
    have : (x (1 : Fin 2)).val < 1 := (x (1 : Fin 2)).isLt
    omega

/-! ## Blocks of 128 rows -/

/-- Block `n` of 128 rows of the degree buffer. -/
def dblk (D : S896x128.Idx → α) (n : ℕ) : S128x128.Idx → α := fun p => D (ix2 (Fin.ofNat 896 (128 * n + (p 0).val)) (p 1))

/-- The degree buffer with its first `n` blocks replaced by the family `G`. -/
def upTo0 (G : ℕ → S128x128.Idx → α) (D : S896x128.Idx → α) (n : ℕ) : S896x128.Idx → α := fun p =>
  if (p 0).val / 128 < n then G ((p 0).val / 128) (ix2 (Fin.ofNat 128 ((p 0).val % 128)) (p 1)) else D p

theorem upTo0_zero (G : ℕ → S128x128.Idx → α) (D : S896x128.Idx → α) : upTo0 G D 0 = D := by
  funext p; unfold upTo0; rw [if_neg (by omega)]

theorem block_upTo0 (G : ℕ → S128x128.Idx → α) (D : S896x128.Idx → α) {n : ℕ} (hn : n < 7) {off : Fin 2 → ℕ} (e : off = ![128 * n, 0])
    (inb : ∀ a, off a + S128x128.size a ≤ S896x128.size a) : block (upTo0 G D n) off S128x128.size inb = dblk D n := by
  subst e
  funext x
  have h0 : (x (0 : Fin 2)).val < 128 := (x (0 : Fin 2)).isLt
  have hx : (Rect.unit (s := S896x128) ![128 * n, 0] S128x128.size inb).emb x = ix2 (Fin.ofNat 896 (128 * n + (x (0 : Fin 2)).val)) (x (1 : Fin 2)) := by
    funext d
    apply Fin.ext
    match d with
    | ⟨0, _⟩ =>
      show 128 * n + 1 * (x (0 : Fin 2)).val = (128 * n + (x (0 : Fin 2)).val) % 896
      omega
    | ⟨1, _⟩ => show 0 + 1 * (x (1 : Fin 2)).val = _; exact (by omega : 0 + 1 * (x (1 : Fin 2)).val = (x (1 : Fin 2)).val)
  unfold block
  rw [hx]
  unfold upTo0
  rw [if_neg (by show ¬ ((128 * n + (x (0 : Fin 2)).val) % 896) / 128 < n; omega)]
  rfl

theorem put_upTo0 (G : ℕ → S128x128.Idx → α) (D : S896x128.Idx → α) {n : ℕ} (_hn : n < 7) {off : Fin 2 → ℕ} (e : off = ![128 * n, 0])
    (inb : ∀ a, off a + S128x128.size a ≤ S896x128.size a) (w : S128x128.Idx → α) (hw : w = G n) :
    put (upTo0 G D n) off S128x128.size inb w = upTo0 G D (n + 1) := by
  subst e hw
  funext y
  have h1 : (y (1 : Fin 2)).val < 128 := (y (1 : Fin 2)).isLt
  unfold put
  split
  · rename_i h
    have h0 : 128 * n ≤ (y (0 : Fin 2)).val ∧ (y (0 : Fin 2)).val < 128 * n + 128 := h (0 : Fin 2)
    have hd : (y (0 : Fin 2)).val / 128 = n := by omega
    unfold upTo0
    rw [if_pos (by show (y (0 : Fin 2)).val / 128 < n + 1; omega)]
    show G n _ = G ((y (0 : Fin 2)).val / 128) _
    rw [hd]
    congr 1
    funext d
    apply Fin.ext
    match d with
    | ⟨0, _⟩ =>
      show (y (0 : Fin 2)).val - 128 * n = ((y (0 : Fin 2)).val % 128) % 128
      omega
    | ⟨1, _⟩ => show (y (1 : Fin 2)).val - 0 = (y (1 : Fin 2)).val; omega
  · rename_i h
    have hd : (y (0 : Fin 2)).val / 128 ≠ n := by
      intro hd
      apply h
      intro a
      match a with
      | ⟨0, _⟩ => show 128 * n ≤ (y (0 : Fin 2)).val ∧ (y (0 : Fin 2)).val < 128 * n + 128; omega
      | ⟨1, _⟩ => show 0 ≤ (y (1 : Fin 2)).val ∧ (y (1 : Fin 2)).val < 0 + 128; omega
    unfold upTo0
    by_cases h2 : (y (0 : Fin 2)).val / 128 < n
    · rw [if_pos h2, if_pos (by show (y (0 : Fin 2)).val / 128 < n + 1; omega)]
    · rw [if_neg h2, if_neg (by show ¬ (y (0 : Fin 2)).val / 128 < n + 1; omega)]

/-! ## Blocks of 128 lanes -/

/-- An array of rank three with its first `n` blocks of 128 lanes replaced by the family `G`. -/
def upTo2 {q z : ℕ} (G : ℕ → (⟨3, ![1, q, 128]⟩ : Shape).Idx → α) (X : (⟨3, ![1, q, z]⟩ : Shape).Idx → α) (n : ℕ) :
    (⟨3, ![1, q, z]⟩ : Shape).Idx → α := fun p =>
  if (p 2).val / 128 < n then G ((p 2).val / 128) (ix3 (0 : Fin 1) (p 1) (Fin.ofNat 128 ((p 2).val % 128))) else X p

theorem upTo2_zero {q z : ℕ} (G : ℕ → (⟨3, ![1, q, 128]⟩ : Shape).Idx → α) (X : (⟨3, ![1, q, z]⟩ : Shape).Idx → α) : upTo2 G X 0 = X := by
  funext p; unfold upTo2; rw [if_neg (by omega)]

theorem put_upTo2 {q z : ℕ} (G : ℕ → (⟨3, ![1, q, 128]⟩ : Shape).Idx → α) (X : (⟨3, ![1, q, z]⟩ : Shape).Idx → α) {n : ℕ}
    {off : Fin 3 → ℕ} (e : off = ![0, 0, 128 * n])
    (inb : ∀ a, off a + (⟨3, ![1, q, 128]⟩ : Shape).size a ≤ (⟨3, ![1, q, z]⟩ : Shape).size a) (w : (⟨3, ![1, q, 128]⟩ : Shape).Idx → α) (hw : w = G n) :
    put (s := ⟨3, ![1, q, z]⟩) (upTo2 G X n) off (⟨3, ![1, q, 128]⟩ : Shape).size inb w = upTo2 G X (n + 1) := by
  subst e hw
  funext y
  have h0 : (y (0 : Fin 3)).val < 1 := (y (0 : Fin 3)).isLt
  have h1 : (y (1 : Fin 3)).val < q := (y (1 : Fin 3)).isLt
  unfold put
  split
  · rename_i h
    have h2 : 128 * n ≤ (y (2 : Fin 3)).val ∧ (y (2 : Fin 3)).val < 128 * n + 128 := h (2 : Fin 3)
    have hd : (y (2 : Fin 3)).val / 128 = n := by omega
    unfold upTo2
    rw [if_pos (by show (y (2 : Fin 3)).val / 128 < n + 1; omega)]
    show G n _ = G ((y (2 : Fin 3)).val / 128) _
    rw [hd]
    congr 1
    funext d
    apply Fin.ext
    match d with
    | ⟨0, _⟩ => show (y (0 : Fin 3)).val - 0 = 0; omega
    | ⟨1, _⟩ => show (y (1 : Fin 3)).val - 0 = (y (1 : Fin 3)).val; omega
    | ⟨2, _⟩ => show (y (2 : Fin 3)).val - 128 * n = ((y (2 : Fin 3)).val % 128) % 128; omega
  · rename_i h
    have hd : (y (2 : Fin 3)).val / 128 ≠ n := by
      intro hd
      apply h
      intro a
      match a with
      | ⟨0, _⟩ => show 0 ≤ (y (0 : Fin 3)).val ∧ (y (0 : Fin 3)).val < 0 + 1; omega
      | ⟨1, _⟩ => show 0 ≤ (y (1 : Fin 3)).val ∧ (y (1 : Fin 3)).val < 0 + q; omega
      | ⟨2, _⟩ => show 128 * n ≤ (y (2 : Fin 3)).val ∧ (y (2 : Fin 3)).val < 128 * n + 128; omega
    unfold upTo2
    by_cases h2 : (y (2 : Fin 3)).val / 128 < n
    · rw [if_pos h2, if_pos (by show (y (2 : Fin 3)).val / 128 < n + 1; omega)]
    · rw [if_neg h2, if_neg (by show ¬ (y (2 : Fin 3)).val / 128 < n + 1; omega)]

/-- With every block replaced nothing of the array is left. -/
theorem upTo2_full {q z : ℕ} (G : ℕ → (⟨3, ![1, q, 128]⟩ : Shape).Idx → α) (X Y : (⟨3, ![1, q, z]⟩ : Shape).Idx → α) {n : ℕ} (hz : z ≤ 128 * n) :
    upTo2 G X n = upTo2 G Y n := by
  funext p
  have h2 : (p (2 : Fin 3)).val < z := (p (2 : Fin 3)).isLt
  unfold upTo2
  rw [if_pos (by show (p (2 : Fin 3)).val / 128 < n; omega), if_pos (by show (p (2 : Fin 3)).val / 128 < n; omega)]

end

/-! ## The scales and the payloads -/

section
variable {F : FTy → Type} [FloatOps F]

/-- The scales of row block `r` of batch `b`, rounded to bf16. -/
def scaleRow (b : Fin 2) (Sc : S2x896.Idx → F .f32) (r : ℕ) : FVec F S1x128 .f32 := fun p =>
  FloatOps.extf .f32 (by decide) (FloatOps.truncf .bf16 (by decide) (Sc (ix2 b (Fin.ofNat 896 (128 * r + (p 1).val)))))

theorem block_scale (Sc : S2x896.Idx → F .f32) {off : Fin 2 → ℕ} {b : Fin 2} {r : ℕ} (hr : r < 7) (e : off = ![b.val, 128 * r])
    (inb : ∀ a, off a + S1x128.size a ≤ S2x896.size a) :
    block Sc off S1x128.size inb = fun p : S1x128.Idx => Sc (ix2 b (Fin.ofNat 896 (128 * r + (p 1).val))) := by
  subst e
  funext x
  unfold block
  congr 1
  funext d
  apply Fin.ext
  have h0 : (x (0 : Fin 2)).val < 1 := (x (0 : Fin 2)).isLt
  have h1 : (x (1 : Fin 2)).val < 128 := (x (1 : Fin 2)).isLt
  match d with
  | ⟨0, _⟩ => show b.val + 1 * (x (0 : Fin 2)).val = b.val; omega
  | ⟨1, _⟩ => show 128 * r + 1 * (x (1 : Fin 2)).val = (128 * r + (x (1 : Fin 2)).val) % 896; omega

/-- The scales as the kernel picks them: both batches' rows are read and one is taken. -/
def pickScale (b : BitVec 32) (s0 s1 : Vec F S1x128 .f32) : FVec F S1x128 .f32 :=
  extf .f32 (truncf .bf16 (Scalar.select (Scalar.cmpi .eq b 1#32) s1 s0) (by decide)) (by decide)

theorem pickScale_eq (Sc : S2x896.Idx → F .f32) (b : Fin 2) {r : ℕ} (hr : r < 7) {o0 o1 : Fin 2 → ℕ}
    (e0 : o0 = ![0, 128 * r]) (e1 : o1 = ![1, 128 * r])
    (i0 : ∀ a, o0 a + S1x128.size a ≤ S2x896.size a) (i1 : ∀ a, o1 a + S1x128.size a ≤ S2x896.size a) :
    pickScale (BitVec.ofNat 32 b.val) (block Sc o0 S1x128.size i0) (block Sc o1 S1x128.size i1) = scaleRow b Sc r := by
  rw [block_scale (b := 0) Sc hr e0 i0, block_scale (b := 1) Sc hr e1 i1]
  match b with
  | ⟨0, _⟩ => rfl
  | ⟨1, _⟩ => rfl

/-- The degrees of 128 columns: every lane of a row is the row's sum. -/
def degBlk (v : Vec F S128x128 .f32) : FVec F S128x128 .f32 :=
  broadcastTo S128x128 (shapeCast S128x1 (shapeCast S128x1 (multiReduction .add [1] S128 v 0x00000000#32 (by decide) (.inl rfl) rfl) (by decide)) (by decide)) (by decide)

/-- Their degrees as a row of lanes: the diagonal of `degBlk`. -/
def cdegBlk (v : Vec F S128x128 .f32) : FVec F S1x1x128 .f32 :=
  shapeCast S1x1x128 (shapeCast S1x128 (multiReduction .add [0] S128
    (select (cmpi .eq (iota .tc S128x128 32 [0] (by decide)) (iota .tc S128x128 32 [1] (by decide))) (degBlk v) (broadcast S128x128 (Scalar.ofBits .f32 0x00000000#32)))
    0x00000000#32 (by decide) (.inl rfl) rfl) (by decide)) (by decide)

/-- What the sums of 128 columns are multiplied by: the degree's reciprocal, or zero for a column with none. -/
def normBlk (v : Vec F S128x128 .f32) : FVec F S128x128 .f32 :=
  shapeCast S128x128 (select (cmpf .ogt (degBlk v) (broadcast S128x128 (Scalar.ofBits .f32 0x00000000#32)))
    (divf (broadcast S128x128 (Scalar.ofBits .f32 0x3F800000#32))
      (select (cmpf .ogt (degBlk v) (broadcast S128x128 (Scalar.ofBits .f32 0x00000000#32))) (degBlk v) (broadcast S128x128 (Scalar.ofBits .f32 0x3F800000#32))))
    (broadcast S128x128 (Scalar.ofBits .f32 0x00000000#32))) (by decide)

end

end Cert.Agg
-- ==== Proof.State.lean ====
/-
  What the kernel's buffers hold. At the first grid point of a batch the seven row blocks are added to zeros (`buildL`,
  `buildD`), the degree row is written (`degRow`) and the degree buffer is replaced by its reciprocals (`normD`). Every point
  multiplies the matrix with its 512 lanes of `x` and the products with the reciprocals (`outBlk`).
-/
module

public import proofs.«01_k».proof.Proof.Blocks

@[expose] public section

noncomputable section

namespace Cert.Agg

open Idealize.ShloMosaic
open Idealize.ShloMosaic.ValueIdx

variable {F : FTy → Type} [FloatOps F]

/-- The first slot of row block `r` of batch `b`. -/
def ptr (P : S2x8.Idx → BitVec 32) (b : Fin 2) (r : ℕ) : ℕ := (P (ix2 b (Fin.ofNat 8 r))).toNat

/-- The precondition's facts about batch `b`: the row pointers rise from slot 0 to at most 42 and the columns of the slots
below the last pointer are below 7. -/
structure Good (P : S2x8.Idx → BitVec 32) (T : S2x42.Idx → BitVec 32) (b : Fin 2) : Prop where
  first : ptr P b 0 = 0
  le : ∀ r, r < 7 → ptr P b r ≤ ptr P b (r + 1)
  last : ptr P b 7 ≤ 42
  col : ∀ t, t < ptr P b 7 → colOf T b t < 7

theorem Good.mono {P : S2x8.Idx → BitVec 32} {T : S2x42.Idx → BitVec 32} {b : Fin 2} (h : Good P T b) (r n : ℕ) (hn : r + n ≤ 7) :
    ptr P b r ≤ ptr P b (r + n) := by
  induction n with
  | zero => exact Nat.le_refl _
  | succ n ih => exact (ih (by omega)).trans (h.le (r + n) (by omega))

theorem Good.le7 {P : S2x8.Idx → BitVec 32} {T : S2x42.Idx → BitVec 32} {b : Fin 2} (h : Good P T b) {r : ℕ} (hr : r ≤ 7) :
    ptr P b r ≤ ptr P b 7 := by
  have := h.mono r (7 - r) (by omega)
  rwa [show r + (7 - r) = 7 by omega] at this

/-- The degrees after the first `n` row blocks. -/
def buildD (P : S2x8.Idx → BitVec 32) (T : S2x42.Idx → BitVec 32) (W : S1x42x4x128.Idx → BitVec 32) (b : Fin 2) : ℕ → S896x128.Idx → F .f32
  | 0 => fun _ => Scalar.ofBits .f32 0x00000000#32
  | n + 1 => rowD W T b (ptr P b n) (buildD P T W b n) (ptr P b (n + 1) - ptr P b n)

/-- The matrix after the first `n` row blocks. -/
def buildL (P : S2x8.Idx → BitVec 32) (T : S2x42.Idx → BitVec 32) (W : S1x42x4x128.Idx → BitVec 32) (Sc : S2x896.Idx → F .f32) (b : Fin 2) :
    ℕ → S896x896.Idx → F .bf16
  | 0 => fun _ => Scalar.ofBits .bf16 0x0000#16
  | n + 1 => rowL W T b n (scaleRow b Sc n) (ptr P b n) (buildL P T W Sc b n) (ptr P b (n + 1) - ptr P b n)

/-- The degree buffer with `n` of its blocks replaced by reciprocals. -/
def normTo (D : S896x128.Idx → F .f32) (n : ℕ) : S896x128.Idx → F .f32 := upTo0 (fun k => normBlk (dblk D k)) D n

/-- The degree row with `n` of its blocks written. -/
def degTo (D : S896x128.Idx → F .f32) (X : S1x1x896.Idx → F .f32) (n : ℕ) : S1x1x896.Idx → F .f32 := upTo2 (fun k => cdegBlk (dblk D k)) X n

/-- The reciprocals of the degrees. -/
def normD (D : S896x128.Idx → F .f32) : S896x128.Idx → F .f32 := normTo D 7

/-- The degree row. -/
def degRow (D : S896x128.Idx → F .f32) : S1x1x896.Idx → F .f32 := degTo D (fun _ => Scalar.ofBits .f32 0x00000000#32) 7

theorem degTo_full (D : S896x128.Idx → F .f32) (X : S1x1x896.Idx → F .f32) : degTo D X 7 = degRow D :=
  upTo2_full _ _ _ (by omega)

/-- The contraction of the matrix with the 512 lanes of `x`. -/
def aggDot : DotDims S896x896 S896x512 S896x512 where
  lhsContracting := [1]
  rhsContracting := [0]
  lhsNonContracting := [0]
  rhsNonContracting := [1]
  lhsBatch := []
  rhsBatch := []
  wf := by decide

/-- The products of the matrix with the 512 lanes of `x`. -/
def aggProd (L : S896x896.Idx → F .bf16) (X : S1x896x512.Idx → F .fp8e4m3) : FVec F S896x512 .f32 :=
  matmul aggDot none (φ₁ := .bf16) L (φ₂ := .fp8e4m3) (shapeCast S896x512 X (by decide)) (constant S896x512 .f32 0x00000000#32)

/-- 128 lanes of the output block. -/
def colBlk (M : FVec F S896x512 .f32) (N : S896x128.Idx → F .f32) (n : ℕ) : FVec F S1x896x128 .bf16 := fun p =>
  FloatOps.truncf .bf16 (by decide) (FloatOps.mulf (M (ix2 (p 1) (Fin.ofNat 512 (128 * n + (p 2).val)))) (N (ix2 (p 1) (p 2))))

/-- The output block with `n` of its four blocks of lanes written. -/
def outTo (L : S896x896.Idx → F .bf16) (X : S1x896x512.Idx → F .fp8e4m3) (N : S896x128.Idx → F .f32) (Y : S1x896x512.Idx → F .bf16) (n : ℕ) :
    S1x896x512.Idx → F .bf16 := upTo2 (colBlk (aggProd L X) N) Y n

/-- The output block. -/
def outBlk (L : S896x896.Idx → F .bf16) (X : S1x896x512.Idx → F .fp8e4m3) (N : S896x128.Idx → F .f32) : S1x896x512.Idx → F .bf16 :=
  outTo L X N (fun _ => Scalar.ofBits .bf16 0x0000#16) 4

theorem outTo_full (L : S896x896.Idx → F .bf16) (X : S1x896x512.Idx → F .fp8e4m3) (N : S896x128.Idx → F .f32) (Y : S1x896x512.Idx → F .bf16) :
    outTo L X N Y 4 = outBlk L X N := upTo2_full _ _ _ (by omega)

/-- 128 lanes of the output block as the kernel computes them. -/
theorem colBlk_eq (M : FVec F S896x512 .f32) (N : S896x128.Idx → F .f32) {n : ℕ} (hn : n < 4) {off : Fin 2 → ℕ} (e : off = ![0, 128 * n])
    (h : S896x512.Slices off S896x128) (hc : S896x128.ShapeCasts S1x896x128) (hb : FTy.bits .bf16 < FTy.bits .f32) :
    shapeCast S1x896x128 (truncf .bf16 (mulf (extractStridedSlice S896x128 off M h) N) hb) hc = colBlk M N n := by
  subst e
  funext p
  have h0 : (p (0 : Fin 3)).val < 1 := (p (0 : Fin 3)).isLt
  have h1 : (p (1 : Fin 3)).val < 896 := (p (1 : Fin 3)).isLt
  have h2 : (p (2 : Fin 3)).val < 128 := (p (2 : Fin 3)).isLt
  rw [shapeCast_apply _ hc p (ix2 (p (1 : Fin 3)) (p (2 : Fin 3)))
    (by rw [Shape.rowMajor_val_two, Shape.rowMajor_val_three]
        show (p (1 : Fin 3)).val * 128 + (p (2 : Fin 3)).val = ((p (0 : Fin 3)).val * 896 + (p (1 : Fin 3)).val) * 128 + (p (2 : Fin 3)).val
        omega)]
  show FloatOps.truncf .bf16 _ (FloatOps.mulf (extractStridedSlice S896x128 _ M h _) _) = _
  rw [extractStridedSlice_apply _ M h _ (ix2 (p (1 : Fin 3)) (Fin.ofNat 512 (128 * n + (p (2 : Fin 3)).val)))
    (fun a => by
      match a with
      | ⟨0, _⟩ => show (p (1 : Fin 3)).val = 0 + (p (1 : Fin 3)).val; omega
      | ⟨1, _⟩ => show (128 * n + (p (2 : Fin 3)).val) % 512 = 128 * n + (p (2 : Fin 3)).val; omega)]
  rfl

end Cert.Agg
-- ==== Proof.Inputs.lean ====
/-
  The precondition read off its printed predicate: in each batch the row pointers start at slot 0, never fall and end at 42 at
  the most, and every slot before the last pointer names one of the seven column blocks.
-/
module

public import proofs.«01_k».proof.Proof.State
public import proofs.«01_k».proof.Proof.Gen.Pre_valid_tiles
public import Idealize.ShloMosaic.Lib.Pipeline.Value

@[expose] public section

noncomputable section

namespace Cert.Agg

open Idealize.ShloMosaic
open Idealize.ShloMosaic.ValueIdx

variable {F : FTy → Type} [FloatOps F]

open Cert.Pre_valid_tiles (S2x1 S2x7 S2x42x7) in
/-- One column of the row pointers, repeated over all indices; -/
theorem col_bcast (n : ℕ) (k : Fin 8) (hk : k.val = n) (h₁ : S2x8.Slices ![0, n] S2x1) (h₂ : S2x1.BroadcastsInDim S2x42x7 (![0, 1] : Fin 2 → Fin 3))
    (P : S2x8.Idx → BitVec 32) (b : Fin 2) (t : Fin 42) (r : Fin 7) :
    broadcastInDim S2x42x7 ![0, 1] h₂ (extractStridedSlice S2x1 ![0, n] P h₁) (ix3 b t r) = P (ix2 b k) := by
  rw [broadcastInDim_apply _ h₂ _ _ (ix2 b (0 : Fin 1)) (fun a => by fin_cases a <;> rfl)]
  exact extractStridedSlice_apply _ P h₁ _ _ (fun a => by
    fin_cases a
    · show b.val = 0 + b.val; omega
    · show k.val = n + 0; omega)

open Cert.Pre_valid_tiles (S2x1 S2x7 S2x42x7) in
/-- seven of its columns, one for each row block; -/
theorem row_bcast (n : ℕ) (r : Fin 7) (k : Fin 8) (hk : k.val = n + r.val) (h₁ : S2x8.Slices ![0, n] S2x7) (h₂ : S2x7.BroadcastsInDim S2x42x7 (![0, 2] : Fin 2 → Fin 3))
    (P : S2x8.Idx → BitVec 32) (b : Fin 2) (t : Fin 42) :
    broadcastInDim S2x42x7 ![0, 2] h₂ (extractStridedSlice S2x7 ![0, n] P h₁) (ix3 b t r) = P (ix2 b k) := by
  rw [broadcastInDim_apply _ h₂ _ _ (ix2 b r) (fun a => by fin_cases a <;> rfl)]
  exact extractStridedSlice_apply _ P h₁ _ _ (fun a => by
    fin_cases a
    · show b.val = 0 + b.val; omega
    · show k.val = n + r.val; omega)

open Cert.Pre_valid_tiles (S2x42x7) in
/-- the slots' columns, one for each slot. -/
theorem slot_bcast (h₂ : S2x42.BroadcastsInDim S2x42x7 (![0, 1] : Fin 2 → Fin 3)) (T : S2x42.Idx → BitVec 32) (b : Fin 2) (t : Fin 42) (r : Fin 7) :
    broadcastInDim S2x42x7 ![0, 1] h₂ T (ix3 b t r) = T (ix2 b t) :=
  broadcastInDim_apply _ h₂ _ _ (ix2 b t) (fun a => by fin_cases a <;> rfl)

/-- The predicate at one index, as inequalities of words. -/
theorem valid_at (a0 : Cert.Pre_valid_tiles.S2x896x3584.Idx → F .fp8e4m3) (a1 : S2x896.Idx → F .f32) (P : S2x8.Idx → BitVec 32) (T : S2x42.Idx → BitVec 32)
    (M : Cert.Pre_valid_tiles.S2x42x128x4.Idx → BitVec 32) (h : Cert.Pre_valid_tiles.fn (F := F) a0 a1 P T M = fun _ => 1#1)
    (b : Fin 2) (t : Fin 42) (r : Fin 7) :
    (P (ix2 b 0)).toInt = 0 ∧ (P (ix2 b r.castSucc)).toInt ≤ (P (ix2 b r.succ)).toInt ∧ (P (ix2 b 7)).toInt ≤ 42
      ∧ ((P (ix2 b 7)).toInt ≤ t.val ∨ 0 ≤ (T (ix2 b t)).toInt ∧ (T (ix2 b t)).toInt < 7) := by
  have e := congrFun h (ix3 b t r)
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  have ofBool_eq_one (p : Bool) : (BitVec.ofBool p = 1#1) ↔ p = true := by cases p <;> decide
  simp only [Cert.Pre_valid_tiles.fn, Cert.Pre_valid_tiles.fn_part1, andi, ori, cmpi] at e
  rw [col_bcast 0 0 rfl, col_bcast 7 7 rfl, row_bcast 0 r r.castSucc (by simp), row_bcast 1 r r.succ (by simp [Nat.add_comm]), slot_bcast] at e
  have hc : ∀ (w : BitVec 32) h, broadcastInDim Cert.Pre_valid_tiles.S2x42x7 ![] h (constantI Cert.Pre_valid_tiles.S_ 32 w) (ix3 b t r) = w := fun _ _ => rfl
  have hi : iotaInDim Cert.Pre_valid_tiles.S2x42x7 32 1 (ix3 b t r) = BitVec.ofNat 32 t.val := rfl
  simp only [hc, hi, IntOp.cmpi, andi_ofBool, ori_ofBool, ofBool_eq_one, Bool.and_eq_true, Bool.or_eq_true, BitVec.sle_eq_decide, BitVec.slt_eq_decide,
    decide_eq_true_eq, beq_iff_eq] at e
  have ht : (BitVec.ofNat 32 t.val).toInt = t.val := by
    have := t.isLt
    rw [BitVec.toInt_eq_toNat_cond, BitVec.toNat_ofNat]; omega
  obtain ⟨⟨⟨h0, h1⟩, h2⟩, h3⟩ := e
  rw [ht] at h3
  refine ⟨by rw [h0]; rfl, h1, h2, h3.imp id fun h => ⟨h.1, h.2⟩⟩

/-- The precondition in the kernel's words. -/
theorem good_of_valid (a0 : Cert.Pre_valid_tiles.S2x896x3584.Idx → F .fp8e4m3) (a1 : S2x896.Idx → F .f32) (P : S2x8.Idx → BitVec 32) (T : S2x42.Idx → BitVec 32)
    (M : Cert.Pre_valid_tiles.S2x42x128x4.Idx → BitVec 32) (h : Cert.Pre_valid_tiles.fn (F := F) a0 a1 P T M = fun _ => 1#1)
    (b : Fin 2) : Good P T b := by
  have key := fun t r => valid_at a0 a1 P T M h b t r
  have nat {w : BitVec 32} (h : 0 ≤ w.toInt) : (w.toNat : ℤ) = w.toInt := by
    rw [BitVec.toInt_eq_toNat_cond] at h ⊢; have := w.isLt; split at h <;> split <;> omega
  have hs (r : ℕ) (hr : r < 7) : (P (ix2 b (Fin.ofNat 8 r))).toInt ≤ (P (ix2 b (Fin.ofNat 8 (r + 1)))).toInt := by
    have := (key 0 ⟨r, hr⟩).2.1
    rwa [show (⟨r, hr⟩ : Fin 7).castSucc = Fin.ofNat 8 r from Fin.ext (by simp [Fin.ofNat]; omega),
      show (⟨r, hr⟩ : Fin 7).succ = Fin.ofNat 8 (r + 1) from Fin.ext (by simp [Fin.ofNat]; omega)] at this
  have hz : ∀ r, r ≤ 7 → 0 ≤ (P (ix2 b (Fin.ofNat 8 r))).toInt := by
    intro r
    induction r with
    | zero => intro _; exact (key 0 0).1.ge
    | succ r ih => intro hr; exact (ih (by omega)).trans (hs r (by omega))
  have h7 : (P (ix2 b (Fin.ofNat 8 7))).toInt ≤ 42 := (key 0 0).2.2.1
  refine ⟨?_, ?_, ?_, ?_⟩
  · have := nat (hz 0 (by omega))
    have h0 : (P (ix2 b (Fin.ofNat 8 0))).toInt = 0 := (key 0 0).1
    unfold ptr; omega
  · intro r hr
    have := nat (hz r (by omega)); have := nat (hz (r + 1) (by omega)); have := hs r hr
    unfold ptr; omega
  · have := nat (hz 7 (by omega))
    unfold ptr; omega
  · intro t ht
    have h7' := nat (hz 7 (by omega))
    unfold ptr at ht
    have ht' : t < 42 := by omega
    have := (key ⟨t, ht'⟩ 0).2.2.2
    rw [show (⟨t, ht'⟩ : Fin 42) = Fin.ofNat 42 t from Fin.ext (by simp [Fin.ofNat]; omega)] at this
    have e7 : (P (ix2 b 7)).toInt = (P (ix2 b (Fin.ofNat 8 7))).toInt := rfl
    rcases this with h | ⟨h, h'⟩
    · rw [e7] at h; rw [show (Fin.ofNat 42 t : Fin 42).val = t from Nat.mod_eq_of_lt ht'] at h; omega
    · have := nat h
      unfold colOf; omega

end Cert.Agg

end
-- ==== Proof.NormRun.lean ====
/-
  The second half of the build, a block at a time: write 128 lanes of the degree row, replace 128 rows of the degree buffer by
  reciprocals; and 128 lanes of the output block at every point.
-/
module

public import proofs.«01_k».proof.Proof.State

@[expose] public section

noncomputable section

namespace Cert.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
variable {sig : RefSig} {Ix : Type} [DecidableEq Ix] {Name : Type} [DecidableEq Name] {U : Type} [URA U] {Lvl : Type} [Preorder Lvl] {Λ : Labels}
variable (defs : Defs (1 : ℕ) Topo.v7x sig (Elt F) Λ) (𝒱 : Variants) (c : Dev (1 : ℕ)) (bd : Option 𝒱.V) (E : Set Name)

local notation "𝕄" => MT (1 : ℕ) Topo.v7x sig Ix (Elt F) Name U Lvl

/-- The degrees of block `n` are read before the block is replaced. -/
theorem wp_blkLoad {α : Type} {Q : α → sProp 𝕄} (arg10 : Memref sig .tc .vmem S896x128 .f32) (D : S896x128.Idx → F .f32) (n : ℕ) (hn : n < 7)
    {off : Fin 2 → ℕ} (e : off = ![128 * n, 0]) {inb : ∀ a, off a + S128x128.size a ≤ S896x128.size a}
    {hl : arg10.view.LoadsAt (Rect.unit (s := S896x128) off S128x128.size inb).toLoadRect}
    {k : ((Rect.unit (s := S896x128) off S128x128.size inb).shape.Idx → Elt F .f32) → Prog (TpuEff (1 : ℕ) Topo.v7x sig (Elt F) Λ .tc) α} :
    (owns (c : Thread (1 : ℕ) Topo.v7x) arg10 fullShare (normTo D n) : sProp 𝕄)
      ⊢ iprop((owns (c : Thread (1 : ℕ) Topo.v7x) arg10 fullShare (normTo D n)
            -∗ wp frame (wpE defs 𝒱 (c : Thread (1 : ℕ) Topo.v7x) bd) E (k (dblk D n)) Q)
        -∗ wp frame (wpE defs 𝒱 (c : Thread (1 : ℕ) Topo.v7x) bd) E
            (.op (.load arg10 (Rect.unit (s := S896x128) off S128x128.size inb).toLoadRect hl) k) Q) := by
  have h := owns_load (Ix := Ix) (Name := Name) (U := U) (Lvl := Lvl) defs 𝒱 (c : Thread (1 : ℕ) Topo.v7x) bd E arg10 (normTo D n) (Q := Q)
    (inb := inb) (hl := hl) (k := k)
  rw [show block (normTo D n) off S128x128.size inb = dblk D n from block_upTo0 _ D hn e inb] at h
  exact h

/-- Block `n` of the degree buffer is replaced by its reciprocals. -/
theorem wp_normStep {α : Type} {Q : α → sProp 𝕄} (arg10 : Memref sig .tc .vmem S896x128 .f32) (D : S896x128.Idx → F .f32) (n : ℕ) (hn : n < 7)
    {off : Fin 2 → ℕ} (e : off = ![128 * n, 0]) {inb : ∀ a, off a + S128x128.size a ≤ S896x128.size a}
    {w : (Rect.unit (s := S896x128) off S128x128.size inb).shape.Idx → F .f32} (hw : w = normBlk (dblk D n))
    {hl : arg10.view.LoadsAt (Rect.unit (s := S896x128) off S128x128.size inb).toLoadRect}
    {hx : (arg10.access (Rect.unit (s := S896x128) off S128x128.size inb)).Stores Finset.univ}
    {hm : Finset.univ = Finset.univ ∨ ∀ a, (Rect.unit (s := S896x128) off S128x128.size inb).stride a = 1}
    {k : PUnit → Prog (TpuEff (1 : ℕ) Topo.v7x sig (Elt F) Λ .tc) α} :
    (owns (c : Thread (1 : ℕ) Topo.v7x) arg10 fullShare (normTo D n) : sProp 𝕄)
      ⊢ iprop((owns (c : Thread (1 : ℕ) Topo.v7x) arg10 fullShare (normTo D (n + 1))
            -∗ wp frame (wpE defs 𝒱 (c : Thread (1 : ℕ) Topo.v7x) bd) E (k ⟨⟩) Q)
        -∗ wp frame (wpE defs 𝒱 (c : Thread (1 : ℕ) Topo.v7x) bd) E
            (.op (.load arg10 (Rect.unit (s := S896x128) off S128x128.size inb).toLoadRect hl) fun _ =>
              .op (.store arg10 (Rect.unit (s := S896x128) off S128x128.size inb) w Finset.univ hx hm) k) Q) := by
  iintro H Hk
  iapply (owns_load defs 𝒱 (c : Thread (1 : ℕ) Topo.v7x) bd E arg10 (normTo D n)) $$ H
  iintro H
  iapply (owns_store defs 𝒱 (c : Thread (1 : ℕ) Topo.v7x) bd E arg10 (normTo D n)) $$ H
  iintro H
  rw [show put (normTo D n) off S128x128.size inb w = normTo D (n + 1) from put_upTo0 _ D hn e inb w hw]
  iapply Hk $$ H

/-- Block `n` of the degree row is written. -/
theorem wp_degStep {α : Type} {Q : α → sProp 𝕄} (arg8 : Memref sig .tc .vmem S1x1x896 .f32) (D : S896x128.Idx → F .f32) (X : S1x1x896.Idx → F .f32) (n : ℕ)
    {off : Fin 3 → ℕ} (e : off = ![0, 0, 128 * n]) {inb : ∀ a, off a + S1x1x128.size a ≤ S1x1x896.size a}
    {w : (Rect.unit (s := S1x1x896) off S1x1x128.size inb).shape.Idx → F .f32} (hw : w = cdegBlk (dblk D n))
    {hl : arg8.view.LoadsAt (Rect.unit (s := S1x1x896) off S1x1x128.size inb).toLoadRect}
    {hx : (arg8.access (Rect.unit (s := S1x1x896) off S1x1x128.size inb)).Stores Finset.univ}
    {hm : Finset.univ = Finset.univ ∨ ∀ a, (Rect.unit (s := S1x1x896) off S1x1x128.size inb).stride a = 1}
    {k : PUnit → Prog (TpuEff (1 : ℕ) Topo.v7x sig (Elt F) Λ .tc) α} :
    (owns (c : Thread (1 : ℕ) Topo.v7x) arg8 fullShare (degTo D X n) : sProp 𝕄)
      ⊢ iprop((owns (c : Thread (1 : ℕ) Topo.v7x) arg8 fullShare (degTo D X (n + 1))
            -∗ wp frame (wpE defs 𝒱 (c : Thread (1 : ℕ) Topo.v7x) bd) E (k ⟨⟩) Q)
        -∗ wp frame (wpE defs 𝒱 (c : Thread (1 : ℕ) Topo.v7x) bd) E
            (.op (.load arg8 (Rect.unit (s := S1x1x896) off S1x1x128.size inb).toLoadRect hl) fun _ =>
              .op (.store arg8 (Rect.unit (s := S1x1x896) off S1x1x128.size inb) w Finset.univ hx hm) k) Q) := by
  iintro H Hk
  iapply (owns_load defs 𝒱 (c : Thread (1 : ℕ) Topo.v7x) bd E arg8 (degTo D X n)) $$ H
  iintro H
  iapply (owns_store defs 𝒱 (c : Thread (1 : ℕ) Topo.v7x) bd E arg8 (degTo D X n)) $$ H
  iintro H
  rw [show put (degTo D X n) off S1x1x128.size inb w = degTo D X (n + 1) from put_upTo2 _ X e inb w hw]
  iapply Hk $$ H

/-- Block `n` of the output block is written: the reciprocals are read, and the block of lanes is stored. -/
theorem wp_outStep {α : Type} {Q : α → sProp 𝕄} (arg7 : Memref sig .tc .vmem S1x896x512 .bf16) (arg10 : Memref sig .tc .vmem S896x128 .f32)
    (L : S896x896.Idx → F .bf16) (X : S1x896x512.Idx → F .fp8e4m3) (N : S896x128.Idx → F .f32) (Y : S1x896x512.Idx → F .bf16) (n : ℕ)
    {offN : Fin 2 → ℕ} {inbN : ∀ a, offN a + S896x128.size a ≤ S896x128.size a}
    {hN : arg10.view.LoadsAt (Rect.unit (s := S896x128) offN S896x128.size inbN).toLoadRect}
    {off : Fin 3 → ℕ} (e : off = ![0, 0, 128 * n]) {inb : ∀ a, off a + S1x896x128.size a ≤ S1x896x512.size a}
    {w : ((Rect.unit (s := S896x128) offN S896x128.size inbN).shape.Idx → Elt F .f32) → (Rect.unit (s := S1x896x512) off S1x896x128.size inb).shape.Idx → F .bf16} (hw : w N = colBlk (aggProd L X) N n)
    {hl : arg7.view.LoadsAt (Rect.unit (s := S1x896x512) off S1x896x128.size inb).toLoadRect}
    {hx : (arg7.access (Rect.unit (s := S1x896x512) off S1x896x128.size inb)).Stores Finset.univ}
    {hm : Finset.univ = Finset.univ ∨ ∀ a, (Rect.unit (s := S1x896x512) off S1x896x128.size inb).stride a = 1}
    {k : PUnit → Prog (TpuEff (1 : ℕ) Topo.v7x sig (Elt F) Λ .tc) α} :
    (iprop(owns (c : Thread (1 : ℕ) Topo.v7x) arg7 fullShare (outTo L X N Y n) ∗ owns (c : Thread (1 : ℕ) Topo.v7x) arg10 fullShare N) : sProp 𝕄)
      ⊢ iprop(((owns (c : Thread (1 : ℕ) Topo.v7x) arg7 fullShare (outTo L X N Y (n + 1)) ∗ owns (c : Thread (1 : ℕ) Topo.v7x) arg10 fullShare N)
            -∗ wp frame (wpE defs 𝒱 (c : Thread (1 : ℕ) Topo.v7x) bd) E (k ⟨⟩) Q)
        -∗ wp frame (wpE defs 𝒱 (c : Thread (1 : ℕ) Topo.v7x) bd) E
            (.op (.load arg10 (Rect.unit (s := S896x128) offN S896x128.size inbN).toLoadRect hN) fun v =>
              .op (.load arg7 (Rect.unit (s := S1x896x512) off S1x896x128.size inb).toLoadRect hl) fun _ =>
              .op (.store arg7 (Rect.unit (s := S1x896x512) off S1x896x128.size inb) (w v) Finset.univ hx hm) k) Q) := by
  iintro ⟨H7, H10⟩ Hk
  iapply (owns_load defs 𝒱 (c : Thread (1 : ℕ) Topo.v7x) bd E arg10 N) $$ H10
  iintro H10
  iapply (owns_load defs 𝒱 (c : Thread (1 : ℕ) Topo.v7x) bd E arg7 (outTo L X N Y n)) $$ H7
  iintro H7
  iapply (owns_store defs 𝒱 (c : Thread (1 : ℕ) Topo.v7x) bd E arg7 (outTo L X N Y n)) $$ H7
  iintro H7
  rw [show block N offN S896x128.size inbN = N from block_whole N inbN,
    show put (outTo L X N Y n) off S1x896x128.size inb (w N) = outTo L X N Y (n + 1) from put_upTo2 _ Y e inb _ hw]
  iapply Hk
  isplitl [H7]
  · iexact H7
  · iexact H10

end Cert.Agg
-- ==== Proof.RowRun.lean ====
/-
  One row block as a rule: from the facts of the precondition and the buffers with `r` row blocks built, the two loops of row
  block `r` leave the buffers with `r + 1` row blocks built.
-/
module

public import proofs.«01_k».proof.Proof.State

@[expose] public section

noncomputable section

namespace Cert.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
variable {sig : RefSig} {Ix : Type} [DecidableEq Ix] {Name : Type} [DecidableEq Name] {U : Type} [URA U] {Lvl : Type} [Preorder Lvl] {Λ : Labels}

/-- A trip of the loop of row block `q / 128`, its accesses in bounds by the facts the program checks. -/
def rowTrip (arg3 : Memref sig .tc .smem S2x42 .i32) (arg5 : Memref sig .tc .vmem S1x42x4x128 .i32)
    (arg9 : Memref sig .tc .vmem S896x896 .bf16) (harg9 : arg9.IsWhole) (arg10 : Memref sig .tc .vmem S896x128 .f32)
    (sub : IVec S32x128 32) (s : FVec F S1x128 .f32) (b q : ℕ) {p : Prop} (hp : p) {a z : BitVec 32} (hrow : rowChk p b a z)
    (dec : ∀ v, Decidable (tripChk p q v)) (k : Fin (mainLoop a z).trips) : Prog (TpuEff (1 : ℕ) Topo.v7x sig (Elt F) Λ .tc) PUnit :=
  tripProg arg3 arg5 arg9 arg10 sub s (offT b (Scf.iv a 1#32 k.val)) (hrow.2.1 k hp)
    (offW (Scf.iv a 1#32 k.val) 0) (offW (Scf.iv a 1#32 k.val) 1) (offW (Scf.iv a 1#32 k.val) 2) (offW (Scf.iv a 1#32 k.val) 3)
    (hrow.2.2.1 k hp) (hrow.2.2.2.1 k hp) (hrow.2.2.2.2.1 k hp) (hrow.2.2.2.2.2.1 k hp)
    (tripChk p q) dec offD (offL q) (fun _ h w => h.2.1 hp w) (fun _ h w => h.2.2.1 hp w)
    (fun _ h w => View.stores_vmem h_S32x128 (harg9.storeExact_slice rfl _ (h.2.2.2 hp w _)) (fun _ => rfl))

variable (defs : Defs (1 : ℕ) Topo.v7x sig (Elt F) Λ) (𝒱 : Variants) (c : Dev (1 : ℕ)) (bd : Option 𝒱.V) (E : Set Name)

local notation "𝕄" => MT (1 : ℕ) Topo.v7x sig Ix (Elt F) Name U Lvl

theorem Good.chk {P : S2x8.Idx → BitVec 32} {T : S2x42.Idx → BitVec 32} {b : Fin 2} (h : Good P T b) {r : ℕ} (hr : r < 7) (p : Prop) :
    rowChk p b.val (P (ix2 b (Fin.ofNat 8 r))) (P (ix2 b (Fin.ofNat 8 (r + 1)))) :=
  rowChk_of p b (h.le r hr) ((h.le7 (show r + 1 ≤ 7 by omega)).trans h.last)

/-- A load of one row pointer. -/
theorem wp_ptr {α : Type} {Q : α → sProp 𝕄} (arg2 : Memref sig .tc .smem S2x8 .i32) (P : S2x8.Idx → BitVec 32) (b : Fin 2) (r : ℕ) (hr : r < 8)
    {off : Fin 2 → ℕ} (e : off = ![b.val, r]) {inb : ∀ a, off a + S1x1.size a ≤ S2x8.size a}
    {h1 : (Rect.unit (s := S2x8) off S1x1.size inb).shape.numel = 1} {hp : EltTy.i32.packing = 1}
    {k : BitVec 32 → Prog (TpuEff (1 : ℕ) Topo.v7x sig (Elt F) Λ .tc) α} :
    (owns (c : Thread (1 : ℕ) Topo.v7x) arg2 fullShare P : sProp 𝕄)
      ⊢ iprop((owns (c : Thread (1 : ℕ) Topo.v7x) arg2 fullShare P
            -∗ wp frame (wpE defs 𝒱 (c : Thread (1 : ℕ) Topo.v7x) bd) E (k (P (ix2 b (Fin.ofNat 8 r)))) Q)
        -∗ wp frame (wpE defs 𝒱 (c : Thread (1 : ℕ) Topo.v7x) bd) E (smemLoad arg2 (Rect.unit (s := S2x8) off S1x1.size inb) h1 hp >>= k) Q) := by
  have hr' : (Fin.ofNat 8 r).val = r := Nat.mod_eq_of_lt hr
  have h := owns_smemLoad (Ix := Ix) (Name := Name) (U := U) (Lvl := Lvl) defs 𝒱 (c : Thread (1 : ℕ) Topo.v7x) bd E arg2 P (Q := Q)
    (inb := inb) (h1 := h1) (hp := hp) (k := k)
  rw [block_word8 (b := b) (r := Fin.ofNat 8 r) P (by rw [e, hr'])] at h
  exact h

theorem wp_row {α : Type} {Q : α → sProp 𝕄} (arg3 : Memref sig .tc .smem S2x42 .i32) (arg5 : Memref sig .tc .vmem S1x42x4x128 .i32)
    (arg9 : Memref sig .tc .vmem S896x896 .bf16) (harg9 : arg9.IsWhole) (arg10 : Memref sig .tc .vmem S896x128 .f32)
    (P : S2x8.Idx → BitVec 32) (T : S2x42.Idx → BitVec 32) (W : S1x42x4x128.Idx → BitVec 32) (Sc : S2x896.Idx → F .f32)
    {b : Fin 2} (hg : Good P T b) (r : ℕ) (hr : r < 7) {s : FVec F S1x128 .f32} (hs : s = scaleRow b Sc r) (p : Prop) (hp : p) (dec : ∀ v, Decidable (tripChk p (128 * r) v))
    {hok : (mainLoop (P (ix2 b (Fin.ofNat 8 r))) (P (ix2 b (Fin.ofNat 8 (r + 1))))).OK}
    {hok' : (restLoop (P (ix2 b (Fin.ofNat 8 r))) (P (ix2 b (Fin.ofNat 8 (r + 1))))).OK}
    {body : Fin (mainLoop (P (ix2 b (Fin.ofNat 8 r))) (P (ix2 b (Fin.ofNat 8 (r + 1))))).trips → PUnit → Prog (TpuEff (1 : ℕ) Topo.v7x sig (Elt F) Λ .tc) PUnit}
    {body' : Fin (restLoop (P (ix2 b (Fin.ofNat 8 r))) (P (ix2 b (Fin.ofNat 8 (r + 1))))).trips → PUnit → Prog (TpuEff (1 : ℕ) Topo.v7x sig (Elt F) Λ .tc) PUnit}
    (hbody : ∀ k, body k ⟨⟩ = rowTrip arg3 arg5 arg9 harg9 arg10 subs s b.val (128 * r) hp (hg.chk hr p) dec k)
    {kk : PUnit → Prog (TpuEff (1 : ℕ) Topo.v7x sig (Elt F) Λ .tc) α} :
    (bufs c arg3 arg5 arg9 arg10 T W (buildL P T W Sc b r) (buildD P T W b r) : sProp 𝕄)
      ⊢ iprop((bufs c arg3 arg5 arg9 arg10 T W (buildL P T W Sc b (r + 1)) (buildD P T W b (r + 1))
            -∗ wp frame (wpE defs 𝒱 (c : Thread (1 : ℕ) Topo.v7x) bd) E (kk ⟨⟩) Q)
        -∗ wp frame (wpE defs 𝒱 (c : Thread (1 : ℕ) Topo.v7x) bd) E
            (Scf.Loop.for (mainLoop (P (ix2 b (Fin.ofNat 8 r))) (P (ix2 b (Fin.ofNat 8 (r + 1))))) hok ⟨⟩ body >>= fun _ =>
              Scf.Loop.for (restLoop (P (ix2 b (Fin.ofNat 8 r))) (P (ix2 b (Fin.ofNat 8 (r + 1))))) hok' ⟨⟩ body' >>= kk) Q) := by
  subst hs
  have h7 := (hg.le7 (show r + 1 ≤ 7 by omega))
  have eL : rowL W T b r (scaleRow b Sc r) (P (ix2 b (Fin.ofNat 8 r))).toNat (buildL P T W Sc b r)
      ((P (ix2 b (Fin.ofNat 8 (r + 1)))).toNat - (P (ix2 b (Fin.ofNat 8 r))).toNat) = buildL P T W Sc b (r + 1) := rfl
  have eD : rowD W T b (P (ix2 b (Fin.ofNat 8 r))).toNat (buildD (F := F) P T W b r)
      ((P (ix2 b (Fin.ofNat 8 (r + 1)))).toNat - (P (ix2 b (Fin.ofNat 8 r))).toNat) = buildD P T W b (r + 1) := rfl
  iintro H Hk
  iapply (wp_rowLoop defs 𝒱 c bd E arg3 arg5 arg9 arg10 (scaleRow b Sc r) T W (buildL P T W Sc b r) (buildD P T W b r) hr
    (hg.le r hr) (h7.trans hg.last) (fun t _ ht => hg.col t (lt_of_lt_of_le ht h7)) (fun v hv => tripChk_of p (by omega) hv) hbody) $$ H
  iintro H
  rw [eL, eD]
  iapply (wp_restLoop defs 𝒱 c bd E)
  iapply Hk $$ H

end Cert.Agg
-- ==== Proof.Build.lean ====
/-
  The build at the first grid point of a batch, one printed part of the kernel after another: seven row blocks are added to
  the zeroed buffers.
-/
module

public import proofs.«01_k».proof.Proof.RowRun
public import proofs.«01_k».proof.Proof.Gen.Kernel.Skeleton

@[expose] public section

set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Gen Cert.Agg

variable {F : FTy → Type} [FloatOps F]
variable {Ix : Type} [DecidableEq Ix] {Name : Type} [DecidableEq Name] {U : Type} [URA U] {Lvl : Type} [Preorder Lvl]
variable (defs : Defs nD τ sig (Elt F) Λ₀) (𝒱 : Variants) (c : Dev nD) (bd : Option 𝒱.V) (E : Set Name)

local notation "𝕄" => MT nD τ sig Ix (Elt F) Name U Lvl

variable (i : grid0.Coords)
  (arg2 : Memref sig .tc .smem S2x8 .i32) (harg2 : arg2.IsWhole) (arg3 : Memref sig .tc .smem S2x42 .i32) (harg3 : arg3.IsWhole)
  (arg4 : Memref sig .tc .vmem S2x896 .f32) (harg4 : arg4.IsWhole) (arg5 : Memref sig .tc .vmem S1x42x4x128 .i32) (harg5 : arg5.IsWhole)
  (arg6 : Memref sig .tc .vmem S1x896x512 .fp8e4m3) (harg6 : arg6.IsWhole) (arg7 : Memref sig .tc .vmem S1x896x512 .bf16) (harg7 : arg7.IsWhole)
  (arg8 : Memref sig .tc .vmem S1x1x896 .f32) (harg8 : arg8.IsWhole) (arg9 : Memref sig .tc .vmem S896x896 .bf16) (harg9 : arg9.IsWhole)
  (arg10 : Memref sig .tc .vmem S896x128 .f32) (harg10 : arg10.IsWhole)
  (P : S2x8.Idx → BitVec 32) (T : S2x42.Idx → BitVec 32) (Sc : S2x896.Idx → F .f32) (W : S1x42x4x128.Idx → BitVec 32)

/-- The batch of a grid point. -/
abbrev bat (i : grid0.Coords) : Fin 2 := i 0

/-- What the build holds with `n` row blocks added. -/
def built (n : ℕ) : sProp 𝕄 :=
  iprop(owns (c : Thread nD τ) arg2 fullShare P ∗ owns (c : Thread nD τ) arg4 fullShare Sc
    ∗ bufs c arg3 arg5 arg9 arg10 T W (buildL P T W Sc (bat i) n) (buildD P T W (bat i) n))

theorem off_ptr (i : grid0.Coords) (n : ℕ) : ![(Scalar.indexCast (BitVec.ofNat 32 (i 0).val)).toNat, n] = ![(bat i).val, n] := by
  congr 1
  show (BitVec.ofNat 32 (i 0).val).toNat = _
  have : (i 0).val < 2 := (i 0).isLt
  rw [BitVec.toNat_ofNat]
  exact Nat.mod_eq_of_lt (by omega)

theorem wp_part29 {α : Type} {Q : α → sProp 𝕄} (k0_h1 : k0_cond1 i = 1#1) (hg : Good P T (bat i)) (L : S896x896.Idx → F .bf16) (D : S896x128.Idx → F .f32)
    {kk : (Σ' (v43 : IVec S32x128 32) (v64 : FVec F S1x128 .f32), Elt F .i32) → Prog (TpuEff nD τ sig (Elt F) Λ₀ .tc) α} :
    (iprop(owns (c : Thread nD τ) arg2 fullShare P ∗ owns (c : Thread nD τ) arg4 fullShare Sc ∗ bufs c arg3 arg5 arg9 arg10 T W L D) : sProp 𝕄)
      ⊢ iprop((built c i arg2 arg3 arg4 arg5 arg9 arg10 P T Sc W 1 -∗ wp frame (wpE defs 𝒱 (c : Thread nD τ) bd) E
          (kk ⟨subs, scaleRow (bat i) Sc 1, P (ix2 (bat i) 1)⟩) Q)
        -∗ wp frame (wpE defs 𝒱 (c : Thread nD τ) bd) E (k0_part29 i arg2 harg2 arg3 harg3 arg4 harg4 arg5 harg5 arg6 harg6 arg7 harg7 arg8 harg8 arg9 harg9 arg10 harg10 (BitVec.ofNat 32 (i 0).val) k0_h1 >>= kk) Q) := by
  rw [k0_part29_eq_skeleton]
  unfold k0_part29_skel
  simp only [Prog.bind_assoc, Prog.bind_lift, Prog.bind_op, Prog.pure_eq_ret, Prog.bind_ret]
  iintro ⟨H2, H4, HB⟩ Hk
  unfold bufs
  icases HB with ⟨H3, H5, H9, H10⟩
  iapply (owns_load defs 𝒱 (c : Thread nD τ) bd E arg9 L) $$ H9
  iintro H9
  iapply (owns_store defs 𝒱 (c : Thread nD τ) bd E arg9 L) $$ H9
  iintro H9
  iapply (owns_load defs 𝒱 (c : Thread nD τ) bd E arg10 D) $$ H10
  iintro H10
  iapply (owns_store defs 𝒱 (c : Thread nD τ) bd E arg10 D) $$ H10
  iintro H10
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 0 (by omega) (off_ptr i 0)) $$ H2
  iintro H2
  iapply (wp_ptr defs 𝒱 c bd E arg2 P (bat i) 1 (by omega) (off_ptr i 1)) $$ H2
  iintro H2
  iapply (wp_assume 𝒱 (c : Thread nD τ) bd E (show k0_chk1 i _ _ from hg.chk (show 0 < 7 by omega) (k0_cond1 i = 1#1)))
  rw [show put L ![0, 0] S896x896.size _ k0_pay142 = buildL P T W Sc (bat i) 0 from put_whole _ _ _,
    show put D ![0, 0] S896x128.size _ k0_pay143 = buildD P T W (bat i) 0 from put_whole _ _ _]
  ihave HB : (bufs c arg3 arg5 arg9 arg10 T W (buildL P T W Sc (bat i) 0) (buildD P T W (bat i) 0) : sProp 𝕄) $$ [H3 H5 H9 H10]
  · unfold bufs
    isplitl [H3]
    · iexact H3
    isplitl [H5]
    · iexact H5
    isplitl [H9]
    · iexact H9
    · iexact H10
  iapply (wp_row defs 𝒱 c bd E arg3 arg5 arg9 harg9 arg10 P T W Sc hg 0 (by omega)
    (show k0_pay144 _ _ _ = _ from pickScale_eq Sc (bat i) (r := 0) (by omega) rfl rfl _ _) (k0_cond1 i = 1#1) k0_h1 (k0_chk2.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 1 (by omega) (off_ptr i 1)) $$ H2
  iintro H2
  rw [show k0_pay153 (BitVec.ofNat 32 (i 0).val) _ _ = scaleRow (bat i) Sc 1 from pickScale_eq Sc (bat i) (r := 1) (by omega) rfl rfl _ _]
  iapply Hk
  unfold built
  isplitl [H2]
  · iexact H2
  isplitl [H4]
  · iexact H4
  · iexact HB

theorem wp_part30 {α : Type} {Q : α → sProp 𝕄} (k0_h1 : k0_cond1 i = 1#1) (hg : Good P T (bat i))
    {kk : (Σ' (v94 : FVec F S1x128 .f32), Elt F .i32) → Prog (TpuEff nD τ sig (Elt F) Λ₀ .tc) α} :
    (built c i arg2 arg3 arg4 arg5 arg9 arg10 P T Sc W 1 : sProp 𝕄)
      ⊢ iprop((built c i arg2 arg3 arg4 arg5 arg9 arg10 P T Sc W 3 -∗ wp frame (wpE defs 𝒱 (c : Thread nD τ) bd) E
          (kk ⟨scaleRow (bat i) Sc 3, P (ix2 (bat i) 3)⟩) Q)
        -∗ wp frame (wpE defs 𝒱 (c : Thread nD τ) bd) E (k0_part30 i arg2 harg2 arg3 harg3 arg4 harg4 arg5 harg5 arg6 harg6 arg7 harg7 arg8 harg8 arg9 harg9 arg10 harg10 (BitVec.ofNat 32 (i 0).val) k0_h1
            subs (scaleRow (bat i) Sc 1) (P (ix2 (bat i) 1)) >>= kk) Q) := by
  rw [k0_part30_eq_skeleton]
  unfold k0_part30_skel built
  simp only [Prog.bind_assoc, Prog.bind_lift, Prog.bind_op, Prog.pure_eq_ret, Prog.bind_ret]
  iintro ⟨H2, H4, HB⟩ Hk
  iapply (wp_ptr defs 𝒱 c bd E arg2 P (bat i) 2 (by omega) (off_ptr i 2)) $$ H2
  iintro H2
  iapply (wp_assume 𝒱 (c : Thread nD τ) bd E (show k0_chk4 i _ _ from hg.chk (show 1 < 7 by omega) (k0_cond1 i = 1#1)))
  iapply (wp_row defs 𝒱 c bd E arg3 arg5 arg9 harg9 arg10 P T W Sc hg 1 (by omega)
    rfl (k0_cond1 i = 1#1) k0_h1 (k0_chk5.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 2 (by omega) (off_ptr i 2)) $$ H2
  iintro H2
  iapply (wp_ptr defs 𝒱 c bd E arg2 P (bat i) 3 (by omega) (off_ptr i 3)) $$ H2
  iintro H2
  iapply (wp_assume 𝒱 (c : Thread nD τ) bd E (show k0_chk7 i _ _ from hg.chk (show 2 < 7 by omega) (k0_cond1 i = 1#1)))
  iapply (wp_row defs 𝒱 c bd E arg3 arg5 arg9 harg9 arg10 P T W Sc hg 2 (by omega)
    (show k0_pay162 _ _ _ = _ from pickScale_eq Sc (bat i) (r := 2) (by omega) rfl rfl _ _) (k0_cond1 i = 1#1) k0_h1 (k0_chk8.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 3 (by omega) (off_ptr i 3)) $$ H2
  iintro H2
  rw [show k0_pay171 (BitVec.ofNat 32 (i 0).val) _ _ = scaleRow (bat i) Sc 3 from pickScale_eq Sc (bat i) (r := 3) (by omega) rfl rfl _ _]
  iapply Hk
  isplitl [H2]
  · iexact H2
  isplitl [H4]
  · iexact H4
  · iexact HB

theorem wp_part31 {α : Type} {Q : α → sProp 𝕄} (k0_h1 : k0_cond1 i = 1#1) (hg : Good P T (bat i))
    {kk : (Σ' (v124 : FVec F S1x128 .f32) (v126 : Elt F .i32) (v128 : Elt F .i32), k0_chk16 i v126 v128) → Prog (TpuEff nD τ sig (Elt F) Λ₀ .tc) α} :
    (built c i arg2 arg3 arg4 arg5 arg9 arg10 P T Sc W 3 : sProp 𝕄)
      ⊢ iprop((built c i arg2 arg3 arg4 arg5 arg9 arg10 P T Sc W 5 -∗ wp frame (wpE defs 𝒱 (c : Thread nD τ) bd) E
          (kk ⟨scaleRow (bat i) Sc 5, P (ix2 (bat i) 5), P (ix2 (bat i) 6), hg.chk (show 5 < 7 by omega) (k0_cond1 i = 1#1)⟩) Q)
        -∗ wp frame (wpE defs 𝒱 (c : Thread nD τ) bd) E (k0_part31 i arg2 harg2 arg3 harg3 arg4 harg4 arg5 harg5 arg6 harg6 arg7 harg7 arg8 harg8 arg9 harg9 arg10 harg10 (BitVec.ofNat 32 (i 0).val) k0_h1
            subs (scaleRow (bat i) Sc 3) (P (ix2 (bat i) 3)) >>= kk) Q) := by
  rw [k0_part31_eq_skeleton]
  unfold k0_part31_skel built
  simp only [Prog.bind_assoc, Prog.bind_lift, Prog.bind_op, Prog.pure_eq_ret, Prog.bind_ret]
  iintro ⟨H2, H4, HB⟩ Hk
  iapply (wp_ptr defs 𝒱 c bd E arg2 P (bat i) 4 (by omega) (off_ptr i 4)) $$ H2
  iintro H2
  iapply (wp_assume 𝒱 (c : Thread nD τ) bd E (show k0_chk10 i _ _ from hg.chk (show 3 < 7 by omega) (k0_cond1 i = 1#1)))
  iapply (wp_row defs 𝒱 c bd E arg3 arg5 arg9 harg9 arg10 P T W Sc hg 3 (by omega)
    rfl (k0_cond1 i = 1#1) k0_h1 (k0_chk11.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 4 (by omega) (off_ptr i 4)) $$ H2
  iintro H2
  iapply (wp_ptr defs 𝒱 c bd E arg2 P (bat i) 5 (by omega) (off_ptr i 5)) $$ H2
  iintro H2
  iapply (wp_assume 𝒱 (c : Thread nD τ) bd E (show k0_chk13 i _ _ from hg.chk (show 4 < 7 by omega) (k0_cond1 i = 1#1)))
  iapply (wp_row defs 𝒱 c bd E arg3 arg5 arg9 harg9 arg10 P T W Sc hg 4 (by omega)
    (show k0_pay180 _ _ _ = _ from pickScale_eq Sc (bat i) (r := 4) (by omega) rfl rfl _ _) (k0_cond1 i = 1#1) k0_h1 (k0_chk14.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 5 (by omega) (off_ptr i 5)) $$ H2
  iintro H2
  iapply (wp_ptr defs 𝒱 c bd E arg2 P (bat i) 6 (by omega) (off_ptr i 6)) $$ H2
  iintro H2
  iapply (wp_assume 𝒱 (c : Thread nD τ) bd E (show k0_chk16 i _ _ from hg.chk (show 5 < 7 by omega) (k0_cond1 i = 1#1)))
  rw [show k0_pay189 (BitVec.ofNat 32 (i 0).val) _ _ = scaleRow (bat i) Sc 5 from pickScale_eq Sc (bat i) (r := 5) (by omega) rfl rfl _ _]
  iapply Hk
  isplitl [H2]
  · iexact H2
  isplitl [H4]
  · iexact H4
  · iexact HB

theorem wp_part32 {α : Type} {Q : α → sProp 𝕄} (k0_h1 : k0_cond1 i = 1#1) (hg : Good P T (bat i))
    {kk : (Σ' (v151 : IVec S128x128 1) (v156 : FVec F S128x128 .f32), FVec F S1x128 .f32) → Prog (TpuEff nD τ sig (Elt F) Λ₀ .tc) α} :
    (built c i arg2 arg3 arg4 arg5 arg9 arg10 P T Sc W 5 : sProp 𝕄)
      ⊢ iprop((built c i arg2 arg3 arg4 arg5 arg9 arg10 P T Sc W 7 -∗ wp frame (wpE defs 𝒱 (c : Thread nD τ) bd) E
          (kk ⟨k0_pay207, k0_pay208 (dblk (buildD P T W (bat i) 7) 0), k0_pay209 (dblk (buildD P T W (bat i) 7) 0)⟩) Q)
        -∗ wp frame (wpE defs 𝒱 (c : Thread nD τ) bd) E (k0_part32 i arg2 harg2 arg3 harg3 arg4 harg4 arg5 harg5 arg6 harg6 arg7 harg7 arg8 harg8 arg9 harg9 arg10 harg10 (BitVec.ofNat 32 (i 0).val) k0_h1
            subs (scaleRow (bat i) Sc 5) (P (ix2 (bat i) 5)) (P (ix2 (bat i) 6)) (hg.chk (show 5 < 7 by omega) (k0_cond1 i = 1#1)) >>= kk) Q) := by
  rw [k0_part32_eq_skeleton]
  unfold k0_part32_skel built
  simp only [Prog.bind_assoc, Prog.bind_lift, Prog.bind_op, Prog.pure_eq_ret, Prog.bind_ret]
  iintro ⟨H2, H4, HB⟩ Hk
  iapply (wp_row defs 𝒱 c bd E arg3 arg5 arg9 harg9 arg10 P T W Sc hg 5 (by omega)
    rfl (k0_cond1 i = 1#1) k0_h1 (k0_chk17.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 6 (by omega) (off_ptr i 6)) $$ H2
  iintro H2
  iapply (wp_ptr defs 𝒱 c bd E arg2 P (bat i) 7 (by omega) (off_ptr i 7)) $$ H2
  iintro H2
  iapply (wp_assume 𝒱 (c : Thread nD τ) bd E (show k0_chk19 i _ _ from hg.chk (show 6 < 7 by omega) (k0_cond1 i = 1#1)))
  iapply (wp_row defs 𝒱 c bd E arg3 arg5 arg9 harg9 arg10 P T W Sc hg 6 (by omega)
    (show k0_pay198 _ _ _ = _ from pickScale_eq Sc (bat i) (r := 6) (by omega) rfl rfl _ _) (k0_cond1 i = 1#1) k0_h1 (k0_chk20.dec i) (fun k => rfl)) $$ HB
  iintro HB
  unfold bufs
  icases HB with ⟨H3, H5, H9, H10⟩
  iapply (owns_load defs 𝒱 (c : Thread nD τ) bd E arg10 (buildD P T W (bat i) 7)) $$ H10
  iintro H10
  rw [show block (buildD P T W (bat i) 7) ![0, 0] S128x128.size _ = dblk (buildD (F := F) P T W (bat i) 7) 0 from
    block_upTo0 (fun k => dblk (buildD (F := F) P T W (bat i) 7) k) _ (n := 0) (by omega) rfl _]
  iapply Hk
  isplitl [H2]
  · iexact H2
  isplitl [H4]
  · iexact H4
  isplitl [H3]
  · iexact H3
  isplitl [H5]
  · iexact H5
  isplitl [H9]
  · iexact H9
  · iexact H10

end Cert.Kernel.Body
-- ==== Proof.Finish.lean ====
/-
  The rest of the kernel: the degree row and the reciprocals at the first grid point of a batch, the output block at every
  point, and the whole body in its two cases.
-/
module

public import proofs.«01_k».proof.Proof.NormRun
public import proofs.«01_k».proof.Proof.Build

@[expose] public section

set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Gen Cert.Agg

variable {F : FTy → Type} [FloatOps F]
variable {Ix : Type} [DecidableEq Ix] {Name : Type} [DecidableEq Name] {U : Type} [URA U] {Lvl : Type} [Preorder Lvl]
variable (defs : Defs nD τ sig (Elt F) Λ₀) (𝒱 : Variants) (c : Dev nD) (bd : Option 𝒱.V) (E : Set Name)

local notation "𝕄" => MT nD τ sig Ix (Elt F) Name U Lvl

variable (i : grid0.Coords)
  (arg2 : Memref sig .tc .smem S2x8 .i32) (harg2 : arg2.IsWhole) (arg3 : Memref sig .tc .smem S2x42 .i32) (harg3 : arg3.IsWhole)
  (arg4 : Memref sig .tc .vmem S2x896 .f32) (harg4 : arg4.IsWhole) (arg5 : Memref sig .tc .vmem S1x42x4x128 .i32) (harg5 : arg5.IsWhole)
  (arg6 : Memref sig .tc .vmem S1x896x512 .fp8e4m3) (harg6 : arg6.IsWhole) (arg7 : Memref sig .tc .vmem S1x896x512 .bf16) (harg7 : arg7.IsWhole)
  (arg8 : Memref sig .tc .vmem S1x1x896 .f32) (harg8 : arg8.IsWhole) (arg9 : Memref sig .tc .vmem S896x896 .bf16) (harg9 : arg9.IsWhole)
  (arg10 : Memref sig .tc .vmem S896x128 .f32) (harg10 : arg10.IsWhole)
  (P : S2x8.Idx → BitVec 32) (T : S2x42.Idx → BitVec 32) (Sc : S2x896.Idx → F .f32) (W : S1x42x4x128.Idx → BitVec 32)
  (D : S896x128.Idx → F .f32) (Z : S1x1x896.Idx → F .f32)

/-- The degree row and the degree buffer with `n` and `m` blocks done. -/
def degs (n m : ℕ) : sProp 𝕄 :=
  iprop(owns (c : Thread nD τ) arg8 fullShare (degTo D Z n) ∗ owns (c : Thread nD τ) arg10 fullShare (normTo D m))

theorem wp_part33 {α : Type} {Q : α → sProp 𝕄}
    {kk : (Σ' (v190 : IVec S128x128 1) (v196 : FVec F S128x128 .f32), FVec F S128x128 .f32) → Prog (TpuEff nD τ sig (Elt F) Λ₀ .tc) α} :
    (degs c arg8 arg10 D Z 0 0 : sProp 𝕄)
      ⊢ iprop((degs c arg8 arg10 D Z 2 1 -∗ wp frame (wpE defs 𝒱 (c : Thread nD τ) bd) E (kk ⟨k0_pay214 (dblk D 1), k0_pay215 (dblk D 1), k0_pay216⟩) Q)
        -∗ wp frame (wpE defs 𝒱 (c : Thread nD τ) bd) E (k0_part33 i arg2 harg2 arg3 harg3 arg4 harg4 arg5 harg5 arg6 harg6 arg7 harg7 arg8 harg8 arg9 harg9 arg10 harg10 k0_pay207 (k0_pay208 (dblk D 0)) (k0_pay209 (dblk D 0)) >>= kk) Q) := by
  rw [k0_part33_eq_skeleton]
  unfold k0_part33_skel degs
  simp only [Prog.bind_assoc, Prog.bind_lift, Prog.bind_op, Prog.pure_eq_ret, Prog.bind_ret]
  iintro ⟨H8, H10⟩ Hk
  iapply (wp_degStep defs 𝒱 c bd E arg8 D Z 0 rfl (by rfl)) $$ H8
  iintro H8
  iapply (wp_normStep defs 𝒱 c bd E arg10 D 0 (by omega) rfl (by rfl)) $$ H10
  iintro H10
  iapply (wp_blkLoad defs 𝒱 c bd E arg10 D 1 (by omega) rfl) $$ H10
  iintro H10
  iapply (wp_degStep defs 𝒱 c bd E arg8 D Z 1 rfl (by rfl)) $$ H8
  iintro H8
  iapply Hk
  isplitl [H8]
  · iexact H8
  · iexact H10

theorem wp_part34 {α : Type} {Q : α → sProp 𝕄}
    {kk : (Σ' (v231 : FVec F S128x128 .f32), FVec F S128x128 .f32) → Prog (TpuEff nD τ sig (Elt F) Λ₀ .tc) α} :
    (degs c arg8 arg10 D Z 2 1 : sProp 𝕄)
      ⊢ iprop((degs c arg8 arg10 D Z 3 3 -∗ wp frame (wpE defs 𝒱 (c : Thread nD τ) bd) E (kk ⟨k0_pay221 (dblk D 3), k0_pay222 k0_pay207 (dblk D 3)⟩) Q)
        -∗ wp frame (wpE defs 𝒱 (c : Thread nD τ) bd) E (k0_part34 i arg2 harg2 arg3 harg3 arg4 harg4 arg5 harg5 arg6 harg6 arg7 harg7 arg8 harg8 arg9 harg9 arg10 harg10 k0_pay207 (k0_pay214 (dblk D 1)) (k0_pay215 (dblk D 1)) k0_pay216 >>= kk) Q) := by
  rw [k0_part34_eq_skeleton]
  unfold k0_part34_skel degs
  simp only [Prog.bind_assoc, Prog.bind_lift, Prog.bind_op, Prog.pure_eq_ret, Prog.bind_ret]
  iintro ⟨H8, H10⟩ Hk
  iapply (wp_normStep defs 𝒱 c bd E arg10 D 1 (by omega) rfl (by rfl)) $$ H10
  iintro H10
  iapply (wp_blkLoad defs 𝒱 c bd E arg10 D 2 (by omega) rfl) $$ H10
  iintro H10
  iapply (wp_degStep defs 𝒱 c bd E arg8 D Z 2 rfl (by rfl)) $$ H8
  iintro H8
  iapply (wp_normStep defs 𝒱 c bd E arg10 D 2 (by omega) rfl (by rfl)) $$ H10
  iintro H10
  iapply (wp_blkLoad defs 𝒱 c bd E arg10 D 3 (by omega) rfl) $$ H10
  iintro H10
  iapply Hk
  isplitl [H8]
  · iexact H8
  · iexact H10

theorem wp_part35 {α : Type} {Q : α → sProp 𝕄}
    {kk : (Σ' (v256 : FVec F S128x128 .f32) (v265 : IVec S128x128 1) (v267 : IVec S128x128 1), FVec F S128x128 .f32) → Prog (TpuEff nD τ sig (Elt F) Λ₀ .tc) α} :
    (degs c arg8 arg10 D Z 3 3 : sProp 𝕄)
      ⊢ iprop((degs c arg8 arg10 D Z 5 4 -∗ wp frame (wpE defs 𝒱 (c : Thread nD τ) bd) E (kk ⟨k0_pay225 (dblk D 4), k0_pay227 (dblk D 4), k0_pay228 (dblk D 4), k0_pay229⟩) Q)
        -∗ wp frame (wpE defs 𝒱 (c : Thread nD τ) bd) E (k0_part35 i arg2 harg2 arg3 harg3 arg4 harg4 arg5 harg5 arg6 harg6 arg7 harg7 arg8 harg8 arg9 harg9 arg10 harg10 k0_pay207 (k0_pay221 (dblk D 3)) (k0_pay222 k0_pay207 (dblk D 3)) >>= kk) Q) := by
  rw [k0_part35_eq_skeleton]
  unfold k0_part35_skel degs
  simp only [Prog.bind_assoc, Prog.bind_lift, Prog.bind_op, Prog.pure_eq_ret, Prog.bind_ret]
  iintro ⟨H8, H10⟩ Hk
  iapply (wp_degStep defs 𝒱 c bd E arg8 D Z 3 rfl (by rfl)) $$ H8
  iintro H8
  iapply (wp_normStep defs 𝒱 c bd E arg10 D 3 (by omega) rfl (by rfl)) $$ H10
  iintro H10
  iapply (wp_blkLoad defs 𝒱 c bd E arg10 D 4 (by omega) rfl) $$ H10
  iintro H10
  iapply (wp_degStep defs 𝒱 c bd E arg8 D Z 4 rfl (by rfl)) $$ H8
  iintro H8
  iapply Hk
  isplitl [H8]
  · iexact H8
  · iexact H10

theorem wp_part36 {α : Type} {Q : α → sProp 𝕄}
    {kk : (FVec F S128 .f32) → Prog (TpuEff nD τ sig (Elt F) Λ₀ .tc) α} :
    (degs c arg8 arg10 D Z 5 4 : sProp 𝕄)
      ⊢ iprop((degs c arg8 arg10 D Z 6 6 -∗ wp frame (wpE defs 𝒱 (c : Thread nD τ) bd) E (kk (k0_pay234 (dblk D 6))) Q)
        -∗ wp frame (wpE defs 𝒱 (c : Thread nD τ) bd) E (k0_part36 i arg2 harg2 arg3 harg3 arg4 harg4 arg5 harg5 arg6 harg6 arg7 harg7 arg8 harg8 arg9 harg9 arg10 harg10 k0_pay207 (k0_pay225 (dblk D 4)) (k0_pay227 (dblk D 4)) (k0_pay228 (dblk D 4)) k0_pay229 >>= kk) Q) := by
  rw [k0_part36_eq_skeleton]
  unfold k0_part36_skel degs
  simp only [Prog.bind_assoc, Prog.bind_lift, Prog.bind_op, Prog.pure_eq_ret, Prog.bind_ret]
  iintro ⟨H8, H10⟩ Hk
  iapply (wp_normStep defs 𝒱 c bd E arg10 D 4 (by omega) rfl (by rfl)) $$ H10
  iintro H10
  iapply (wp_blkLoad defs 𝒱 c bd E arg10 D 5 (by omega) rfl) $$ H10
  iintro H10
  iapply (wp_degStep defs 𝒱 c bd E arg8 D Z 5 rfl (by rfl)) $$ H8
  iintro H8
  iapply (wp_normStep defs 𝒱 c bd E arg10 D 5 (by omega) rfl (by rfl)) $$ H10
  iintro H10
  iapply (wp_blkLoad defs 𝒱 c bd E arg10 D 6 (by omega) rfl) $$ H10
  iintro H10
  iapply Hk
  isplitl [H8]
  · iexact H8
  · iexact H10

/-- What the body holds: its nine memrefs at known contents. -/
def held (P : S2x8.Idx → BitVec 32) (T : S2x42.Idx → BitVec 32) (Sc : S2x896.Idx → F .f32) (W : S1x42x4x128.Idx → BitVec 32)
    (X : S1x896x512.Idx → F .fp8e4m3) (Y : S1x896x512.Idx → F .bf16) (Z : S1x1x896.Idx → F .f32) (L : S896x896.Idx → F .bf16) (D : S896x128.Idx → F .f32) : sProp 𝕄 :=
  iprop(owns (c : Thread nD τ) arg2 fullShare P
    ∗ owns (c : Thread nD τ) arg3 fullShare T
    ∗ owns (c : Thread nD τ) arg4 fullShare Sc
    ∗ owns (c : Thread nD τ) arg5 fullShare W
    ∗ owns (c : Thread nD τ) arg6 fullShare X
    ∗ owns (c : Thread nD τ) arg7 fullShare Y
    ∗ owns (c : Thread nD τ) arg8 fullShare Z
    ∗ owns (c : Thread nD τ) arg9 fullShare L
    ∗ owns (c : Thread nD τ) arg10 fullShare D)

variable (X : S1x896x512.Idx → F .fp8e4m3) (Y : S1x896x512.Idx → F .bf16) (L : S896x896.Idx → F .bf16)

/-- At a later grid point of a batch the body writes the output block from the matrix and the reciprocals it finds. -/
theorem wp_later (k0_h1 : ¬ k0_cond1 i = 1#1) :
    (held c arg2 arg3 arg4 arg5 arg6 arg7 arg8 arg9 arg10 P T Sc W X Y Z L D : sProp 𝕄)
      ⊢ wp frame (wpE defs 𝒱 (c : Thread nD τ) bd) E (cc0_agg i arg2 harg2 arg3 harg3 arg4 harg4 arg5 harg5 arg6 harg6 arg7 harg7 arg8 harg8 arg9 harg9 arg10 harg10)
          fun _ => held c arg2 arg3 arg4 arg5 arg6 arg7 arg8 arg9 arg10 P T Sc W X (outBlk L X D) Z L D := by
  rw [cc0_agg_eq_skeleton]
  unfold cc0_agg_skel
  rw [k0_part37_eq_skeleton]
  unfold k0_part37_skel
  simp only [dif_neg k0_h1, Prog.bind_assoc, Prog.bind_lift, Prog.bind_op, Prog.pure_eq_ret, Prog.bind_ret]
  unfold held
  iintro ⟨H2, H3, H4, H5, H6, H7, H8, H9, H10⟩
  iapply (owns_load defs 𝒱 (c : Thread nD τ) bd E arg9 L) $$ H9
  iintro H9
  iapply (owns_load defs 𝒱 (c : Thread nD τ) bd E arg6 X) $$ H6
  iintro H6
  rw [show block L ![0, 0] S896x896.size _ = L from block_whole _ _, show block X ![0, 0, 0] S1x896x512.size _ = X from block_whole _ _]
  ihave HO : (iprop(owns (c : Thread nD τ) arg7 fullShare (outTo L X D Y 0) ∗ owns (c : Thread nD τ) arg10 fullShare D) : sProp 𝕄) $$ [H7 H10]
  · rw [show outTo L X D Y 0 = Y from upTo2_zero _ _]
    isplitl [H7]
    · iexact H7
    · iexact H10
  iapply (wp_outStep defs 𝒱 c bd E arg7 arg10 L X D Y 0 rfl (w := k0_pay239 L X) (colBlk_eq (aggProd L X) D (n := 0) (by omega) rfl _ _ _)) $$ HO
  iintro HO
  iapply (wp_outStep defs 𝒱 c bd E arg7 arg10 L X D Y 1 rfl (w := k0_pay240 L X) (colBlk_eq (aggProd L X) D (n := 1) (by omega) rfl _ _ _)) $$ HO
  iintro HO
  iapply (wp_outStep defs 𝒱 c bd E arg7 arg10 L X D Y 2 rfl (w := k0_pay241 L X) (colBlk_eq (aggProd L X) D (n := 2) (by omega) rfl _ _ _)) $$ HO
  iintro HO
  iapply (wp_outStep defs 𝒱 c bd E arg7 arg10 L X D Y 3 rfl (w := k0_pay1 (k0_pay242 L X)) (colBlk_eq (aggProd L X) D (n := 3) (by omega) rfl Gen.slices_S896x512_o0_384_S896x128 (by decide) (by decide))) $$ HO
  iintro HO
  rw [show outTo L X D Y (3 + 1) = outBlk L X D from outTo_full _ _ _ _]
  icases HO with ⟨H7, H10⟩
  iapply (le_wp_ret _ _)
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10

/-- At the first grid point of a batch the body builds the matrix and the degrees, writes the degree row, and then the output block. -/
theorem wp_first (k0_h1 : k0_cond1 i = 1#1) (hg : Good P T (bat i)) :
    (held c arg2 arg3 arg4 arg5 arg6 arg7 arg8 arg9 arg10 P T Sc W X Y Z L D : sProp 𝕄)
      ⊢ wp frame (wpE defs 𝒱 (c : Thread nD τ) bd) E (cc0_agg i arg2 harg2 arg3 harg3 arg4 harg4 arg5 harg5 arg6 harg6 arg7 harg7 arg8 harg8 arg9 harg9 arg10 harg10)
          fun _ => held c arg2 arg3 arg4 arg5 arg6 arg7 arg8 arg9 arg10 P T Sc W X (outBlk (buildL P T W Sc (bat i) 7) X (normD (buildD P T W (bat i) 7))) (degRow (buildD P T W (bat i) 7)) (buildL P T W Sc (bat i) 7) (normD (buildD P T W (bat i) 7)) := by
  rw [cc0_agg_eq_skeleton]
  unfold cc0_agg_skel
  rw [k0_part37_eq_skeleton]
  unfold k0_part37_skel
  simp only [dif_pos k0_h1, Prog.bind_assoc, Prog.bind_lift, Prog.bind_op, Prog.pure_eq_ret, Prog.bind_ret]
  unfold held
  iintro ⟨H2, H3, H4, H5, H6, H7, H8, H9, H10⟩
  ihave HB : (iprop(owns (c : Thread nD τ) arg2 fullShare P ∗ owns (c : Thread nD τ) arg4 fullShare Sc ∗ bufs c arg3 arg5 arg9 arg10 T W L D) : sProp 𝕄) $$ [H2 H3 H4 H5 H9 H10]
  · unfold bufs
    isplitl [H2]
    · iexact H2
    isplitl [H4]
    · iexact H4
    isplitl [H3]
    · iexact H3
    isplitl [H5]
    · iexact H5
    isplitl [H9]
    · iexact H9
    · iexact H10
  iapply (wp_part29 defs 𝒱 c bd E i arg2 harg2 arg3 harg3 arg4 harg4 arg5 harg5 arg6 harg6 arg7 harg7 arg8 harg8 arg9 harg9 arg10 harg10 P T Sc W k0_h1 hg L D) $$ HB
  iintro HB
  iapply (wp_part30 defs 𝒱 c bd E i arg2 harg2 arg3 harg3 arg4 harg4 arg5 harg5 arg6 harg6 arg7 harg7 arg8 harg8 arg9 harg9 arg10 harg10 P T Sc W k0_h1 hg) $$ HB
  iintro HB
  iapply (wp_part31 defs 𝒱 c bd E i arg2 harg2 arg3 harg3 arg4 harg4 arg5 harg5 arg6 harg6 arg7 harg7 arg8 harg8 arg9 harg9 arg10 harg10 P T Sc W k0_h1 hg) $$ HB
  iintro HB
  iapply (wp_part32 defs 𝒱 c bd E i arg2 harg2 arg3 harg3 arg4 harg4 arg5 harg5 arg6 harg6 arg7 harg7 arg8 harg8 arg9 harg9 arg10 harg10 P T Sc W k0_h1 hg) $$ HB
  iintro HB
  unfold built bufs
  icases HB with ⟨H2, H4, H3, H5, H9, H10⟩
  ihave HD : (degs c arg8 arg10 (buildD P T W (bat i) 7) Z 0 0 : sProp 𝕄) $$ [H8 H10]
  · unfold degs
    rw [show degTo (buildD P T W (bat i) 7) Z 0 = Z from upTo2_zero _ _, show normTo (buildD P T W (bat i) 7) 0 = (buildD P T W (bat i) 7) from upTo0_zero _ _]
    isplitl [H8]
    · iexact H8
    · iexact H10
  iapply (wp_part33 defs 𝒱 c bd E i arg2 harg2 arg3 harg3 arg4 harg4 arg5 harg5 arg6 harg6 arg7 harg7 arg8 harg8 arg9 harg9 arg10 harg10 (buildD P T W (bat i) 7) Z) $$ HD
  iintro HD
  iapply (wp_part34 defs 𝒱 c bd E i arg2 harg2 arg3 harg3 arg4 harg4 arg5 harg5 arg6 harg6 arg7 harg7 arg8 harg8 arg9 harg9 arg10 harg10 (buildD P T W (bat i) 7) Z) $$ HD
  iintro HD
  iapply (wp_part35 defs 𝒱 c bd E i arg2 harg2 arg3 harg3 arg4 harg4 arg5 harg5 arg6 harg6 arg7 harg7 arg8 harg8 arg9 harg9 arg10 harg10 (buildD P T W (bat i) 7) Z) $$ HD
  iintro HD
  iapply (wp_part36 defs 𝒱 c bd E i arg2 harg2 arg3 harg3 arg4 harg4 arg5 harg5 arg6 harg6 arg7 harg7 arg8 harg8 arg9 harg9 arg10 harg10 (buildD P T W (bat i) 7) Z) $$ HD
  iintro HD
  unfold degs
  icases HD with ⟨H8, H10⟩
  iapply (wp_degStep defs 𝒱 c bd E arg8 (buildD P T W (bat i) 7) Z 6 rfl (by rfl)) $$ H8
  iintro H8
  iapply (wp_normStep defs 𝒱 c bd E arg10 (buildD P T W (bat i) 7) 6 (by omega) rfl (by rfl)) $$ H10
  iintro H10
  rw [show degTo (buildD P T W (bat i) 7) Z (6 + 1) = degRow (buildD P T W (bat i) 7) from degTo_full _ _, show normTo (buildD P T W (bat i) 7) (6 + 1) = (normD (buildD P T W (bat i) 7)) from rfl]
  iapply (owns_load defs 𝒱 (c : Thread nD τ) bd E arg9 (buildL P T W Sc (bat i) 7)) $$ H9
  iintro H9
  iapply (owns_load defs 𝒱 (c : Thread nD τ) bd E arg6 X) $$ H6
  iintro H6
  rw [show block (buildL P T W Sc (bat i) 7) ![0, 0] S896x896.size _ = (buildL P T W Sc (bat i) 7) from block_whole _ _, show block X ![0, 0, 0] S1x896x512.size _ = X from block_whole _ _]
  ihave HO : (iprop(owns (c : Thread nD τ) arg7 fullShare (outTo (buildL P T W Sc (bat i) 7) X (normD (buildD P T W (bat i) 7)) Y 0) ∗ owns (c : Thread nD τ) arg10 fullShare (normD (buildD P T W (bat i) 7))) : sProp 𝕄) $$ [H7 H10]
  · rw [show outTo (buildL P T W Sc (bat i) 7) X (normD (buildD P T W (bat i) 7)) Y 0 = Y from upTo2_zero _ _]
    isplitl [H7]
    · iexact H7
    · iexact H10
  iapply (wp_outStep defs 𝒱 c bd E arg7 arg10 (buildL P T W Sc (bat i) 7) X (normD (buildD P T W (bat i) 7)) Y 0 rfl (w := k0_pay239 (buildL P T W Sc (bat i) 7) X) (colBlk_eq (aggProd (buildL P T W Sc (bat i) 7) X) (normD (buildD P T W (bat i) 7)) (n := 0) (by omega) rfl _ _ _)) $$ HO
  iintro HO
  iapply (wp_outStep defs 𝒱 c bd E arg7 arg10 (buildL P T W Sc (bat i) 7) X (normD (buildD P T W (bat i) 7)) Y 1 rfl (w := k0_pay240 (buildL P T W Sc (bat i) 7) X) (colBlk_eq (aggProd (buildL P T W Sc (bat i) 7) X) (normD (buildD P T W (bat i) 7)) (n := 1) (by omega) rfl _ _ _)) $$ HO
  iintro HO
  iapply (wp_outStep defs 𝒱 c bd E arg7 arg10 (buildL P T W Sc (bat i) 7) X (normD (buildD P T W (bat i) 7)) Y 2 rfl (w := k0_pay241 (buildL P T W Sc (bat i) 7) X) (colBlk_eq (aggProd (buildL P T W Sc (bat i) 7) X) (normD (buildD P T W (bat i) 7)) (n := 2) (by omega) rfl _ _ _)) $$ HO
  iintro HO
  iapply (wp_outStep defs 𝒱 c bd E arg7 arg10 (buildL P T W Sc (bat i) 7) X (normD (buildD P T W (bat i) 7)) Y 3 rfl (w := k0_pay1 (k0_pay242 (buildL P T W Sc (bat i) 7) X)) (colBlk_eq (aggProd (buildL P T W Sc (bat i) 7) X) (normD (buildD P T W (bat i) 7)) (n := 3) (by omega) rfl Gen.slices_S896x512_o0_384_S896x128 (by decide) (by decide))) $$ HO
  iintro HO
  rw [show outTo (buildL P T W Sc (bat i) 7) X (normD (buildD P T W (bat i) 7)) Y (3 + 1) = outBlk (buildL P T W Sc (bat i) 7) X (normD (buildD P T W (bat i) 7)) from outTo_full _ _ _ _]
  icases HO with ⟨H7, H10⟩
  iapply (le_wp_ret _ _)
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10

end Cert.Kernel.Body
-- ==== Proof.Launch.lean ====
/-
  The launch: what every staging buffer and both scratch buffers hold at each grid point, and the run of the whole program
  from that. A batch's matrix and reciprocals are built at its first grid point and found again at the six later ones.
-/
module

public import proofs.«01_k».proof.Proof.Finish
public import proofs.«01_k».proof.Proof.Gen.Kernel.Frame

@[expose] public section

set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation BodyObligationLoose)
open Gen Cert.Agg

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The kernel takes the building branch exactly at the first point of each batch. -/
theorem cond_iff : ∀ t : Fin cfg0.N, k0_cond1 (cfg0.grid.coords t) = 1#1 ↔ t.val % 7 = 0 :=
  (by decide : ∀ t : Fin grid0.N, k0_cond1 (grid0.coords t) = 1#1 ↔ t.val % 7 = 0)

/-- The first point of the batch of point `n`. -/
def start (n : ℕ) : Fin cfg0.N := ⟨7 * (n / 7) % 14, by
  have h : cfg0.N = 14 := N_0
  rw [h]; exact Nat.mod_lt _ (by decide)⟩

/-- At a first point the batch's first point is the point itself. -/
theorem start_of (t : Fin cfg0.N) (h : t.val % 7 = 0) : start t.val = t := by
  have hN : cfg0.N = 14 := N_0
  have ht := t.isLt
  apply Fin.ext
  show 7 * (t.val / 7) % 14 = t.val
  omega

/-- A point that is not a first one shares its batch's first point with the point before it. -/
theorem start_pred (n : ℕ) (h : n % 7 ≠ 0) : start (n - 1) = start n := by
  apply Fin.ext
  show 7 * ((n - 1) / 7) % 14 = 7 * (n / 7) % 14
  have : (n - 1) / 7 = n / 7 := by omega
  rw [this]

/-- And with the point after it, if that is not a first one either. -/
theorem start_succ (n : ℕ) (h : (n + 1) % 7 ≠ 0) : start (n + 1) = start n := (start_pred (n + 1) h).symm

/-- The row pointers, the slots' columns, the scales and the batch's masks, as the body finds them. -/
abbrev ptrs (t : Fin cfg0.N) : S2x8.Idx → BitVec 32 := iblk m c 0 t
abbrev cols (t : Fin cfg0.N) : S2x42.Idx → BitVec 32 := iblk m c 1 t
abbrev scls (t : Fin cfg0.N) : S2x896.Idx → F .f32 := iblk m c 2 t
abbrev msks (t : Fin cfg0.N) : S1x42x4x128.Idx → BitVec 32 := iblk m c 3 t
abbrev feat (t : Fin cfg0.N) : S1x896x512.Idx → F .fp8e4m3 := iblk m c 4 t

/-- The degrees of the batch whose first point is `t`, lane by lane; -/
def dAt (t : Fin cfg0.N) : S896x128.Idx → F .f32 := buildD (ptrs m c t) (cols m c t) (msks m c t) (bat (cfg0.grid.coords t)) 7
/-- its scaled adjacency matrix; -/
def lAt (t : Fin cfg0.N) : S896x896.Idx → F .bf16 :=
  buildL (ptrs m c t) (cols m c t) (msks m c t) (scls m c t) (bat (cfg0.grid.coords t)) 7
/-- its reciprocals. -/
def rAt (t : Fin cfg0.N) : S896x128.Idx → F .f32 := normD (dAt m c t)

/-- The two scratch buffers at contents `L` and `D`. -/
def scr (L : S896x896.Idx → F .bf16) (D : S896x128.Idx → F .f32) : sProp 𝕄 :=
  iprop(owns (c : Thread nD τ) (Memref.whole cc0_scratch0) fullShare L ∗ owns (c : Thread nD τ) (Memref.whole cc0_scratch1) fullShare D)

/-- The scratch buffers before point `n`: at anything where a batch begins, else at the batch's matrix and reciprocals. -/
def scrAt (n : ℕ) : sProp 𝕄 :=
  if n % 7 = 0 then iprop(∃ L, ∃ D, scr c L D) else scr c (lAt m c (start n)) (rAt m c (start n))

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (lAt m c (start t.val)) (feat m c t) (rAt m c (start t.val))
    | ⟨6, _⟩ => degRow (dAt m c (start t.val))
  Φ t := iprop(scrAt m c t.val ∗ ∃ r, prngReg c r)
  q _ := fullShare
  owed _ := 0

theorem dats_after5 (t : Fin cfg0.N) :
    (dats m 0 c).after 5 t = outBlk (lAt m c (start t.val)) (feat m c t) (rAt m c (start t.val)) := by dsimp only [dats]
theorem dats_after6 (t : Fin cfg0.N) : (dats m 0 c).after 6 t = degRow (dAt m c (start t.val)) := by dsimp only [dats]

/-- A later point finds the degree row as the batch's first point left it. -/
theorem before6 (k : ℕ) : ∀ t : Fin cfg0.N, t.val % 7 = k → k ≠ 0 → ∀ d, (dats m 0 c).before 6 t d = degRow (dAt m c (start t.val)) := by
  induction k with
  | zero => intro t _ h; exact absurd rfl h
  | succ k ih =>
    intro t ht _ d
    have hp : t.val ≠ 0 := by omega
    rw [(dats m 0 c).before_of_pos 6 t hp ((cfg0.win 6).fetch_out rfl t)]
    have hfl : (cfg0.win 6).flush ⟨t.val - 1, Nat.lt_of_le_of_lt (Nat.sub_le _ _) t.isLt⟩ = false := by
      rw [Bool.eq_false_iff]; intro h
      have := (flush0_6 _).mp h
      simp only at this
      omega
    rw [hfl, if_neg Bool.false_ne_true]
    rw [← start_pred t.val (by omega)]
    unfold Dat.left
    by_cases hk : k = 0
    · rw [show cfg0.idle 6 (cfg0.grid.coords ⟨t.val - 1, Nat.lt_of_le_of_lt (Nat.sub_le _ _) t.isLt⟩) = false from by
        show (!(k0_cond1 _ == 1#1)) = false
        rw [(cond_iff _).mpr (show (t.val - 1) % 7 = 0 by omega)]; rfl]
      show (dats m 0 c).after 6 _ = _
      exact dats_after6 m c _
    · rw [show cfg0.idle 6 (cfg0.grid.coords ⟨t.val - 1, Nat.lt_of_le_of_lt (Nat.sub_le _ _) t.isLt⟩) = true from by
        show (!(k0_cond1 _ == 1#1)) = true
        have hn : ¬ k0_cond1 (cfg0.grid.coords ⟨t.val - 1, Nat.lt_of_le_of_lt (Nat.sub_le _ _) t.isLt⟩) = 1#1 :=
          fun h => absurd ((cond_iff _).mp h) (show ¬ (t.val - 1) % 7 = 0 by omega)
        simpa using hn]
      exact ih ⟨t.val - 1, Nat.lt_of_le_of_lt (Nat.sub_le _ _) t.isLt⟩ (show (t.val - 1) % 7 = k by omega) hk d

/-- What the preconditions give at a batch's first point. -/
abbrev AllGood : Prop := ∀ t : Fin cfg0.N, t.val % 7 = 0 → Good (ptrs m c t) (cols m c t) (bat (cfg0.grid.coords t))

theorem scrAt_of (n : ℕ) (h : n % 7 ≠ 0) : (scrAt m c n : sProp 𝕄) = scr c (lAt m c (start n)) (rAt m c (start n)) := if_neg h
theorem scrAt_zero (n : ℕ) (h : n % 7 = 0) : (scrAt m c n : sProp 𝕄) = iprop(∃ L, ∃ D, scr c L D) := if_pos h

/-- After a point the scratch buffers hold the batch's matrix and reciprocals, which is as the next point wants them. -/
theorem scr_next (n : ℕ) : (scr c (lAt m c (start n)) (rAt m c (start n)) : sProp 𝕄) ⊢ scrAt m c (n + 1) := by
  by_cases h : (n + 1) % 7 = 0
  · rw [scrAt_zero m c _ h]; iintro H; iexists (lAt m c (start n)); iexists (rAt m c (start n)); iexact H
  · rw [scrAt_of m c _ h, start_succ n h]

/-- The program the pipeline runs at point `t` is the body on the point's staging buffers. -/
theorem body_at (t : Fin cfg0.N) :
    ((defs₀ (F := F)) .tc cfg0.body (cfg0.bodyArgs t (cfg0.slots t)) : Prog (TpuEff nD τ sig (Elt F) Λ₀ .tc) PUnit) = bodyAt0 t := rfl

/-- The invariant before a point, and after it. -/
theorem phi_before (t : Fin cfg0.N) : (dats m 0 c).Φ t.castSucc = (iprop(scrAt m c t.val ∗ ∃ r, prngReg c r) : sProp 𝕄) :=
  Pipeline.Dat.Φ_castSucc (fun n _ => (iprop(scrAt m c n ∗ ∃ r, prngReg c r) : sProp 𝕄)) t
theorem phi_after (t : Fin cfg0.N) : (dats m 0 c).Φ t.succ = (iprop(scrAt m c (t.val + 1) ∗ ∃ r, prngReg c r) : sProp 𝕄) := rfl

/-- All the body's buffers at point `t`. -/
abbrev heldAt (t : Fin cfg0.N) (Y : S1x896x512.Idx → F .bf16) (Z : S1x1x896.Idx → F .f32) (L : S896x896.Idx → F .bf16) (D : S896x128.Idx → F .f32) : sProp 𝕄 :=
  held c (st0_0 t) (st0_1 t) (st0_2 t) (st0_3 t) (st0_4 t) (st0_5 t) (st0_6 t) (Memref.whole cc0_scratch0) (Memref.whole cc0_scratch1)
    (ptrs m c t) (cols m c t) (scls m c t) (msks m c t) (feat m c t) Y Z L D

/-- The body at a batch's first point, in the launch's words; -/
theorem run_first (hg : AllGood m c) (t : Fin cfg0.N) (h : t.val % 7 = 0) (Y : S1x896x512.Idx → F .bf16) (Z : S1x1x896.Idx → F .f32)
    (L : S896x896.Idx → F .bf16) (D : S896x128.Idx → F .f32) :
    (heldAt m c t Y Z L D : sProp 𝕄) ⊢ wp frame (wpE (defs₀ (F := F)) Variants.none (c : Thread nD τ) none) Set.univ (bodyAt0 t)
      fun _ => heldAt m c t (outBlk (lAt m c (start t.val)) (feat m c t) (rAt m c (start t.val))) (degRow (dAt m c (start t.val)))
        (lAt m c (start t.val)) (rAt m c (start t.val)) := by
  rw [start_of t h]
  exact wp_first (defs₀ (F := F)) Variants.none c none Set.univ _ _ _ _ _ _ _ _ _ _ _ _ _ _ _ _ _ _ _ _ _ _ _ _ _ _ _ _ ((cond_iff t).mpr h) (hg t h)

/-- and at a later one. -/
theorem run_later (t : Fin cfg0.N) (h : t.val % 7 ≠ 0) (Y : S1x896x512.Idx → F .bf16) (Z : S1x1x896.Idx → F .f32)
    (L : S896x896.Idx → F .bf16) (D : S896x128.Idx → F .f32) :
    (heldAt m c t Y Z L D : sProp 𝕄) ⊢ wp frame (wpE (defs₀ (F := F)) Variants.none (c : Thread nD τ) none) Set.univ (bodyAt0 t)
      fun _ => heldAt m c t (outBlk L (feat m c t) D) Z L D :=
  wp_later (defs₀ (F := F)) Variants.none c none Set.univ _ _ _ _ _ _ _ _ _ _ _ _ _ _ _ _ _ _ _ _ _ _ _ _ _ _ _ _ (fun e => h ((cond_iff t).mp e))

/-- Window 6 is idle exactly at the later points. -/
theorem idle6 (t : Fin cfg0.N) (h : t.val % 7 ≠ 0) : idle0 6 (grid0.coords t) = true := by
  show (!(k0_cond1 _ == 1#1)) = true
  have hn : ¬ k0_cond1 (cfg0.grid.coords t) = 1#1 := fun e => absurd ((cond_iff _).mp e) h
  simpa using hn
theorem live6 (t : Fin cfg0.N) (h : t.val % 7 = 0) : idle0 6 (grid0.coords t) = false := by
  show (!(k0_cond1 _ == 1#1)) = false
  rw [(cond_iff _).mpr h]; rfl

/-- The body runs at every grid point. -/
theorem body_obligation (hg : AllGood m c) : BodyObligation (dats m 0 c) (defs₀ (F := F)) Variants.none () Set.univ := fun t => by
  rw [bigSep_W0, bigSep_W0]
  rw [show (dats m 0 c).owesAt () t.succ = (dats m 0 c).owesAt () t.castSucc from rfl, phi_before, phi_after, body_at]
  simp only [before0_0_of m (dats m 0 c) rfl (fun _ => rfl), before0_1_of m (dats m 0 c) rfl (fun _ => rfl),
    before0_2_of m (dats m 0 c) rfl (fun _ => rfl), before0_3_of m (dats m 0 c) rfl (fun _ => rfl), before0_4_of m (dats m 0 c) rfl (fun _ => rfl)]
  by_cases h : t.val % 7 = 0
  · rw [scrAt_zero m c _ h, live6 t h]
    unfold scr
    iintro ⟨⟨⟨%L, %D, HL, HD⟩, Hr⟩, Ho, ⟨%d0, H0⟩, ⟨%d1, H1⟩, ⟨%d2, H2⟩, ⟨%d3, H3⟩, ⟨%d4, H4⟩, ⟨%d5, H5⟩, ⟨%d6, H6⟩⟩
    ihave H : (heldAt m c t ((dats m 0 c).before 5 t d5) ((dats m 0 c).before 6 t d6) L D : sProp 𝕄) $$ [H0 H1 H2 H3 H4 H5 H6 HL HD]
    · unfold heldAt held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HL]; · iexact HL
      iexact HD
    iapply wp_wand_r _ _
    isplitl [H]
    · iapply (run_first m c hg t h _ _ _ _) $$ H
    iintro %_ H
    unfold heldAt held
    icases H with ⟨H0, H1, H2, H3, H4, H5, H6, HL, HD⟩
    isplitl [HL HD Hr]
    · isplitl [HL HD]
      · iapply (scr_next m c t.val)
        unfold scr
        isplitl [HL]; · iexact HL
        iexact HD
      iexact Hr
    isplitl [Ho]; · iexact Ho
    isplitl [H0]; · iexact H0
    isplitl [H1]; · iexact H1
    isplitl [H2]; · iexact H2
    isplitl [H3]; · iexact H3
    isplitl [H4]; · iexact H4
    isplitl [H5]; · rw [dats_after5]; iexact H5
    rw [dats_after6]; iexact H6
  · rw [scrAt_of m c _ h, idle6 t h]
    unfold scr
    iintro ⟨⟨⟨HL, HD⟩, Hr⟩, Ho, ⟨%d0, H0⟩, ⟨%d1, H1⟩, ⟨%d2, H2⟩, ⟨%d3, H3⟩, ⟨%d4, H4⟩, ⟨%d5, H5⟩, ⟨%d6, H6⟩⟩
    ihave H : (heldAt m c t ((dats m 0 c).before 5 t d5) ((dats m 0 c).before 6 t d6) (lAt m c (start t.val)) (rAt m c (start t.val)) : sProp 𝕄) $$ [H0 H1 H2 H3 H4 H5 H6 HL HD]
    · unfold heldAt held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HL]; · iexact HL
      iexact HD
    iapply wp_wand_r _ _
    isplitl [H]
    · iapply (run_later m c t h _ _ _ _) $$ H
    iintro %_ H
    unfold heldAt held
    icases H with ⟨H0, H1, H2, H3, H4, H5, H6, HL, HD⟩
    isplitl [HL HD Hr]
    · isplitl [HL HD]
      · iapply (scr_next m c t.val)
        unfold scr
        isplitl [HL]; · iexact HL
        iexact HD
      iexact Hr
    isplitl [Ho]; · iexact Ho
    isplitl [H0]; · iexact H0
    isplitl [H1]; · iexact H1
    isplitl [H2]; · iexact H2
    isplitl [H3]; · iexact H3
    isplitl [H4]; · iexact H4
    isplitl [H5]; · rw [dats_after5]; iexact H5
    rw [before6 m c _ t rfl h d6, ← dats_after6]
    cases hf : (win0 6).flush t
    · iexists d6
      rw [before6 m c _ t rfl h d6, ← dats_after6]
      iexact H6
    · iexact H6

/-- The launch hands the kernel its scratch buffers at anything, and takes them back so. -/
theorem rest_eq : (Pipeline.ΦA spec0 c : sProp 𝕄) = iprop((∃ L, ∃ D, scr c L D) ∗ ∃ r, prngReg c r) := by
  have h : (Pipeline.scopedRest (Ix := Unit) (Name := ℕ) (U := UR sig nD τ) (Lvl := ℕ) (Val := Elt F) spec0 c : sProp 𝕄)
      = iprop(∃ L, ∃ D, scr c L D) := by
    rw [scopedRest0_eq]
    unfold scr
    simp only [owns_whole]
    refine Entails.antisymm (show (_ : sProp 𝕄) ⊢ _ from ?_) (show (_ : sProp 𝕄) ⊢ _ from ?_)
    · iintro ⟨⟨%f, Hf⟩, ⟨%g, Hg⟩⟩
      iexists f; iexists g
      isplitl [Hf]; · iexact Hf
      iexact Hg
    · iintro ⟨%f, %g, Hf, Hg⟩
      isplitl [Hf]; · iexists f; iexact Hf
      iexists g; iexact Hg
  unfold Pipeline.ΦA
  rw [h]

/-- The run of the whole program: every array ends as the pipeline leaves it, every counter at zero. -/
theorem run (hg : ∀ c, AllGood m c) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c (hg c)).loose) (fun c w => by unfold Dat.share; split <;> rfl) (fun _ _ => rfl) (V0 m) [hostOps1] sfx_sub sfx_fresh sfx_keeps
    (hmain m Variants.none) (fun _ _ => rfl)
    (fun c => by
      rw [rest_eq]
      show _ ⊢ (iprop(scrAt m c 0 ∗ ∃ r, prngReg c r) : sProp 𝕄)
      rw [scrAt_zero m c 0 rfl])
    (fun c => by
      rw [rest_eq]
      show (iprop(scrAt m c cfg0.N ∗ ∃ r, prngReg c r) : sProp 𝕄) ⊢ _
      rw [scrAt_zero m c cfg0.N (by rw [show cfg0.N = 14 from N_0])])
    _ (fun _ h => h)

/-- The window of row pointers is the whole array, as launched. -/
theorem ptrs_eq (t : Fin cfg0.N) : ptrs m c t = m ((c : Thread nD τ).loc main_arg2) := by
  rw [← V_main_arg2 m c]
  refine funext fun x => ?_
  show V m c main_arg2 ((win0_0.rect t).emb x) = V m c main_arg2 x
  refine congrArg _ (funext fun k => Fin.ext ?_)
  exact win0_0.rect_emb_val_of_index_zero t k (by fin_cases k <;> rfl) x
/-- Likewise the slots' columns. -/
theorem cols_eq (t : Fin cfg0.N) : cols m c t = m ((c : Thread nD τ).loc main_arg3) := by
  rw [← V_main_arg3 m c]
  refine funext fun x => ?_
  show V m c main_arg3 ((win0_1.rect t).emb x) = V m c main_arg3 x
  refine congrArg _ (funext fun k => Fin.ext ?_)
  exact win0_1.rect_emb_val_of_index_zero t k (by fin_cases k <;> rfl) x

/-- The frame claim: under the precondition the program runs, leaves its arguments as they were and every counter at zero. -/
theorem frame (hg : ∀ (c : Dev nD) b, Good (m ((c : Thread nD τ).loc main_arg2)) (m ((c : Thread nD τ).loc main_arg3)) b) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4).trans (((dats m 0 c).arrAt_in 4 rfl _).trans (V_main_arg0 m c)),
      ((h.1 c).1 2).trans (((dats m 0 c).arrAt_in 2 rfl _).trans (V_main_arg1 m c)),
      ((h.1 c).1 0).trans (((dats m 0 c).arrAt_in 0 rfl _).trans (V_main_arg2 m c)),
      ((h.1 c).1 1).trans (((dats m 0 c).arrAt_in 1 rfl _).trans (V_main_arg3 m c)),
      (((h.1 c).2 main_arg4 (Pipeline.mem_restRefs_of main_arg4 (by decide) (by decide))).trans (W_main_arg4 m (dats m) c))⟩, h.2⟩)
    (run m ρ fun c t _ => by rw [ptrs_eq, cols_eq]; exact hg c _)

end Cert.Kernel.Body

end
-- ==== Proof.PI.Build.lean ====
/-
  The build at the first grid point of a batch, one printed part of the kernel after another: seven row blocks are added to
  the zeroed buffers.
-/
module

public import proofs.«01_k».proof.Proof.RowRun
public import proofs.«01_k».proof.Proof.Gen.KernelIdeal.Skeleton

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Gen Cert.Agg

variable {F : FTy → Type} [FloatOps F]
variable {Ix : Type} [DecidableEq Ix] {Name : Type} [DecidableEq Name] {U : Type} [URA U] {Lvl : Type} [Preorder Lvl]
variable (defs : Defs nD τ sig (Elt F) Λ₀) (𝒱 : Variants) (c : Dev nD) (bd : Option 𝒱.V) (E : Set Name)

local notation "𝕄" => MT nD τ sig Ix (Elt F) Name U Lvl

variable (i : grid0.Coords)
  (arg2 : Memref sig .tc .smem S2x8 .i32) (harg2 : arg2.IsWhole) (arg3 : Memref sig .tc .smem S2x42 .i32) (harg3 : arg3.IsWhole)
  (arg4 : Memref sig .tc .vmem S2x896 .f32) (harg4 : arg4.IsWhole) (arg5 : Memref sig .tc .vmem S1x42x4x128 .i32) (harg5 : arg5.IsWhole)
  (arg6 : Memref sig .tc .vmem S1x896x512 .fp8e4m3) (harg6 : arg6.IsWhole) (arg7 : Memref sig .tc .vmem S1x896x512 .bf16) (harg7 : arg7.IsWhole)
  (arg8 : Memref sig .tc .vmem S1x1x896 .f32) (harg8 : arg8.IsWhole) (arg9 : Memref sig .tc .vmem S896x896 .bf16) (harg9 : arg9.IsWhole)
  (arg10 : Memref sig .tc .vmem S896x128 .f32) (harg10 : arg10.IsWhole)
  (P : S2x8.Idx → BitVec 32) (T : S2x42.Idx → BitVec 32) (Sc : S2x896.Idx → F .f32) (W : S1x42x4x128.Idx → BitVec 32)

/-- The batch of a grid point. -/
abbrev bat (i : grid0.Coords) : Fin 2 := i 0

/-- What the build holds with `n` row blocks added. -/
def built (n : ℕ) : sProp 𝕄 :=
  iprop(owns (c : Thread nD τ) arg2 fullShare P ∗ owns (c : Thread nD τ) arg4 fullShare Sc
    ∗ bufs c arg3 arg5 arg9 arg10 T W (buildL P T W Sc (bat i) n) (buildD P T W (bat i) n))

theorem off_ptr (i : grid0.Coords) (n : ℕ) : ![(Scalar.indexCast (BitVec.ofNat 32 (i 0).val)).toNat, n] = ![(bat i).val, n] := by
  congr 1
  show (BitVec.ofNat 32 (i 0).val).toNat = _
  have : (i 0).val < 2 := (i 0).isLt
  rw [BitVec.toNat_ofNat]
  exact Nat.mod_eq_of_lt (by omega)

theorem wp_part29 {α : Type} {Q : α → sProp 𝕄} (k0_h1 : k0_cond1 i = 1#1) (hg : Good P T (bat i)) (L : S896x896.Idx → F .bf16) (D : S896x128.Idx → F .f32)
    {kk : (Σ' (v43 : IVec S32x128 32) (v64 : FVec F S1x128 .f32), Elt F .i32) → Prog (TpuEff nD τ sig (Elt F) Λ₀ .tc) α} :
    (iprop(owns (c : Thread nD τ) arg2 fullShare P ∗ owns (c : Thread nD τ) arg4 fullShare Sc ∗ bufs c arg3 arg5 arg9 arg10 T W L D) : sProp 𝕄)
      ⊢ iprop((built c i arg2 arg3 arg4 arg5 arg9 arg10 P T Sc W 1 -∗ wp frame (wpE defs 𝒱 (c : Thread nD τ) bd) E
          (kk ⟨subs, scaleRow (bat i) Sc 1, P (ix2 (bat i) 1)⟩) Q)
        -∗ wp frame (wpE defs 𝒱 (c : Thread nD τ) bd) E (k0_part29 i arg2 harg2 arg3 harg3 arg4 harg4 arg5 harg5 arg6 harg6 arg7 harg7 arg8 harg8 arg9 harg9 arg10 harg10 (BitVec.ofNat 32 (i 0).val) k0_h1 >>= kk) Q) := by
  rw [k0_part29_eq_skeleton]
  unfold k0_part29_skel
  simp only [Prog.bind_assoc, Prog.bind_lift, Prog.bind_op, Prog.pure_eq_ret, Prog.bind_ret]
  iintro ⟨H2, H4, HB⟩ Hk
  unfold bufs
  icases HB with ⟨H3, H5, H9, H10⟩
  iapply (owns_load defs 𝒱 (c : Thread nD τ) bd E arg9 L) $$ H9
  iintro H9
  iapply (owns_store defs 𝒱 (c : Thread nD τ) bd E arg9 L) $$ H9
  iintro H9
  iapply (owns_load defs 𝒱 (c : Thread nD τ) bd E arg10 D) $$ H10
  iintro H10
  iapply (owns_store defs 𝒱 (c : Thread nD τ) bd E arg10 D) $$ H10
  iintro H10
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 0 (by omega) (off_ptr i 0)) $$ H2
  iintro H2
  iapply (wp_ptr defs 𝒱 c bd E arg2 P (bat i) 1 (by omega) (off_ptr i 1)) $$ H2
  iintro H2
  iapply (wp_assume 𝒱 (c : Thread nD τ) bd E (show k0_chk1 i _ _ from hg.chk (show 0 < 7 by omega) (k0_cond1 i = 1#1)))
  rw [show put L ![0, 0] S896x896.size _ k0_pay142 = buildL P T W Sc (bat i) 0 from put_whole _ _ _,
    show put D ![0, 0] S896x128.size _ k0_pay143 = buildD P T W (bat i) 0 from put_whole _ _ _]
  ihave HB : (bufs c arg3 arg5 arg9 arg10 T W (buildL P T W Sc (bat i) 0) (buildD P T W (bat i) 0) : sProp 𝕄) $$ [H3 H5 H9 H10]
  · unfold bufs
    isplitl [H3]
    · iexact H3
    isplitl [H5]
    · iexact H5
    isplitl [H9]
    · iexact H9
    · iexact H10
  iapply (wp_row defs 𝒱 c bd E arg3 arg5 arg9 harg9 arg10 P T W Sc hg 0 (by omega)
    (show k0_pay144 _ _ _ = _ from pickScale_eq Sc (bat i) (r := 0) (by omega) rfl rfl _ _) (k0_cond1 i = 1#1) k0_h1 (k0_chk2.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 1 (by omega) (off_ptr i 1)) $$ H2
  iintro H2
  rw [show k0_pay153 (BitVec.ofNat 32 (i 0).val) _ _ = scaleRow (bat i) Sc 1 from pickScale_eq Sc (bat i) (r := 1) (by omega) rfl rfl _ _]
  iapply Hk
  unfold built
  isplitl [H2]
  · iexact H2
  isplitl [H4]
  · iexact H4
  · iexact HB

theorem wp_part30 {α : Type} {Q : α → sProp 𝕄} (k0_h1 : k0_cond1 i = 1#1) (hg : Good P T (bat i))
    {kk : (Σ' (v94 : FVec F S1x128 .f32), Elt F .i32) → Prog (TpuEff nD τ sig (Elt F) Λ₀ .tc) α} :
    (built c i arg2 arg3 arg4 arg5 arg9 arg10 P T Sc W 1 : sProp 𝕄)
      ⊢ iprop((built c i arg2 arg3 arg4 arg5 arg9 arg10 P T Sc W 3 -∗ wp frame (wpE defs 𝒱 (c : Thread nD τ) bd) E
          (kk ⟨scaleRow (bat i) Sc 3, P (ix2 (bat i) 3)⟩) Q)
        -∗ wp frame (wpE defs 𝒱 (c : Thread nD τ) bd) E (k0_part30 i arg2 harg2 arg3 harg3 arg4 harg4 arg5 harg5 arg6 harg6 arg7 harg7 arg8 harg8 arg9 harg9 arg10 harg10 (BitVec.ofNat 32 (i 0).val) k0_h1
            subs (scaleRow (bat i) Sc 1) (P (ix2 (bat i) 1)) >>= kk) Q) := by
  rw [k0_part30_eq_skeleton]
  unfold k0_part30_skel built
  simp only [Prog.bind_assoc, Prog.bind_lift, Prog.bind_op, Prog.pure_eq_ret, Prog.bind_ret]
  iintro ⟨H2, H4, HB⟩ Hk
  iapply (wp_ptr defs 𝒱 c bd E arg2 P (bat i) 2 (by omega) (off_ptr i 2)) $$ H2
  iintro H2
  iapply (wp_assume 𝒱 (c : Thread nD τ) bd E (show k0_chk4 i _ _ from hg.chk (show 1 < 7 by omega) (k0_cond1 i = 1#1)))
  iapply (wp_row defs 𝒱 c bd E arg3 arg5 arg9 harg9 arg10 P T W Sc hg 1 (by omega)
    rfl (k0_cond1 i = 1#1) k0_h1 (k0_chk5.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 2 (by omega) (off_ptr i 2)) $$ H2
  iintro H2
  iapply (wp_ptr defs 𝒱 c bd E arg2 P (bat i) 3 (by omega) (off_ptr i 3)) $$ H2
  iintro H2
  iapply (wp_assume 𝒱 (c : Thread nD τ) bd E (show k0_chk7 i _ _ from hg.chk (show 2 < 7 by omega) (k0_cond1 i = 1#1)))
  iapply (wp_row defs 𝒱 c bd E arg3 arg5 arg9 harg9 arg10 P T W Sc hg 2 (by omega)
    (show k0_pay162 _ _ _ = _ from pickScale_eq Sc (bat i) (r := 2) (by omega) rfl rfl _ _) (k0_cond1 i = 1#1) k0_h1 (k0_chk8.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 3 (by omega) (off_ptr i 3)) $$ H2
  iintro H2
  rw [show k0_pay171 (BitVec.ofNat 32 (i 0).val) _ _ = scaleRow (bat i) Sc 3 from pickScale_eq Sc (bat i) (r := 3) (by omega) rfl rfl _ _]
  iapply Hk
  isplitl [H2]
  · iexact H2
  isplitl [H4]
  · iexact H4
  · iexact HB

theorem wp_part31 {α : Type} {Q : α → sProp 𝕄} (k0_h1 : k0_cond1 i = 1#1) (hg : Good P T (bat i))
    {kk : (Σ' (v124 : FVec F S1x128 .f32) (v126 : Elt F .i32) (v128 : Elt F .i32), k0_chk16 i v126 v128) → Prog (TpuEff nD τ sig (Elt F) Λ₀ .tc) α} :
    (built c i arg2 arg3 arg4 arg5 arg9 arg10 P T Sc W 3 : sProp 𝕄)
      ⊢ iprop((built c i arg2 arg3 arg4 arg5 arg9 arg10 P T Sc W 5 -∗ wp frame (wpE defs 𝒱 (c : Thread nD τ) bd) E
          (kk ⟨scaleRow (bat i) Sc 5, P (ix2 (bat i) 5), P (ix2 (bat i) 6), hg.chk (show 5 < 7 by omega) (k0_cond1 i = 1#1)⟩) Q)
        -∗ wp frame (wpE defs 𝒱 (c : Thread nD τ) bd) E (k0_part31 i arg2 harg2 arg3 harg3 arg4 harg4 arg5 harg5 arg6 harg6 arg7 harg7 arg8 harg8 arg9 harg9 arg10 harg10 (BitVec.ofNat 32 (i 0).val) k0_h1
            subs (scaleRow (bat i) Sc 3) (P (ix2 (bat i) 3)) >>= kk) Q) := by
  rw [k0_part31_eq_skeleton]
  unfold k0_part31_skel built
  simp only [Prog.bind_assoc, Prog.bind_lift, Prog.bind_op, Prog.pure_eq_ret, Prog.bind_ret]
  iintro ⟨H2, H4, HB⟩ Hk
  iapply (wp_ptr defs 𝒱 c bd E arg2 P (bat i) 4 (by omega) (off_ptr i 4)) $$ H2
  iintro H2
  iapply (wp_assume 𝒱 (c : Thread nD τ) bd E (show k0_chk10 i _ _ from hg.chk (show 3 < 7 by omega) (k0_cond1 i = 1#1)))
  iapply (wp_row defs 𝒱 c bd E arg3 arg5 arg9 harg9 arg10 P T W Sc hg 3 (by omega)
    rfl (k0_cond1 i = 1#1) k0_h1 (k0_chk11.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 4 (by omega) (off_ptr i 4)) $$ H2
  iintro H2
  iapply (wp_ptr defs 𝒱 c bd E arg2 P (bat i) 5 (by omega) (off_ptr i 5)) $$ H2
  iintro H2
  iapply (wp_assume 𝒱 (c : Thread nD τ) bd E (show k0_chk13 i _ _ from hg.chk (show 4 < 7 by omega) (k0_cond1 i = 1#1)))
  iapply (wp_row defs 𝒱 c bd E arg3 arg5 arg9 harg9 arg10 P T W Sc hg 4 (by omega)
    (show k0_pay180 _ _ _ = _ from pickScale_eq Sc (bat i) (r := 4) (by omega) rfl rfl _ _) (k0_cond1 i = 1#1) k0_h1 (k0_chk14.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 5 (by omega) (off_ptr i 5)) $$ H2
  iintro H2
  iapply (wp_ptr defs 𝒱 c bd E arg2 P (bat i) 6 (by omega) (off_ptr i 6)) $$ H2
  iintro H2
  iapply (wp_assume 𝒱 (c : Thread nD τ) bd E (show k0_chk16 i _ _ from hg.chk (show 5 < 7 by omega) (k0_cond1 i = 1#1)))
  rw [show k0_pay189 (BitVec.ofNat 32 (i 0).val) _ _ = scaleRow (bat i) Sc 5 from pickScale_eq Sc (bat i) (r := 5) (by omega) rfl rfl _ _]
  iapply Hk
  isplitl [H2]
  · iexact H2
  isplitl [H4]
  · iexact H4
  · iexact HB

theorem wp_part32 {α : Type} {Q : α → sProp 𝕄} (k0_h1 : k0_cond1 i = 1#1) (hg : Good P T (bat i))
    {kk : (Σ' (v151 : IVec S128x128 1) (v156 : FVec F S128x128 .f32), FVec F S1x128 .f32) → Prog (TpuEff nD τ sig (Elt F) Λ₀ .tc) α} :
    (built c i arg2 arg3 arg4 arg5 arg9 arg10 P T Sc W 5 : sProp 𝕄)
      ⊢ iprop((built c i arg2 arg3 arg4 arg5 arg9 arg10 P T Sc W 7 -∗ wp frame (wpE defs 𝒱 (c : Thread nD τ) bd) E
          (kk ⟨k0_pay207, k0_pay208 (dblk (buildD P T W (bat i) 7) 0), k0_pay209 (dblk (buildD P T W (bat i) 7) 0)⟩) Q)
        -∗ wp frame (wpE defs 𝒱 (c : Thread nD τ) bd) E (k0_part32 i arg2 harg2 arg3 harg3 arg4 harg4 arg5 harg5 arg6 harg6 arg7 harg7 arg8 harg8 arg9 harg9 arg10 harg10 (BitVec.ofNat 32 (i 0).val) k0_h1
            subs (scaleRow (bat i) Sc 5) (P (ix2 (bat i) 5)) (P (ix2 (bat i) 6)) (hg.chk (show 5 < 7 by omega) (k0_cond1 i = 1#1)) >>= kk) Q) := by
  rw [k0_part32_eq_skeleton]
  unfold k0_part32_skel built
  simp only [Prog.bind_assoc, Prog.bind_lift, Prog.bind_op, Prog.pure_eq_ret, Prog.bind_ret]
  iintro ⟨H2, H4, HB⟩ Hk
  iapply (wp_row defs 𝒱 c bd E arg3 arg5 arg9 harg9 arg10 P T W Sc hg 5 (by omega)
    rfl (k0_cond1 i = 1#1) k0_h1 (k0_chk17.dec i) (fun k => rfl)) $$ HB
  iintro HB
  iapply (owns_load defs 𝒱 (c : Thread nD τ) bd E arg4 Sc) $$ H4
  iintro H4
  iapply (owns_load defs 𝒱 (c : Thread nD τ) bd E arg4 Sc) $$ H4
  iintro H4
  iapply (wp_ptr defs 𝒱 c bd E arg2 P (bat i) 6 (by omega) (off_ptr i 6)) $$ H2
  iintro H2
  iapply (wp_ptr defs 𝒱 c bd E arg2 P (bat i) 7 (by omega) (off_ptr i 7)) $$ H2
  iintro H2
  iapply (wp_assume 𝒱 (c : Thread nD τ) bd E (show k0_chk19 i _ _ from hg.chk (show 6 < 7 by omega) (k0_cond1 i = 1#1)))
  iapply (wp_row defs 𝒱 c bd E arg3 arg5 arg9 harg9 arg10 P T W Sc hg 6 (by omega)
    (show k0_pay198 _ _ _ = _ from pickScale_eq Sc (bat i) (r := 6) (by omega) rfl rfl _ _) (k0_cond1 i = 1#1) k0_h1 (k0_chk20.dec i) (fun k => rfl)) $$ HB
  iintro HB
  unfold bufs
  icases HB with ⟨H3, H5, H9, H10⟩
  iapply (owns_load defs 𝒱 (c : Thread nD τ) bd E arg10 (buildD P T W (bat i) 7)) $$ H10
  iintro H10
  rw [show block (buildD P T W (bat i) 7) ![0, 0] S128x128.size _ = dblk (buildD (F := F) P T W (bat i) 7) 0 from
    block_upTo0 (fun k => dblk (buildD (F := F) P T W (bat i) 7) k) _ (n := 0) (by omega) rfl _]
  iapply Hk
  isplitl [H2]
  · iexact H2
  isplitl [H4]
  · iexact H4
  isplitl [H3]
  · iexact H3
  isplitl [H5]
  · iexact H5
  isplitl [H9]
  · iexact H9
  · iexact H10

end Cert.KernelIdeal.Body
-- ==== Proof.PI.Finish.lean ====
/-
  The rest of the kernel: the degree row and the reciprocals at the first grid point of a batch, the output block at every
  point, and the whole body in its two cases.
-/
module

public import proofs.«01_k».proof.Proof.NormRun
public import proofs.«01_k».proof.Proof.PI.Build

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Gen Cert.Agg

variable {F : FTy → Type} [FloatOps F]
variable {Ix : Type} [DecidableEq Ix] {Name : Type} [DecidableEq Name] {U : Type} [URA U] {Lvl : Type} [Preorder Lvl]
variable (defs : Defs nD τ sig (Elt F) Λ₀) (𝒱 : Variants) (c : Dev nD) (bd : Option 𝒱.V) (E : Set Name)

local notation "𝕄" => MT nD τ sig Ix (Elt F) Name U Lvl

variable (i : grid0.Coords)
  (arg2 : Memref sig .tc .smem S2x8 .i32) (harg2 : arg2.IsWhole) (arg3 : Memref sig .tc .smem S2x42 .i32) (harg3 : arg3.IsWhole)
  (arg4 : Memref sig .tc .vmem S2x896 .f32) (harg4 : arg4.IsWhole) (arg5 : Memref sig .tc .vmem S1x42x4x128 .i32) (harg5 : arg5.IsWhole)
  (arg6 : Memref sig .tc .vmem S1x896x512 .fp8e4m3) (harg6 : arg6.IsWhole) (arg7 : Memref sig .tc .vmem S1x896x512 .bf16) (harg7 : arg7.IsWhole)
  (arg8 : Memref sig .tc .vmem S1x1x896 .f32) (harg8 : arg8.IsWhole) (arg9 : Memref sig .tc .vmem S896x896 .bf16) (harg9 : arg9.IsWhole)
  (arg10 : Memref sig .tc .vmem S896x128 .f32) (harg10 : arg10.IsWhole)
  (P : S2x8.Idx → BitVec 32) (T : S2x42.Idx → BitVec 32) (Sc : S2x896.Idx → F .f32) (W : S1x42x4x128.Idx → BitVec 32)
  (D : S896x128.Idx → F .f32) (Z : S1x1x896.Idx → F .f32)

/-- The degree row and the degree buffer with `n` and `m` blocks done. -/
def degs (n m : ℕ) : sProp 𝕄 :=
  iprop(owns (c : Thread nD τ) arg8 fullShare (degTo D Z n) ∗ owns (c : Thread nD τ) arg10 fullShare (normTo D m))

theorem wp_part33 {α : Type} {Q : α → sProp 𝕄}
    {kk : (Σ' (v190 : IVec S128x128 1) (v196 : FVec F S128x128 .f32), FVec F S128x128 .f32) → Prog (TpuEff nD τ sig (Elt F) Λ₀ .tc) α} :
    (degs c arg8 arg10 D Z 0 0 : sProp 𝕄)
      ⊢ iprop((degs c arg8 arg10 D Z 2 1 -∗ wp frame (wpE defs 𝒱 (c : Thread nD τ) bd) E (kk ⟨k0_pay214 (dblk D 1), k0_pay215 (dblk D 1), k0_pay216⟩) Q)
        -∗ wp frame (wpE defs 𝒱 (c : Thread nD τ) bd) E (k0_part33 i arg2 harg2 arg3 harg3 arg4 harg4 arg5 harg5 arg6 harg6 arg7 harg7 arg8 harg8 arg9 harg9 arg10 harg10 k0_pay207 (k0_pay208 (dblk D 0)) (k0_pay209 (dblk D 0)) >>= kk) Q) := by
  rw [k0_part33_eq_skeleton]
  unfold k0_part33_skel degs
  simp only [Prog.bind_assoc, Prog.bind_lift, Prog.bind_op, Prog.pure_eq_ret, Prog.bind_ret]
  iintro ⟨H8, H10⟩ Hk
  iapply (wp_degStep defs 𝒱 c bd E arg8 D Z 0 rfl (by rfl)) $$ H8
  iintro H8
  iapply (wp_normStep defs 𝒱 c bd E arg10 D 0 (by omega) rfl (by rfl)) $$ H10
  iintro H10
  iapply (wp_blkLoad defs 𝒱 c bd E arg10 D 1 (by omega) rfl) $$ H10
  iintro H10
  iapply (wp_degStep defs 𝒱 c bd E arg8 D Z 1 rfl (by rfl)) $$ H8
  iintro H8
  iapply Hk
  isplitl [H8]
  · iexact H8
  · iexact H10

theorem wp_part34 {α : Type} {Q : α → sProp 𝕄}
    {kk : (Σ' (v231 : FVec F S128x128 .f32), FVec F S128x128 .f32) → Prog (TpuEff nD τ sig (Elt F) Λ₀ .tc) α} :
    (degs c arg8 arg10 D Z 2 1 : sProp 𝕄)
      ⊢ iprop((degs c arg8 arg10 D Z 3 3 -∗ wp frame (wpE defs 𝒱 (c : Thread nD τ) bd) E (kk ⟨k0_pay221 (dblk D 3), k0_pay222 k0_pay207 (dblk D 3)⟩) Q)
        -∗ wp frame (wpE defs 𝒱 (c : Thread nD τ) bd) E (k0_part34 i arg2 harg2 arg3 harg3 arg4 harg4 arg5 harg5 arg6 harg6 arg7 harg7 arg8 harg8 arg9 harg9 arg10 harg10 k0_pay207 (k0_pay214 (dblk D 1)) (k0_pay215 (dblk D 1)) k0_pay216 >>= kk) Q) := by
  rw [k0_part34_eq_skeleton]
  unfold k0_part34_skel degs
  simp only [Prog.bind_assoc, Prog.bind_lift, Prog.bind_op, Prog.pure_eq_ret, Prog.bind_ret]
  iintro ⟨H8, H10⟩ Hk
  iapply (wp_normStep defs 𝒱 c bd E arg10 D 1 (by omega) rfl (by rfl)) $$ H10
  iintro H10
  iapply (wp_blkLoad defs 𝒱 c bd E arg10 D 2 (by omega) rfl) $$ H10
  iintro H10
  iapply (wp_degStep defs 𝒱 c bd E arg8 D Z 2 rfl (by rfl)) $$ H8
  iintro H8
  iapply (wp_normStep defs 𝒱 c bd E arg10 D 2 (by omega) rfl (by rfl)) $$ H10
  iintro H10
  iapply (wp_blkLoad defs 𝒱 c bd E arg10 D 3 (by omega) rfl) $$ H10
  iintro H10
  iapply Hk
  isplitl [H8]
  · iexact H8
  · iexact H10

theorem wp_part35 {α : Type} {Q : α → sProp 𝕄}
    {kk : (Σ' (v256 : FVec F S128x128 .f32) (v265 : IVec S128x128 1) (v267 : IVec S128x128 1), FVec F S128x128 .f32) → Prog (TpuEff nD τ sig (Elt F) Λ₀ .tc) α} :
    (degs c arg8 arg10 D Z 3 3 : sProp 𝕄)
      ⊢ iprop((degs c arg8 arg10 D Z 5 4 -∗ wp frame (wpE defs 𝒱 (c : Thread nD τ) bd) E (kk ⟨k0_pay225 (dblk D 4), k0_pay227 (dblk D 4), k0_pay228 (dblk D 4), k0_pay229⟩) Q)
        -∗ wp frame (wpE defs 𝒱 (c : Thread nD τ) bd) E (k0_part35 i arg2 harg2 arg3 harg3 arg4 harg4 arg5 harg5 arg6 harg6 arg7 harg7 arg8 harg8 arg9 harg9 arg10 harg10 k0_pay207 (k0_pay221 (dblk D 3)) (k0_pay222 k0_pay207 (dblk D 3)) >>= kk) Q) := by
  rw [k0_part35_eq_skeleton]
  unfold k0_part35_skel degs
  simp only [Prog.bind_assoc, Prog.bind_lift, Prog.bind_op, Prog.pure_eq_ret, Prog.bind_ret]
  iintro ⟨H8, H10⟩ Hk
  iapply (wp_degStep defs 𝒱 c bd E arg8 D Z 3 rfl (by rfl)) $$ H8
  iintro H8
  iapply (wp_normStep defs 𝒱 c bd E arg10 D 3 (by omega) rfl (by rfl)) $$ H10
  iintro H10
  iapply (wp_blkLoad defs 𝒱 c bd E arg10 D 4 (by omega) rfl) $$ H10
  iintro H10
  iapply (wp_degStep defs 𝒱 c bd E arg8 D Z 4 rfl (by rfl)) $$ H8
  iintro H8
  iapply Hk
  isplitl [H8]
  · iexact H8
  · iexact H10

theorem wp_part36 {α : Type} {Q : α → sProp 𝕄}
    {kk : (FVec F S128 .f32) → Prog (TpuEff nD τ sig (Elt F) Λ₀ .tc) α} :
    (degs c arg8 arg10 D Z 5 4 : sProp 𝕄)
      ⊢ iprop((degs c arg8 arg10 D Z 6 6 -∗ wp frame (wpE defs 𝒱 (c : Thread nD τ) bd) E (kk (k0_pay234 (dblk D 6))) Q)
        -∗ wp frame (wpE defs 𝒱 (c : Thread nD τ) bd) E (k0_part36 i arg2 harg2 arg3 harg3 arg4 harg4 arg5 harg5 arg6 harg6 arg7 harg7 arg8 harg8 arg9 harg9 arg10 harg10 k0_pay207 (k0_pay225 (dblk D 4)) (k0_pay227 (dblk D 4)) (k0_pay228 (dblk D 4)) k0_pay229 >>= kk) Q) := by
  rw [k0_part36_eq_skeleton]
  unfold k0_part36_skel degs
  simp only [Prog.bind_assoc, Prog.bind_lift, Prog.bind_op, Prog.pure_eq_ret, Prog.bind_ret]
  iintro ⟨H8, H10⟩ Hk
  iapply (wp_normStep defs 𝒱 c bd E arg10 D 4 (by omega) rfl (by rfl)) $$ H10
  iintro H10
  iapply (wp_blkLoad defs 𝒱 c bd E arg10 D 5 (by omega) rfl) $$ H10
  iintro H10
  iapply (wp_degStep defs 𝒱 c bd E arg8 D Z 5 rfl (by rfl)) $$ H8
  iintro H8
  iapply (wp_normStep defs 𝒱 c bd E arg10 D 5 (by omega) rfl (by rfl)) $$ H10
  iintro H10
  iapply (wp_blkLoad defs 𝒱 c bd E arg10 D 6 (by omega) rfl) $$ H10
  iintro H10
  iapply Hk
  isplitl [H8]
  · iexact H8
  · iexact H10

/-- What the body holds: its nine memrefs at known contents. -/
def held (P : S2x8.Idx → BitVec 32) (T : S2x42.Idx → BitVec 32) (Sc : S2x896.Idx → F .f32) (W : S1x42x4x128.Idx → BitVec 32)
    (X : S1x896x512.Idx → F .fp8e4m3) (Y : S1x896x512.Idx → F .bf16) (Z : S1x1x896.Idx → F .f32) (L : S896x896.Idx → F .bf16) (D : S896x128.Idx → F .f32) : sProp 𝕄 :=
  iprop(owns (c : Thread nD τ) arg2 fullShare P
    ∗ owns (c : Thread nD τ) arg3 fullShare T
    ∗ owns (c : Thread nD τ) arg4 fullShare Sc
    ∗ owns (c : Thread nD τ) arg5 fullShare W
    ∗ owns (c : Thread nD τ) arg6 fullShare X
    ∗ owns (c : Thread nD τ) arg7 fullShare Y
    ∗ owns (c : Thread nD τ) arg8 fullShare Z
    ∗ owns (c : Thread nD τ) arg9 fullShare L
    ∗ owns (c : Thread nD τ) arg10 fullShare D)

variable (X : S1x896x512.Idx → F .fp8e4m3) (Y : S1x896x512.Idx → F .bf16) (L : S896x896.Idx → F .bf16)

/-- At a later grid point of a batch the body writes the output block from the matrix and the reciprocals it finds. -/
theorem wp_later (k0_h1 : ¬ k0_cond1 i = 1#1) :
    (held c arg2 arg3 arg4 arg5 arg6 arg7 arg8 arg9 arg10 P T Sc W X Y Z L D : sProp 𝕄)
      ⊢ wp frame (wpE defs 𝒱 (c : Thread nD τ) bd) E (cc0_agg i arg2 harg2 arg3 harg3 arg4 harg4 arg5 harg5 arg6 harg6 arg7 harg7 arg8 harg8 arg9 harg9 arg10 harg10)
          fun _ => held c arg2 arg3 arg4 arg5 arg6 arg7 arg8 arg9 arg10 P T Sc W X (outBlk L X D) Z L D := by
  rw [cc0_agg_eq_skeleton]
  unfold cc0_agg_skel
  rw [k0_part37_eq_skeleton]
  unfold k0_part37_skel
  simp only [dif_neg k0_h1, Prog.bind_assoc, Prog.bind_lift, Prog.bind_op, Prog.pure_eq_ret, Prog.bind_ret]
  unfold held
  iintro ⟨H2, H3, H4, H5, H6, H7, H8, H9, H10⟩
  iapply (owns_load defs 𝒱 (c : Thread nD τ) bd E arg9 L) $$ H9
  iintro H9
  iapply (owns_load defs 𝒱 (c : Thread nD τ) bd E arg6 X) $$ H6
  iintro H6
  rw [show block L ![0, 0] S896x896.size _ = L from block_whole _ _, show block X ![0, 0, 0] S1x896x512.size _ = X from block_whole _ _]
  ihave HO : (iprop(owns (c : Thread nD τ) arg7 fullShare (outTo L X D Y 0) ∗ owns (c : Thread nD τ) arg10 fullShare D) : sProp 𝕄) $$ [H7 H10]
  · rw [show outTo L X D Y 0 = Y from upTo2_zero _ _]
    isplitl [H7]
    · iexact H7
    · iexact H10
  iapply (wp_outStep defs 𝒱 c bd E arg7 arg10 L X D Y 0 rfl (w := k0_pay239 L X) (colBlk_eq (aggProd L X) D (n := 0) (by omega) rfl _ _ _)) $$ HO
  iintro HO
  iapply (wp_outStep defs 𝒱 c bd E arg7 arg10 L X D Y 1 rfl (w := k0_pay240 L X) (colBlk_eq (aggProd L X) D (n := 1) (by omega) rfl _ _ _)) $$ HO
  iintro HO
  iapply (wp_outStep defs 𝒱 c bd E arg7 arg10 L X D Y 2 rfl (w := k0_pay241 L X) (colBlk_eq (aggProd L X) D (n := 2) (by omega) rfl _ _ _)) $$ HO
  iintro HO
  iapply (wp_outStep defs 𝒱 c bd E arg7 arg10 L X D Y 3 rfl (w := k0_pay1 (k0_pay242 L X)) (colBlk_eq (aggProd L X) D (n := 3) (by omega) rfl Gen.slices_S896x512_o0_384_S896x128 (by decide) (by decide))) $$ HO
  iintro HO
  rw [show outTo L X D Y (3 + 1) = outBlk L X D from outTo_full _ _ _ _]
  icases HO with ⟨H7, H10⟩
  iapply (le_wp_ret _ _)
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10

/-- At the first grid point of a batch the body builds the matrix and the degrees, writes the degree row, and then the output block. -/
theorem wp_first (k0_h1 : k0_cond1 i = 1#1) (hg : Good P T (bat i)) :
    (held c arg2 arg3 arg4 arg5 arg6 arg7 arg8 arg9 arg10 P T Sc W X Y Z L D : sProp 𝕄)
      ⊢ wp frame (wpE defs 𝒱 (c : Thread nD τ) bd) E (cc0_agg i arg2 harg2 arg3 harg3 arg4 harg4 arg5 harg5 arg6 harg6 arg7 harg7 arg8 harg8 arg9 harg9 arg10 harg10)
          fun _ => held c arg2 arg3 arg4 arg5 arg6 arg7 arg8 arg9 arg10 P T Sc W X (outBlk (buildL P T W Sc (bat i) 7) X (normD (buildD P T W (bat i) 7))) (degRow (buildD P T W (bat i) 7)) (buildL P T W Sc (bat i) 7) (normD (buildD P T W (bat i) 7)) := by
  rw [cc0_agg_eq_skeleton]
  unfold cc0_agg_skel
  rw [k0_part37_eq_skeleton]
  unfold k0_part37_skel
  simp only [dif_pos k0_h1, Prog.bind_assoc, Prog.bind_lift, Prog.bind_op, Prog.pure_eq_ret, Prog.bind_ret]
  unfold held
  iintro ⟨H2, H3, H4, H5, H6, H7, H8, H9, H10⟩
  ihave HB : (iprop(owns (c : Thread nD τ) arg2 fullShare P ∗ owns (c : Thread nD τ) arg4 fullShare Sc ∗ bufs c arg3 arg5 arg9 arg10 T W L D) : sProp 𝕄) $$ [H2 H3 H4 H5 H9 H10]
  · unfold bufs
    isplitl [H2]
    · iexact H2
    isplitl [H4]
    · iexact H4
    isplitl [H3]
    · iexact H3
    isplitl [H5]
    · iexact H5
    isplitl [H9]
    · iexact H9
    · iexact H10
  iapply (wp_part29 defs 𝒱 c bd E i arg2 harg2 arg3 harg3 arg4 harg4 arg5 harg5 arg6 harg6 arg7 harg7 arg8 harg8 arg9 harg9 arg10 harg10 P T Sc W k0_h1 hg L D) $$ HB
  iintro HB
  iapply (wp_part30 defs 𝒱 c bd E i arg2 harg2 arg3 harg3 arg4 harg4 arg5 harg5 arg6 harg6 arg7 harg7 arg8 harg8 arg9 harg9 arg10 harg10 P T Sc W k0_h1 hg) $$ HB
  iintro HB
  iapply (wp_part31 defs 𝒱 c bd E i arg2 harg2 arg3 harg3 arg4 harg4 arg5 harg5 arg6 harg6 arg7 harg7 arg8 harg8 arg9 harg9 arg10 harg10 P T Sc W k0_h1 hg) $$ HB
  iintro HB
  iapply (wp_part32 defs 𝒱 c bd E i arg2 harg2 arg3 harg3 arg4 harg4 arg5 harg5 arg6 harg6 arg7 harg7 arg8 harg8 arg9 harg9 arg10 harg10 P T Sc W k0_h1 hg) $$ HB
  iintro HB
  unfold built bufs
  icases HB with ⟨H2, H4, H3, H5, H9, H10⟩
  ihave HD : (degs c arg8 arg10 (buildD P T W (bat i) 7) Z 0 0 : sProp 𝕄) $$ [H8 H10]
  · unfold degs
    rw [show degTo (buildD P T W (bat i) 7) Z 0 = Z from upTo2_zero _ _, show normTo (buildD P T W (bat i) 7) 0 = (buildD P T W (bat i) 7) from upTo0_zero _ _]
    isplitl [H8]
    · iexact H8
    · iexact H10
  iapply (wp_part33 defs 𝒱 c bd E i arg2 harg2 arg3 harg3 arg4 harg4 arg5 harg5 arg6 harg6 arg7 harg7 arg8 harg8 arg9 harg9 arg10 harg10 (buildD P T W (bat i) 7) Z) $$ HD
  iintro HD
  iapply (wp_part34 defs 𝒱 c bd E i arg2 harg2 arg3 harg3 arg4 harg4 arg5 harg5 arg6 harg6 arg7 harg7 arg8 harg8 arg9 harg9 arg10 harg10 (buildD P T W (bat i) 7) Z) $$ HD
  iintro HD
  iapply (wp_part35 defs 𝒱 c bd E i arg2 harg2 arg3 harg3 arg4 harg4 arg5 harg5 arg6 harg6 arg7 harg7 arg8 harg8 arg9 harg9 arg10 harg10 (buildD P T W (bat i) 7) Z) $$ HD
  iintro HD
  iapply (wp_part36 defs 𝒱 c bd E i arg2 harg2 arg3 harg3 arg4 harg4 arg5 harg5 arg6 harg6 arg7 harg7 arg8 harg8 arg9 harg9 arg10 harg10 (buildD P T W (bat i) 7) Z) $$ HD
  iintro HD
  unfold degs
  icases HD with ⟨H8, H10⟩
  iapply (wp_degStep defs 𝒱 c bd E arg8 (buildD P T W (bat i) 7) Z 6 rfl (by rfl)) $$ H8
  iintro H8
  iapply (wp_normStep defs 𝒱 c bd E arg10 (buildD P T W (bat i) 7) 6 (by omega) rfl (by rfl)) $$ H10
  iintro H10
  rw [show degTo (buildD P T W (bat i) 7) Z (6 + 1) = degRow (buildD P T W (bat i) 7) from degTo_full _ _, show normTo (buildD P T W (bat i) 7) (6 + 1) = (normD (buildD P T W (bat i) 7)) from rfl]
  iapply (owns_load defs 𝒱 (c : Thread nD τ) bd E arg9 (buildL P T W Sc (bat i) 7)) $$ H9
  iintro H9
  iapply (owns_load defs 𝒱 (c : Thread nD τ) bd E arg6 X) $$ H6
  iintro H6
  rw [show block (buildL P T W Sc (bat i) 7) ![0, 0] S896x896.size _ = (buildL P T W Sc (bat i) 7) from block_whole _ _, show block X ![0, 0, 0] S1x896x512.size _ = X from block_whole _ _]
  ihave HO : (iprop(owns (c : Thread nD τ) arg7 fullShare (outTo (buildL P T W Sc (bat i) 7) X (normD (buildD P T W (bat i) 7)) Y 0) ∗ owns (c : Thread nD τ) arg10 fullShare (normD (buildD P T W (bat i) 7))) : sProp 𝕄) $$ [H7 H10]
  · rw [show outTo (buildL P T W Sc (bat i) 7) X (normD (buildD P T W (bat i) 7)) Y 0 = Y from upTo2_zero _ _]
    isplitl [H7]
    · iexact H7
    · iexact H10
  iapply (wp_outStep defs 𝒱 c bd E arg7 arg10 (buildL P T W Sc (bat i) 7) X (normD (buildD P T W (bat i) 7)) Y 0 rfl (w := k0_pay239 (buildL P T W Sc (bat i) 7) X) (colBlk_eq (aggProd (buildL P T W Sc (bat i) 7) X) (normD (buildD P T W (bat i) 7)) (n := 0) (by omega) rfl _ _ _)) $$ HO
  iintro HO
  iapply (wp_outStep defs 𝒱 c bd E arg7 arg10 (buildL P T W Sc (bat i) 7) X (normD (buildD P T W (bat i) 7)) Y 1 rfl (w := k0_pay240 (buildL P T W Sc (bat i) 7) X) (colBlk_eq (aggProd (buildL P T W Sc (bat i) 7) X) (normD (buildD P T W (bat i) 7)) (n := 1) (by omega) rfl _ _ _)) $$ HO
  iintro HO
  iapply (wp_outStep defs 𝒱 c bd E arg7 arg10 (buildL P T W Sc (bat i) 7) X (normD (buildD P T W (bat i) 7)) Y 2 rfl (w := k0_pay241 (buildL P T W Sc (bat i) 7) X) (colBlk_eq (aggProd (buildL P T W Sc (bat i) 7) X) (normD (buildD P T W (bat i) 7)) (n := 2) (by omega) rfl _ _ _)) $$ HO
  iintro HO
  iapply (wp_outStep defs 𝒱 c bd E arg7 arg10 (buildL P T W Sc (bat i) 7) X (normD (buildD P T W (bat i) 7)) Y 3 rfl (w := k0_pay1 (k0_pay242 (buildL P T W Sc (bat i) 7) X)) (colBlk_eq (aggProd (buildL P T W Sc (bat i) 7) X) (normD (buildD P T W (bat i) 7)) (n := 3) (by omega) rfl Gen.slices_S896x512_o0_384_S896x128 (by decide) (by decide))) $$ HO
  iintro HO
  rw [show outTo (buildL P T W Sc (bat i) 7) X (normD (buildD P T W (bat i) 7)) Y (3 + 1) = outBlk (buildL P T W Sc (bat i) 7) X (normD (buildD P T W (bat i) 7)) from outTo_full _ _ _ _]
  icases HO with ⟨H7, H10⟩
  iapply (le_wp_ret _ _)
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10

end Cert.KernelIdeal.Body
-- ==== Proof.PI.Launch.lean ====
/-
  The launch: what every staging buffer and both scratch buffers hold at each grid point, and the run of the whole program
  from that. A batch's matrix and reciprocals are built at its first grid point and found again at the six later ones.
-/
module

public import proofs.«01_k».proof.Proof.PI.Finish
public import proofs.«01_k».proof.Proof.Gen.KernelIdeal.Frame

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation BodyObligationLoose)
open Gen Cert.Agg

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The kernel takes the building branch exactly at the first point of each batch. -/
theorem cond_iff : ∀ t : Fin cfg0.N, k0_cond1 (cfg0.grid.coords t) = 1#1 ↔ t.val % 7 = 0 :=
  (by decide : ∀ t : Fin grid0.N, k0_cond1 (grid0.coords t) = 1#1 ↔ t.val % 7 = 0)

/-- The first point of the batch of point `n`. -/
def start (n : ℕ) : Fin cfg0.N := ⟨7 * (n / 7) % 14, by
  have h : cfg0.N = 14 := N_0
  rw [h]; exact Nat.mod_lt _ (by decide)⟩

/-- At a first point the batch's first point is the point itself. -/
theorem start_of (t : Fin cfg0.N) (h : t.val % 7 = 0) : start t.val = t := by
  have hN : cfg0.N = 14 := N_0
  have ht := t.isLt
  apply Fin.ext
  show 7 * (t.val / 7) % 14 = t.val
  omega

/-- A point that is not a first one shares its batch's first point with the point before it. -/
theorem start_pred (n : ℕ) (h : n % 7 ≠ 0) : start (n - 1) = start n := by
  apply Fin.ext
  show 7 * ((n - 1) / 7) % 14 = 7 * (n / 7) % 14
  have : (n - 1) / 7 = n / 7 := by omega
  rw [this]

/-- And with the point after it, if that is not a first one either. -/
theorem start_succ (n : ℕ) (h : (n + 1) % 7 ≠ 0) : start (n + 1) = start n := (start_pred (n + 1) h).symm

/-- The row pointers, the slots' columns, the scales and the batch's masks, as the body finds them. -/
abbrev ptrs (t : Fin cfg0.N) : S2x8.Idx → BitVec 32 := iblk m c 0 t
abbrev cols (t : Fin cfg0.N) : S2x42.Idx → BitVec 32 := iblk m c 1 t
abbrev scls (t : Fin cfg0.N) : S2x896.Idx → F .f32 := iblk m c 2 t
abbrev msks (t : Fin cfg0.N) : S1x42x4x128.Idx → BitVec 32 := iblk m c 3 t
abbrev feat (t : Fin cfg0.N) : S1x896x512.Idx → F .fp8e4m3 := iblk m c 4 t

/-- The degrees of the batch whose first point is `t`, lane by lane; -/
def dAt (t : Fin cfg0.N) : S896x128.Idx → F .f32 := buildD (ptrs m c t) (cols m c t) (msks m c t) (bat (cfg0.grid.coords t)) 7
/-- its scaled adjacency matrix; -/
def lAt (t : Fin cfg0.N) : S896x896.Idx → F .bf16 :=
  buildL (ptrs m c t) (cols m c t) (msks m c t) (scls m c t) (bat (cfg0.grid.coords t)) 7
/-- its reciprocals. -/
def rAt (t : Fin cfg0.N) : S896x128.Idx → F .f32 := normD (dAt m c t)

/-- The two scratch buffers at contents `L` and `D`. -/
def scr (L : S896x896.Idx → F .bf16) (D : S896x128.Idx → F .f32) : sProp 𝕄 :=
  iprop(owns (c : Thread nD τ) (Memref.whole cc0_scratch0) fullShare L ∗ owns (c : Thread nD τ) (Memref.whole cc0_scratch1) fullShare D)

/-- The scratch buffers before point `n`: at anything where a batch begins, else at the batch's matrix and reciprocals. -/
def scrAt (n : ℕ) : sProp 𝕄 :=
  if n % 7 = 0 then iprop(∃ L, ∃ D, scr c L D) else scr c (lAt m c (start n)) (rAt m c (start n))

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (lAt m c (start t.val)) (feat m c t) (rAt m c (start t.val))
    | ⟨6, _⟩ => degRow (dAt m c (start t.val))
  Φ t := iprop(scrAt m c t.val ∗ ∃ r, prngReg c r)
  q _ := fullShare
  owed _ := 0

theorem dats_after5 (t : Fin cfg0.N) :
    (dats m 0 c).after 5 t = outBlk (lAt m c (start t.val)) (feat m c t) (rAt m c (start t.val)) := by dsimp only [dats]
theorem dats_after6 (t : Fin cfg0.N) : (dats m 0 c).after 6 t = degRow (dAt m c (start t.val)) := by dsimp only [dats]

/-- A later point finds the degree row as the batch's first point left it. -/
theorem before6 (k : ℕ) : ∀ t : Fin cfg0.N, t.val % 7 = k → k ≠ 0 → ∀ d, (dats m 0 c).before 6 t d = degRow (dAt m c (start t.val)) := by
  induction k with
  | zero => intro t _ h; exact absurd rfl h
  | succ k ih =>
    intro t ht _ d
    have hp : t.val ≠ 0 := by omega
    rw [(dats m 0 c).before_of_pos 6 t hp ((cfg0.win 6).fetch_out rfl t)]
    have hfl : (cfg0.win 6).flush ⟨t.val - 1, Nat.lt_of_le_of_lt (Nat.sub_le _ _) t.isLt⟩ = false := by
      rw [Bool.eq_false_iff]; intro h
      have := (flush0_6 _).mp h
      simp only at this
      omega
    rw [hfl, if_neg Bool.false_ne_true]
    rw [← start_pred t.val (by omega)]
    unfold Dat.left
    by_cases hk : k = 0
    · rw [show cfg0.idle 6 (cfg0.grid.coords ⟨t.val - 1, Nat.lt_of_le_of_lt (Nat.sub_le _ _) t.isLt⟩) = false from by
        show (!(k0_cond1 _ == 1#1)) = false
        rw [(cond_iff _).mpr (show (t.val - 1) % 7 = 0 by omega)]; rfl]
      show (dats m 0 c).after 6 _ = _
      exact dats_after6 m c _
    · rw [show cfg0.idle 6 (cfg0.grid.coords ⟨t.val - 1, Nat.lt_of_le_of_lt (Nat.sub_le _ _) t.isLt⟩) = true from by
        show (!(k0_cond1 _ == 1#1)) = true
        have hn : ¬ k0_cond1 (cfg0.grid.coords ⟨t.val - 1, Nat.lt_of_le_of_lt (Nat.sub_le _ _) t.isLt⟩) = 1#1 :=
          fun h => absurd ((cond_iff _).mp h) (show ¬ (t.val - 1) % 7 = 0 by omega)
        simpa using hn]
      exact ih ⟨t.val - 1, Nat.lt_of_le_of_lt (Nat.sub_le _ _) t.isLt⟩ (show (t.val - 1) % 7 = k by omega) hk d

/-- What the preconditions give at a batch's first point. -/
abbrev AllGood : Prop := ∀ t : Fin cfg0.N, t.val % 7 = 0 → Good (ptrs m c t) (cols m c t) (bat (cfg0.grid.coords t))

theorem scrAt_of (n : ℕ) (h : n % 7 ≠ 0) : (scrAt m c n : sProp 𝕄) = scr c (lAt m c (start n)) (rAt m c (start n)) := if_neg h
theorem scrAt_zero (n : ℕ) (h : n % 7 = 0) : (scrAt m c n : sProp 𝕄) = iprop(∃ L, ∃ D, scr c L D) := if_pos h

/-- After a point the scratch buffers hold the batch's matrix and reciprocals, which is as the next point wants them. -/
theorem scr_next (n : ℕ) : (scr c (lAt m c (start n)) (rAt m c (start n)) : sProp 𝕄) ⊢ scrAt m c (n + 1) := by
  by_cases h : (n + 1) % 7 = 0
  · rw [scrAt_zero m c _ h]; iintro H; iexists (lAt m c (start n)); iexists (rAt m c (start n)); iexact H
  · rw [scrAt_of m c _ h, start_succ n h]

/-- The program the pipeline runs at point `t` is the body on the point's staging buffers. -/
theorem body_at (t : Fin cfg0.N) :
    ((defs₀ (F := F)) .tc cfg0.body (cfg0.bodyArgs t (cfg0.slots t)) : Prog (TpuEff nD τ sig (Elt F) Λ₀ .tc) PUnit) = bodyAt0 t := rfl

/-- The invariant before a point, and after it. -/
theorem phi_before (t : Fin cfg0.N) : (dats m 0 c).Φ t.castSucc = (iprop(scrAt m c t.val ∗ ∃ r, prngReg c r) : sProp 𝕄) :=
  Pipeline.Dat.Φ_castSucc (fun n _ => (iprop(scrAt m c n ∗ ∃ r, prngReg c r) : sProp 𝕄)) t
theorem phi_after (t : Fin cfg0.N) : (dats m 0 c).Φ t.succ = (iprop(scrAt m c (t.val + 1) ∗ ∃ r, prngReg c r) : sProp 𝕄) := rfl

/-- All the body's buffers at point `t`. -/
abbrev heldAt (t : Fin cfg0.N) (Y : S1x896x512.Idx → F .bf16) (Z : S1x1x896.Idx → F .f32) (L : S896x896.Idx → F .bf16) (D : S896x128.Idx → F .f32) : sProp 𝕄 :=
  held c (st0_0 t) (st0_1 t) (st0_2 t) (st0_3 t) (st0_4 t) (st0_5 t) (st0_6 t) (Memref.whole cc0_scratch0) (Memref.whole cc0_scratch1)
    (ptrs m c t) (cols m c t) (scls m c t) (msks m c t) (feat m c t) Y Z L D

/-- The body at a batch's first point, in the launch's words; -/
theorem run_first (hg : AllGood m c) (t : Fin cfg0.N) (h : t.val % 7 = 0) (Y : S1x896x512.Idx → F .bf16) (Z : S1x1x896.Idx → F .f32)
    (L : S896x896.Idx → F .bf16) (D : S896x128.Idx → F .f32) :
    (heldAt m c t Y Z L D : sProp 𝕄) ⊢ wp frame (wpE (defs₀ (F := F)) Variants.none (c : Thread nD τ) none) Set.univ (bodyAt0 t)
      fun _ => heldAt m c t (outBlk (lAt m c (start t.val)) (feat m c t) (rAt m c (start t.val))) (degRow (dAt m c (start t.val)))
        (lAt m c (start t.val)) (rAt m c (start t.val)) := by
  rw [start_of t h]
  exact wp_first (defs₀ (F := F)) Variants.none c none Set.univ _ _ _ _ _ _ _ _ _ _ _ _ _ _ _ _ _ _ _ _ _ _ _ _ _ _ _ _ ((cond_iff t).mpr h) (hg t h)

/-- and at a later one. -/
theorem run_later (t : Fin cfg0.N) (h : t.val % 7 ≠ 0) (Y : S1x896x512.Idx → F .bf16) (Z : S1x1x896.Idx → F .f32)
    (L : S896x896.Idx → F .bf16) (D : S896x128.Idx → F .f32) :
    (heldAt m c t Y Z L D : sProp 𝕄) ⊢ wp frame (wpE (defs₀ (F := F)) Variants.none (c : Thread nD τ) none) Set.univ (bodyAt0 t)
      fun _ => heldAt m c t (outBlk L (feat m c t) D) Z L D :=
  wp_later (defs₀ (F := F)) Variants.none c none Set.univ _ _ _ _ _ _ _ _ _ _ _ _ _ _ _ _ _ _ _ _ _ _ _ _ _ _ _ _ (fun e => h ((cond_iff t).mp e))

/-- Window 6 is idle exactly at the later points. -/
theorem idle6 (t : Fin cfg0.N) (h : t.val % 7 ≠ 0) : idle0 6 (grid0.coords t) = true := by
  show (!(k0_cond1 _ == 1#1)) = true
  have hn : ¬ k0_cond1 (cfg0.grid.coords t) = 1#1 := fun e => absurd ((cond_iff _).mp e) h
  simpa using hn
theorem live6 (t : Fin cfg0.N) (h : t.val % 7 = 0) : idle0 6 (grid0.coords t) = false := by
  show (!(k0_cond1 _ == 1#1)) = false
  rw [(cond_iff _).mpr h]; rfl

/-- The body runs at every grid point. -/
theorem body_obligation (hg : AllGood m c) : BodyObligation (dats m 0 c) (defs₀ (F := F)) Variants.none () Set.univ := fun t => by
  rw [bigSep_W0, bigSep_W0]
  rw [show (dats m 0 c).owesAt () t.succ = (dats m 0 c).owesAt () t.castSucc from rfl, phi_before, phi_after, body_at]
  simp only [before0_0_of m (dats m 0 c) rfl (fun _ => rfl), before0_1_of m (dats m 0 c) rfl (fun _ => rfl),
    before0_2_of m (dats m 0 c) rfl (fun _ => rfl), before0_3_of m (dats m 0 c) rfl (fun _ => rfl), before0_4_of m (dats m 0 c) rfl (fun _ => rfl)]
  by_cases h : t.val % 7 = 0
  · rw [scrAt_zero m c _ h, live6 t h]
    unfold scr
    iintro ⟨⟨⟨%L, %D, HL, HD⟩, Hr⟩, Ho, ⟨%d0, H0⟩, ⟨%d1, H1⟩, ⟨%d2, H2⟩, ⟨%d3, H3⟩, ⟨%d4, H4⟩, ⟨%d5, H5⟩, ⟨%d6, H6⟩⟩
    ihave H : (heldAt m c t ((dats m 0 c).before 5 t d5) ((dats m 0 c).before 6 t d6) L D : sProp 𝕄) $$ [H0 H1 H2 H3 H4 H5 H6 HL HD]
    · unfold heldAt held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HL]; · iexact HL
      iexact HD
    iapply wp_wand_r _ _
    isplitl [H]
    · iapply (run_first m c hg t h _ _ _ _) $$ H
    iintro %_ H
    unfold heldAt held
    icases H with ⟨H0, H1, H2, H3, H4, H5, H6, HL, HD⟩
    isplitl [HL HD Hr]
    · isplitl [HL HD]
      · iapply (scr_next m c t.val)
        unfold scr
        isplitl [HL]; · iexact HL
        iexact HD
      iexact Hr
    isplitl [Ho]; · iexact Ho
    isplitl [H0]; · iexact H0
    isplitl [H1]; · iexact H1
    isplitl [H2]; · iexact H2
    isplitl [H3]; · iexact H3
    isplitl [H4]; · iexact H4
    isplitl [H5]; · rw [dats_after5]; iexact H5
    rw [dats_after6]; iexact H6
  · rw [scrAt_of m c _ h, idle6 t h]
    unfold scr
    iintro ⟨⟨⟨HL, HD⟩, Hr⟩, Ho, ⟨%d0, H0⟩, ⟨%d1, H1⟩, ⟨%d2, H2⟩, ⟨%d3, H3⟩, ⟨%d4, H4⟩, ⟨%d5, H5⟩, ⟨%d6, H6⟩⟩
    ihave H : (heldAt m c t ((dats m 0 c).before 5 t d5) ((dats m 0 c).before 6 t d6) (lAt m c (start t.val)) (rAt m c (start t.val)) : sProp 𝕄) $$ [H0 H1 H2 H3 H4 H5 H6 HL HD]
    · unfold heldAt held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HL]; · iexact HL
      iexact HD
    iapply wp_wand_r _ _
    isplitl [H]
    · iapply (run_later m c t h _ _ _ _) $$ H
    iintro %_ H
    unfold heldAt held
    icases H with ⟨H0, H1, H2, H3, H4, H5, H6, HL, HD⟩
    isplitl [HL HD Hr]
    · isplitl [HL HD]
      · iapply (scr_next m c t.val)
        unfold scr
        isplitl [HL]; · iexact HL
        iexact HD
      iexact Hr
    isplitl [Ho]; · iexact Ho
    isplitl [H0]; · iexact H0
    isplitl [H1]; · iexact H1
    isplitl [H2]; · iexact H2
    isplitl [H3]; · iexact H3
    isplitl [H4]; · iexact H4
    isplitl [H5]; · rw [dats_after5]; iexact H5
    rw [before6 m c _ t rfl h d6, ← dats_after6]
    cases hf : (win0 6).flush t
    · iexists d6
      rw [before6 m c _ t rfl h d6, ← dats_after6]
      iexact H6
    · iexact H6

/-- The launch hands the kernel its scratch buffers at anything, and takes them back so. -/
theorem rest_eq : (Pipeline.ΦA spec0 c : sProp 𝕄) = iprop((∃ L, ∃ D, scr c L D) ∗ ∃ r, prngReg c r) := by
  have h : (Pipeline.scopedRest (Ix := Unit) (Name := ℕ) (U := UR sig nD τ) (Lvl := ℕ) (Val := Elt F) spec0 c : sProp 𝕄)
      = iprop(∃ L, ∃ D, scr c L D) := by
    rw [scopedRest0_eq]
    unfold scr
    simp only [owns_whole]
    refine Entails.antisymm (show (_ : sProp 𝕄) ⊢ _ from ?_) (show (_ : sProp 𝕄) ⊢ _ from ?_)
    · iintro ⟨⟨%f, Hf⟩, ⟨%g, Hg⟩⟩
      iexists f; iexists g
      isplitl [Hf]; · iexact Hf
      iexact Hg
    · iintro ⟨%f, %g, Hf, Hg⟩
      isplitl [Hf]; · iexists f; iexact Hf
      iexists g; iexact Hg
  unfold Pipeline.ΦA
  rw [h]

/-- The run of the whole program: every array ends as the pipeline leaves it, every counter at zero. -/
theorem run (hg : ∀ c, AllGood m c) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c (hg c)).loose) (fun c w => by unfold Dat.share; split <;> rfl) (fun _ _ => rfl) (V0 m) [hostOps1] sfx_sub sfx_fresh sfx_keeps
    (hmain m Variants.none) (fun _ _ => rfl)
    (fun c => by
      rw [rest_eq]
      show _ ⊢ (iprop(scrAt m c 0 ∗ ∃ r, prngReg c r) : sProp 𝕄)
      rw [scrAt_zero m c 0 rfl])
    (fun c => by
      rw [rest_eq]
      show (iprop(scrAt m c cfg0.N ∗ ∃ r, prngReg c r) : sProp 𝕄) ⊢ _
      rw [scrAt_zero m c cfg0.N (by rw [show cfg0.N = 14 from N_0])])
    _ (fun _ h => h)

/-- The window of row pointers is the whole array, as launched. -/
theorem ptrs_eq (t : Fin cfg0.N) : ptrs m c t = m ((c : Thread nD τ).loc main_arg2) := by
  rw [← V_main_arg2 m c]
  refine funext fun x => ?_
  show V m c main_arg2 ((win0_0.rect t).emb x) = V m c main_arg2 x
  refine congrArg _ (funext fun k => Fin.ext ?_)
  exact win0_0.rect_emb_val_of_index_zero t k (by fin_cases k <;> rfl) x
/-- Likewise the slots' columns. -/
theorem cols_eq (t : Fin cfg0.N) : cols m c t = m ((c : Thread nD τ).loc main_arg3) := by
  rw [← V_main_arg3 m c]
  refine funext fun x => ?_
  show V m c main_arg3 ((win0_1.rect t).emb x) = V m c main_arg3 x
  refine congrArg _ (funext fun k => Fin.ext ?_)
  exact win0_1.rect_emb_val_of_index_zero t k (by fin_cases k <;> rfl) x

/-- The frame claim: under the precondition the program runs, leaves its arguments as they were and every counter at zero. -/
theorem frame (hg : ∀ (c : Dev nD) b, Good (m ((c : Thread nD τ).loc main_arg2)) (m ((c : Thread nD τ).loc main_arg3)) b) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4).trans (((dats m 0 c).arrAt_in 4 rfl _).trans (V_main_arg0 m c)),
      ((h.1 c).1 2).trans (((dats m 0 c).arrAt_in 2 rfl _).trans (V_main_arg1 m c)),
      ((h.1 c).1 0).trans (((dats m 0 c).arrAt_in 0 rfl _).trans (V_main_arg2 m c)),
      ((h.1 c).1 1).trans (((dats m 0 c).arrAt_in 1 rfl _).trans (V_main_arg3 m c)),
      (((h.1 c).2 main_arg4 (Pipeline.mem_restRefs_of main_arg4 (by decide) (by decide))).trans (W_main_arg4 m (dats m) c))⟩, h.2⟩)
    (run m ρ fun c t _ => by rw [ptrs_eq, cols_eq]; exact hg c _)

end Cert.KernelIdeal.Body

end
-- ==== Proof.Sums.lean ====
/-
  Sums of extended reals, and the slots of a batch gathered by row block. A sum of bits times a scale times a value may be
  opened term by term although the extended reals are not distributive, because the bits are not negative.
-/
module

public import proofs.«01_k».proof.Proof.State
public import Idealize.ShloMosaic.Lib.ValueIdx

@[expose] public section

noncomputable section

namespace Cert.Agg

open Idealize.ShloMosaic
open Idealize.ShloMosaic.ValueIdx

/-- A sum of numbers that are not negative, times a factor. -/
theorem sum_mul_of_nonneg {ι : Type} (s : Finset ι) (f : ι → EReal) (hf : ∀ i ∈ s, 0 ≤ f i) (y : EReal) :
    (∑ i ∈ s, f i) * y = ∑ i ∈ s, f i * y := by
  classical
  induction s using Finset.induction_on with
  | empty => simp
  | insert a s ha ih =>
    rw [Finset.sum_insert ha, Finset.sum_insert ha,
      EReal.right_distrib_of_nonneg (hf a (Finset.mem_insert_self a s)) (Finset.sum_nonneg fun i hi => hf i (Finset.mem_insert_of_mem hi)),
      ih fun i hi => hf i (Finset.mem_insert_of_mem hi)]

/-- Bits times a scale, added up, times a value: each bit times the scaled value. -/
theorem sum_scaled {ι : Type} (s : Finset ι) (c : ι → Prop) [DecidablePred c] (f : ι → EReal) (hf : ∀ i, 0 ≤ f i) (u x : EReal) :
    (∑ i ∈ s, if c i then f i * u else 0) * x = ∑ i ∈ s, if c i then f i * (x * u) else 0 := by
  have e : ∀ v : EReal, (∑ i ∈ s, if c i then f i * v else 0) = (∑ i ∈ s, if c i then f i else 0) * v := fun v => by
    rw [sum_mul_of_nonneg s _ fun i _ => by split <;> [exact hf i; exact le_refl _]]
    exact Finset.sum_congr rfl fun i _ => by split <;> simp
  rw [e, e, mul_assoc, mul_comm u x]

/-- Slot `t` of batch `b` belongs to row block `r`. -/
abbrev InRow (P : S2x8.Idx → BitVec 32) (b : Fin 2) (t r : ℕ) : Prop := ptr P b r ≤ t ∧ t < ptr P b (r + 1)

/-- The slots of the row blocks below `n`, each numbered from its block's first. -/
theorem sum_rows {M : Type} [AddCommMonoid M] {P : S2x8.Idx → BitVec 32} {T : S2x42.Idx → BitVec 32} {b : Fin 2} (hG : Good P T b) (f : ℕ → ℕ → M) {n : ℕ} (hn : n ≤ 7) :
    (∑ r ∈ Finset.range n, ∑ k ∈ Finset.range (ptr P b (r + 1) - ptr P b r), f r (ptr P b r + k))
      = ∑ t ∈ Finset.range 42, ∑ r ∈ Finset.range n, if InRow P b t r then f r t else 0 := by
  rw [Finset.sum_comm]
  refine Finset.sum_congr rfl fun r hr => ?_
  have hr7 : r < 7 := lt_of_lt_of_le (Finset.mem_range.mp hr) hn
  have h1 := hG.le7 (r := r + 1) (by omega)
  have h2 := hG.last
  rw [← Finset.sum_Ico_eq_sum_range, ← Finset.sum_filter]
  refine Finset.sum_congr (Finset.ext fun t => ?_) fun _ _ => rfl
  simp only [Finset.mem_Ico, Finset.mem_filter, Finset.mem_range]
  omega

/-- The row block of slot `t`: how many row blocks end at or before it. -/
def rowOf (P : S2x8.Idx → BitVec 32) (b : Fin 2) (t : ℕ) : ℕ := ((Finset.range 7).filter fun r => ptr P b (r + 1) ≤ t).card

theorem rowOf_eq {P : S2x8.Idx → BitVec 32} {T : S2x42.Idx → BitVec 32} {b : Fin 2} (hG : Good P T b) {t r : ℕ} (hr : r < 7) (h : InRow P b t r) :
    rowOf P b t = r := by
  have e : ((Finset.range 7).filter fun k => ptr P b (k + 1) ≤ t) = Finset.range r := by
    ext k
    simp only [Finset.mem_filter, Finset.mem_range]
    constructor
    · rintro ⟨hk, hkt⟩
      by_contra hc
      have := hG.mono (r + 1) (k - r) (by omega)
      have e : r + 1 + (k - r) = k + 1 := by omega
      rw [e] at this
      have := h.2
      omega
    · intro hk
      refine ⟨by omega, ?_⟩
      have := hG.mono (k + 1) (r - (k + 1)) (by omega)
      have e : k + 1 + (r - (k + 1)) = r := by omega
      rw [e] at this
      exact this.trans h.1
  unfold rowOf
  rw [e, Finset.card_range]

theorem exists_row {P : S2x8.Idx → BitVec 32} {T : S2x42.Idx → BitVec 32} {b : Fin 2} (hG : Good P T b) {t : ℕ} (h : t < ptr P b 7) :
    ∃ r, r < 7 ∧ InRow P b t r := by
  have key : ∀ n, n ≤ 7 → t < ptr P b n → ∃ r, r < n ∧ InRow P b t r := fun n => by
    induction n with
    | zero => intro _ h0; rw [hG.first] at h0; omega
    | succ n ih =>
      intro hn h0
      by_cases hc : ptr P b n ≤ t
      · exact ⟨n, by omega, hc, h0⟩
      · obtain ⟨r, hr, hrow⟩ := ih (by omega) (by omega)
        exact ⟨r, by omega, hrow⟩
  exact key 7 (le_refl _) h

/-- Over the row blocks of one slot: the one it belongs to, if it is used. -/
theorem sum_row_of {M : Type} [AddCommMonoid M] {P : S2x8.Idx → BitVec 32} {T : S2x42.Idx → BitVec 32} {b : Fin 2} (hG : Good P T b) (t : ℕ) (f : ℕ → M) :
    (∑ r ∈ Finset.range 7, if InRow P b t r then f r else 0) = if t < ptr P b 7 then f (rowOf P b t) else 0 := by
  by_cases h : t < ptr P b 7
  · obtain ⟨r, hr, hrow⟩ := exists_row hG h
    rw [if_pos h, rowOf_eq hG hr hrow, Finset.sum_eq_single_of_mem r (Finset.mem_range.mpr hr), if_pos hrow]
    intro k hk hne
    rw [if_neg]
    intro hc
    exact hne ((rowOf_eq hG (Finset.mem_range.mp hk) hc).symm.trans (rowOf_eq hG hr hrow))
  · rw [if_neg h]
    refine Finset.sum_eq_zero fun r hr => if_neg fun hc => h ?_
    exact lt_of_lt_of_le hc.2 (hG.le7 (by have := Finset.mem_range.mp hr; omega))

theorem rowOf_lt {P : S2x8.Idx → BitVec 32} {T : S2x42.Idx → BitVec 32} {b : Fin 2} (hG : Good P T b) {t : ℕ} (h : t < ptr P b 7) :
    rowOf P b t < 7 := by
  obtain ⟨r, hr, hrow⟩ := exists_row hG h
  rw [rowOf_eq hG hr hrow]; exact hr

/-- A sum over 896 rows, block by block. -/
theorem sum_896 {M : Type} [AddCommMonoid M] (f : ℕ → M) :
    (∑ k : Fin 896, f k.val) = ∑ r ∈ Finset.range 7, ∑ i ∈ Finset.range 128, f (128 * r + i) := by
  rw [Fin.sum_univ_eq_sum_range (fun k => f k) 896, show (896 : ℕ) = 128 * 7 from rfl]
  have key : ∀ n, (∑ k ∈ Finset.range (128 * n), f k) = ∑ r ∈ Finset.range n, ∑ i ∈ Finset.range 128, f (128 * r + i) := fun n => by
    induction n with
    | zero => rfl
    | succ n ih => rw [Finset.sum_range_succ, ← ih, show 128 * (n + 1) = 128 * n + 128 by ring, Finset.sum_range_add]
  exact key 7

/-- The bit of slot `t` for column `j` and row `i`, as a number. -/
def bit (W : S1x42x4x128.Idx → BitVec 32) (t j i : ℕ) : EReal := FloatOps.sitofp (F := Ideal) .f32 (wordAt W t j i)

theorem bit_nonneg (W : S1x42x4x128.Idx → BitVec 32) (t j i : ℕ) : 0 ≤ bit W t j i := by
  have h : wordAt W t j i = 0#32 ∨ wordAt W t j i = 1#32 := by
    unfold wordAt
    generalize IntOp.shrui .vector _ _ = x
    show x &&& 1#32 = 0#32 ∨ x &&& 1#32 = 1#32
    have e : (x &&& 1#32).toNat = x.toNat % 2 := by rw [BitVec.toNat_and]; exact Nat.and_one_is_mod _
    rcases Nat.mod_two_eq_zero_or_one x.toNat with h | h
    · exact .inl (BitVec.eq_of_toNat_eq (e.trans h))
    · exact .inr (BitVec.eq_of_toNat_eq (e.trans h))
  show (0 : EReal) ≤ (((wordAt W t j i).toInt : ℝ) : EReal)
  rcases h with h | h <;> rw [h] <;> norm_num

/-- Column `q`'s sum of the scaled values `y`: over the used slots of its column block, the values whose bits are set. -/
def aggOf (P : S2x8.Idx → BitVec 32) (T : S2x42.Idx → BitVec 32) (W : S1x42x4x128.Idx → BitVec 32) (b : Fin 2) (y : ℕ → EReal) (q : ℕ) : EReal :=
  ∑ t ∈ Finset.range 42, if t < ptr P b 7 ∧ q / 128 = colOf T b t then
    ∑ i ∈ Finset.range 128, bit W t (q % 128) i * y (128 * rowOf P b t + i) else 0

/-- Column `q`'s degree: how many bits are set in the used slots of its column block. -/
def degOf (P : S2x8.Idx → BitVec 32) (T : S2x42.Idx → BitVec 32) (W : S1x42x4x128.Idx → BitVec 32) (b : Fin 2) (q : ℕ) : EReal :=
  ∑ t ∈ Finset.range 42, if t < ptr P b 7 ∧ q / 128 = colOf T b t then ∑ i ∈ Finset.range 128, bit W t (q % 128) i else 0

theorem degOf_nonneg (P : S2x8.Idx → BitVec 32) (T : S2x42.Idx → BitVec 32) (W : S1x42x4x128.Idx → BitVec 32) (b : Fin 2) (q : ℕ) :
    0 ≤ degOf P T W b q :=
  Finset.sum_nonneg fun t _ => by
    split
    · exact Finset.sum_nonneg fun i _ => bit_nonneg W t _ i
    · exact le_refl _

/-- The column sums as the kernel forms them: a row of the matrix times the values. -/
theorem agg_rows {P : S2x8.Idx → BitVec 32} {T : S2x42.Idx → BitVec 32} (W : S1x42x4x128.Idx → BitVec 32) {b : Fin 2} (hG : Good P T b) (u x : ℕ → EReal) (q : ℕ) :
    (∑ k : Fin 896, (∑ t ∈ Finset.range 42, if InRow P b t (k.val / 128) ∧ q / 128 = colOf T b t then bit W t (q % 128) (k.val % 128) * u k.val else 0) * x k.val)
      = aggOf P T W b (fun k => x k * u k) q := by
  have h0 := hG.last
  calc
    _ = ∑ k : Fin 896, ∑ t ∈ Finset.range 42, if InRow P b t (k.val / 128) ∧ q / 128 = colOf T b t then bit W t (q % 128) (k.val % 128) * (x k.val * u k.val) else 0 :=
      Finset.sum_congr rfl fun k _ => sum_scaled (Finset.range 42) (fun t => InRow P b t (k.val / 128) ∧ q / 128 = colOf T b t)
        (fun t => bit W t (q % 128) (k.val % 128)) (fun t => bit_nonneg W t _ _) _ _
    _ = ∑ t ∈ Finset.range 42, ∑ r ∈ Finset.range 7, ∑ i ∈ Finset.range 128,
          if InRow P b t r ∧ q / 128 = colOf T b t then bit W t (q % 128) i * (x (128 * r + i) * u (128 * r + i)) else 0 := by
      rw [Finset.sum_comm]
      refine Finset.sum_congr rfl fun t _ => ?_
      rw [sum_896 fun k => if InRow P b t (k / 128) ∧ q / 128 = colOf T b t then bit W t (q % 128) (k % 128) * (x k * u k) else 0]
      refine Finset.sum_congr rfl fun r _ => Finset.sum_congr rfl fun i hi => ?_
      have hi' := Finset.mem_range.mp hi
      rw [show (128 * r + i) / 128 = r by omega, show (128 * r + i) % 128 = i by omega]
    _ = _ := by
      refine Finset.sum_congr rfl fun t _ => ?_
      have e := sum_row_of hG t fun r => if q / 128 = colOf T b t then ∑ i ∈ Finset.range 128, bit W t (q % 128) i * (x (128 * r + i) * u (128 * r + i)) else 0
      rw [ite_and, ← e]
      refine Finset.sum_congr rfl fun r _ => ?_
      by_cases h1 : InRow P b t r <;> by_cases h2 : q / 128 = colOf T b t <;> simp [h1, h2]

/-- The masks of batch `b` in the kernel's order: slot, word, row. -/
def wOf (M : (⟨4, ![2, 42, 128, 4]⟩ : Shape).Idx → BitVec 32) (b : Fin 2) : S1x42x4x128.Idx → BitVec 32 := fun y => M (ix4 b (y 1) (y 3) (y 2))

/-- Every node's degree. -/
def degVal (P : S2x8.Idx → BitVec 32) (T : S2x42.Idx → BitVec 32) (M : (⟨4, ![2, 42, 128, 4]⟩ : Shape).Idx → BitVec 32) : S2x896.Idx → EReal :=
  fun j => degOf P T (wOf M (j 0)) (j 0) (j 1).val

/-- Every node's mean over its neighbours of the scaled features; zero for a node without neighbours. -/
def meanVal (X : (⟨3, ![2, 896, 3584]⟩ : Shape).Idx → EReal) (Sc : S2x896.Idx → EReal) (P : S2x8.Idx → BitVec 32) (T : S2x42.Idx → BitVec 32)
    (M : (⟨4, ![2, 42, 128, 4]⟩ : Shape).Idx → BitVec 32) : (⟨3, ![2, 896, 3584]⟩ : Shape).Idx → EReal :=
  fun j => if 0 < degOf P T (wOf M (j 0)) (j 0) (j 1).val then
    Ideal.div (aggOf P T (wOf M (j 0)) (j 0) (fun k => X (ix3 (j 0) (Fin.ofNat 896 k) (j 2)) * Sc (ix2 (j 0) (Fin.ofNat 896 k))) (j 1).val)
      (degOf P T (wOf M (j 0)) (j 0) (j 1).val) else 0

end Cert.Agg

end
-- ==== Proof.Values.lean ====
/-
  The kernel's arrays over the reals: what the loops over the used slots leave in the degree buffer and in the matrix, and with
  them the two blocks that a grid point writes.
-/
module

public import proofs.«01_k».proof.Proof.Sums
public import Idealize.ShloMosaic.Lib.IdealHost
public import Idealize.ShloMosaic.Lib.StableHlo.Predicate

@[expose] public section

noncomputable section

open scoped BigOperators

namespace Cert.Agg

open Idealize.ShloMosaic
open Idealize.ShloMosaic.ValueIdx

variable {P : S2x8.Idx → BitVec 32} {T : S2x42.Idx → BitVec 32} {b : Fin 2} (W : S1x42x4x128.Idx → BitVec 32)

theorem rowD_at (T : S2x42.Idx → BitVec 32) (b : Fin 2) (a : ℕ) (D : S896x128.Idx → Ideal .f32) (n : ℕ) (p : S896x128.Idx) :
    rowD W T b a D n p = (D p : EReal) + ∑ k ∈ Finset.range n,
      if (p 0).val / 128 = colOf T b (a + k) then bit W (a + k) ((p 0).val % 128) (p 1).val else 0 := by
  induction n with
  | zero => rw [Finset.sum_range_zero, add_zero]; rfl
  | succ n ih =>
    rw [Finset.sum_range_succ, ← add_assoc, ← ih]
    show stepD W (a + n) (colOf T b (a + n)) (rowD W T b a D n) p = _
    unfold stepD
    split
    · rfl
    · exact (add_zero _).symm

theorem rowL_at (T : S2x42.Idx → BitVec 32) (b : Fin 2) (r : ℕ) (s : FVec Ideal S1x128 .f32) (a : ℕ) (L : S896x896.Idx → Ideal .bf16) (n : ℕ)
    (p : S896x896.Idx) :
    rowL W T b r s a L n p = (L p : EReal) + ∑ k ∈ Finset.range n,
      if (p 0).val / 128 = colOf T b (a + k) ∧ (p 1).val / 128 = r then
        bit W (a + k) ((p 0).val % 128) ((p 1).val % 128) * s (ix2 0 (Fin.ofNat 128 (p 1).val)) else 0 := by
  induction n with
  | zero => rw [Finset.sum_range_zero, add_zero]; rfl
  | succ n ih =>
    rw [Finset.sum_range_succ, ← add_assoc, ← ih]
    show stepL W (a + n) (colOf T b (a + n)) r s (rowL W T b r s a L n) p = _
    unfold stepL
    split
    · rfl
    · exact (add_zero _).symm

theorem zero_f32 : (Scalar.ofBits (F := Ideal) .f32 0x00000000#32 : EReal) = 0 := Ideal.ofBits_zero_f32

theorem buildD_rows (P : S2x8.Idx → BitVec 32) (T : S2x42.Idx → BitVec 32) (b : Fin 2) (n : ℕ) (p : S896x128.Idx) :
    (buildD (F := Ideal) P T W b n p : EReal) = ∑ r ∈ Finset.range n, ∑ k ∈ Finset.range (ptr P b (r + 1) - ptr P b r),
      if (p 0).val / 128 = colOf T b (ptr P b r + k) then bit W (ptr P b r + k) ((p 0).val % 128) (p 1).val else 0 := by
  induction n with
  | zero => exact zero_f32
  | succ n ih =>
    rw [Finset.sum_range_succ, ← ih]
    exact rowD_at W T b _ _ _ p

theorem buildL_rows (P : S2x8.Idx → BitVec 32) (T : S2x42.Idx → BitVec 32) (Sc : S2x896.Idx → Ideal .f32) (b : Fin 2) (n : ℕ) (p : S896x896.Idx) :
    (buildL (F := Ideal) P T W Sc b n p : EReal) = ∑ r ∈ Finset.range n, ∑ k ∈ Finset.range (ptr P b (r + 1) - ptr P b r),
      if (p 0).val / 128 = colOf T b (ptr P b r + k) ∧ (p 1).val / 128 = r then
        bit W (ptr P b r + k) ((p 0).val % 128) ((p 1).val % 128) * scaleRow b Sc r (ix2 0 (Fin.ofNat 128 (p 1).val)) else 0 := by
  induction n with
  | zero => exact Ideal.ofBits_zero_bf16
  | succ n ih =>
    rw [Finset.sum_range_succ, ← ih]
    exact rowL_at W T b n _ _ _ _ p

/-- The degree buffer: at each column and lane, the used slots of the column's block with that lane's bit set. -/
theorem buildD_at (hG : Good P T b) (p : S896x128.Idx) :
    (buildD (F := Ideal) P T W b 7 p : EReal) = ∑ t ∈ Finset.range 42,
      if t < ptr P b 7 ∧ (p 0).val / 128 = colOf T b t then bit W t ((p 0).val % 128) (p 1).val else 0 := by
  rw [buildD_rows, sum_rows hG (fun _ t => if (p 0).val / 128 = colOf T b t then bit W t ((p 0).val % 128) (p 1).val else 0) (le_refl 7)]
  refine Finset.sum_congr rfl fun t _ => ?_
  rw [sum_row_of hG t fun _ => if (p 0).val / 128 = colOf T b t then bit W t ((p 0).val % 128) (p 1).val else 0, ite_and]

/-- The matrix: at each column and row, the slots of both with that bit set, scaled. -/
theorem buildL_at (hG : Good P T b) (Sc : S2x896.Idx → Ideal .f32) (p : S896x896.Idx) :
    (buildL (F := Ideal) P T W Sc b 7 p : EReal) = ∑ t ∈ Finset.range 42,
      if InRow P b t ((p 1).val / 128) ∧ (p 0).val / 128 = colOf T b t then
        bit W t ((p 0).val % 128) ((p 1).val % 128) * Sc (ix2 b (Fin.ofNat 896 (p 1).val)) else 0 := by
  have h1 : (p 1).val < 896 := (p 1).isLt
  rw [buildL_rows, sum_rows hG (fun r t => if (p 0).val / 128 = colOf T b t ∧ (p 1).val / 128 = r then
        bit W t ((p 0).val % 128) ((p 1).val % 128) * scaleRow b Sc r (ix2 0 (Fin.ofNat 128 (p 1).val)) else (0 : EReal)) (le_refl 7)]
  refine Finset.sum_congr rfl fun t _ => ?_
  rw [Finset.sum_eq_single_of_mem ((p 1).val / 128) (Finset.mem_range.mpr (by omega)) fun r _ hr => by
    rw [if_neg (c := (p 0).val / 128 = colOf T b t ∧ (p 1).val / 128 = r) fun e => hr e.2.symm, ite_self]]
  have e : (scaleRow b Sc ((p 1).val / 128) (ix2 0 (Fin.ofNat 128 (p 1).val)) : EReal) = Sc (ix2 b (Fin.ofNat 896 (p 1).val)) := by
    unfold scaleRow
    show (Sc (ix2 b (Fin.ofNat 896 (128 * ((p 1).val / 128) + (p 1).val % 128))) : EReal) = _
    rw [Nat.div_add_mod]
  rw [e]
  by_cases h2 : InRow P b t ((p 1).val / 128) <;> by_cases h3 : (p 0).val / 128 = colOf T b t <;> simp [h2, h3]

/-- Row sums of a block. -/
theorem degBlk_at (v : FVec Ideal S128x128 .f32) (i j : Fin 128) : (degBlk (F := Ideal) v (ix2 i j) : EReal) = ∑ d : Fin 128, v (ix2 i d) := by
  unfold degBlk
  rw [broadcastTo_apply _ _ _ (ix2 i (0 : Fin 1)) (fun a => by fin_cases a <;> rfl), shapeCast_self,
    shapeCast_apply _ _ _ (ix1 i) (by
      rw [Shape.rowMajor_val_one, Shape.rowMajor_val_two]
      show i.val = i.val * 1 + 0
      omega)]
  refine (Ideal.multiReduction_add_single v _ (by decide) _ _ _).trans ?_
  refine Finset.sum_congr rfl fun d _ => congrArg v ?_
  funext a; fin_cases a <;> rfl

/-- A block's row sums are the degrees of its columns. -/
theorem degBlk_build (hG : Good P T b) (n : ℕ) (hn : n < 7) (i j : Fin 128) :
    (degBlk (F := Ideal) (dblk (buildD (F := Ideal) P T W b 7) n) (ix2 i j) : EReal) = degOf P T W b (128 * n + i.val) := by
  have hi := i.isLt
  rw [degBlk_at]
  unfold degOf
  have e : ∀ d : Fin 128, (dblk (buildD (F := Ideal) P T W b 7) n (ix2 i d) : EReal) = ∑ t ∈ Finset.range 42,
      if t < ptr P b 7 ∧ (128 * n + i.val) / 128 = colOf T b t then bit W t ((128 * n + i.val) % 128) d.val else 0 := fun d => by
    unfold dblk
    rw [buildD_at W hG]
    show (∑ t ∈ Finset.range 42, if t < ptr P b 7 ∧ ((128 * n + i.val) % 896) / 128 = colOf T b t then bit W t ((128 * n + i.val) % 896 % 128) d.val else 0) = _
    rw [Nat.mod_eq_of_lt (show 128 * n + i.val < 896 by omega)]
  rw [Finset.sum_congr rfl fun d _ => e d, Finset.sum_comm]
  refine Finset.sum_congr rfl fun t _ => ?_
  rw [← Fin.sum_univ_eq_sum_range (fun d => bit W t ((128 * n + i.val) % 128) d) 128]
  split
  · rfl
  · exact Finset.sum_const_zero

/-- The degree row. -/
theorem degRow_at (hG : Good P T b) (q : Fin 896) : (degRow (F := Ideal) (buildD (F := Ideal) P T W b 7) (ix3 (0 : Fin 1) (0 : Fin 1) q) : EReal) = degOf P T W b q.val := by
  have hq := q.isLt
  unfold degRow degTo upTo2
  rw [if_pos (show q.val / 128 < 7 by omega)]
  show (cdegBlk (F := Ideal) (dblk (buildD (F := Ideal) P T W b 7) (q.val / 128)) (ix3 (0 : Fin 1) (0 : Fin 1) (Fin.ofNat 128 (q.val % 128))) : EReal) = _
  have hj : Fin.ofNat 128 (q.val % 128) = (⟨q.val % 128, by omega⟩ : Fin 128) := Fin.ext (Nat.mod_eq_of_lt (by omega))
  rw [hj]
  unfold cdegBlk
  rw [shapeCast_apply _ _ _ (ix2 (0 : Fin 1) (⟨q.val % 128, by omega⟩ : Fin 128)) (by
      rw [Shape.rowMajor_val_two, Shape.rowMajor_val_three]; rfl),
    shapeCast_apply _ _ _ (ix1 (⟨q.val % 128, by omega⟩ : Fin 128)) (by
      rw [Shape.rowMajor_val_one, Shape.rowMajor_val_two]
      show q.val % 128 = 0 * 128 + q.val % 128
      omega)]
  refine (Ideal.multiReduction_add_single _ _ (by decide) _ _ _).trans ?_
  have e : ∀ i : Fin 128, (select (cmpi .eq (iota .tc S128x128 32 [0] (by decide)) (iota .tc S128x128 32 [1] (by decide)))
        (degBlk (F := Ideal) (dblk (buildD (F := Ideal) P T W b 7) (q.val / 128))) (broadcast S128x128 (Scalar.ofBits (F := Ideal) .f32 0x00000000#32))
        (ix2 i (⟨q.val % 128, by omega⟩ : Fin 128)) : EReal) = if i = (⟨q.val % 128, by omega⟩ : Fin 128) then degOf P T W b q.val else 0 := fun i => by
    show Scalar.select (IntOp.cmpi .eq (BitVec.ofNat 32 (0 * 128 + i.val)) (BitVec.ofNat 32 (0 * 128 + q.val % 128))) _ _ = _
    rw [Nat.zero_mul, Nat.zero_add, Nat.zero_add]
    have hi := i.isLt
    split
    · rename_i h
      have hv : i.val = q.val % 128 := congrArg Fin.val h
      rw [StableHlo.Predicate.cmpi_eq_iff.mpr (by rw [hv]), select_one]
      refine (degBlk_build W hG (q.val / 128) (by omega) i _).trans (congrArg _ ?_)
      omega
    · rename_i h
      have hne : IntOp.cmpi .eq (BitVec.ofNat 32 i.val) (BitVec.ofNat 32 (q.val % 128)) ≠ 1#1 := fun e => h (Fin.ext (by
        have := congrArg BitVec.toNat (StableHlo.Predicate.cmpi_eq_iff.mp e)
        rw [BitVec.toNat_ofNat, BitVec.toNat_ofNat] at this
        show i.val = q.val % 128
        omega))
      rw [eq_zero_of_ne_one hne, select_zero]
      exact zero_f32
  refine (Finset.sum_congr rfl fun i _ => (congrArg _ (show _ = ix2 i (⟨q.val % 128, by omega⟩ : Fin 128) from by
    funext a; fin_cases a <;> rfl)).trans (e i)).trans ?_
  show (∑ i : Fin 128, if i = (⟨q.val % 128, by omega⟩ : Fin 128) then degOf P T W b q.val else 0) = _
  rw [Finset.sum_ite_eq' Finset.univ, if_pos (Finset.mem_univ _)]

/-- What a column's sums are multiplied by. -/
theorem normD_at (hG : Good P T b) (q : Fin 896) (j : Fin 128) :
    (normD (F := Ideal) (buildD (F := Ideal) P T W b 7) (ix2 q j) : EReal) = if 0 < degOf P T W b q.val then Ideal.div 1 (degOf P T W b q.val) else 0 := by
  have hq := q.isLt
  unfold normD normTo upTo0
  rw [if_pos (show q.val / 128 < 7 by omega)]
  show (normBlk (F := Ideal) (dblk (buildD (F := Ideal) P T W b 7) (q.val / 128)) (ix2 (Fin.ofNat 128 (q.val % 128)) j) : EReal) = _
  unfold normBlk
  rw [shapeCast_self]
  have ed : (degBlk (F := Ideal) (dblk (buildD (F := Ideal) P T W b 7) (q.val / 128)) (ix2 (Fin.ofNat 128 (q.val % 128)) j) : EReal) = degOf P T W b q.val := by
    refine (degBlk_build W hG (q.val / 128) (by omega) _ j).trans (congrArg _ ?_)
    show 128 * (q.val / 128) + q.val % 128 % 128 = q.val
    omega
  show Scalar.select (BitVec.ofBool (decide ((Scalar.ofBits (F := Ideal) .f32 0x00000000#32 : EReal) < degBlk (F := Ideal) (dblk (buildD (F := Ideal) P T W b 7) (q.val / 128)) (ix2 (Fin.ofNat 128 (q.val % 128)) j))))
    (Ideal.div (Ideal.ofBits .f32 0x3F800000#32) (Scalar.select (BitVec.ofBool (decide ((Scalar.ofBits (F := Ideal) .f32 0x00000000#32 : EReal) < degBlk (F := Ideal) (dblk (buildD (F := Ideal) P T W b 7) (q.val / 128)) (ix2 (Fin.ofNat 128 (q.val % 128)) j))))
      (degBlk (F := Ideal) (dblk (buildD (F := Ideal) P T W b 7) (q.val / 128)) (ix2 (Fin.ofNat 128 (q.val % 128)) j)) (Ideal.ofBits .f32 0x3F800000#32)))
    (Scalar.ofBits (F := Ideal) .f32 0x00000000#32 : EReal) = _
  rw [ed, zero_f32, Ideal.ofBits_one_f32]
  by_cases h : 0 < degOf P T W b q.val
  · rw [if_pos h, decide_eq_true h]; rfl
  · rw [if_neg h, decide_eq_false h]; rfl

/-- The products of the matrix with `x`. -/
theorem aggProd_at (L : S896x896.Idx → Ideal .bf16) (X : S1x896x512.Idx → Ideal .fp8e4m3) (q : Fin 896) (l : Fin 512) :
    (aggProd L X (ix2 q l) : EReal) = ∑ k : Fin 896, (L (ix2 q k) : EReal) * X (ix3 (0 : Fin 1) k l) := by
  unfold aggProd
  refine Eq.trans (b := (Ideal.ofBits .f32 0x00000000#32 : EReal) + ∑ k : aggDot.contr.Idx,
    (L (aggDot.lhsIdx (ix2 q l) k) : EReal) * (shapeCast S896x512 X (by decide) (aggDot.rhsIdx (ix2 q l) k) : EReal)) rfl ?_
  rw [Ideal.ofBits_zero_f32, zero_add, ← Equiv.sum_comp (contrEquiv1 aggDot 896 rfl rfl).symm]
  refine Finset.sum_congr rfl fun i _ => ?_
  have hk := contrEquiv1_symm_val aggDot 896 rfl rfl i
  generalize (contrEquiv1 aggDot 896 rfl rfl).symm i = k at hk
  have el : aggDot.lhsIdx (ix2 q l) k = ix2 q i := by
    funext a; refine Fin.ext ?_; fin_cases a
    · rfl
    · exact hk
  have er : aggDot.rhsIdx (ix2 q l) k = ix2 i l := by
    funext a; refine Fin.ext ?_; fin_cases a
    · exact hk
    · rfl
  rw [el, er, shapeCast_apply _ _ _ (ix3 (0 : Fin 1) i l) (by
    rw [Shape.rowMajor_val_two, Shape.rowMajor_val_three]
    show (0 * 896 + i.val) * 512 + l.val = i.val * 512 + l.val
    omega)]

/-- The output block: a column's sum over its degree, zero where the degree is zero. -/
theorem outBlk_at (hG : Good P T b) (Sc : S2x896.Idx → Ideal .f32) (X : S1x896x512.Idx → Ideal .fp8e4m3) (q : Fin 896) (l : Fin 512) :
    (outBlk (F := Ideal) (buildL (F := Ideal) P T W Sc b 7) X (normD (F := Ideal) (buildD (F := Ideal) P T W b 7)) (ix3 (0 : Fin 1) q l) : EReal)
      = if 0 < degOf P T W b q.val then
          Ideal.div (aggOf P T W b (fun k => (X (ix3 (0 : Fin 1) (Fin.ofNat 896 k) l) : EReal) * Sc (ix2 b (Fin.ofNat 896 k))) q.val) (degOf P T W b q.val)
        else 0 := by
  have hl := l.isLt
  unfold outBlk outTo upTo2
  rw [if_pos (show l.val / 128 < 4 by omega)]
  show (colBlk (aggProd (buildL (F := Ideal) P T W Sc b 7) X) (normD (F := Ideal) (buildD (F := Ideal) P T W b 7)) (l.val / 128) (ix3 (0 : Fin 1) q (Fin.ofNat 128 (l.val % 128))) : EReal) = _
  unfold colBlk
  show (aggProd (buildL (F := Ideal) P T W Sc b 7) X (ix2 q (Fin.ofNat 512 (128 * (l.val / 128) + l.val % 128 % 128))) : EReal)
    * (normD (F := Ideal) (buildD (F := Ideal) P T W b 7) (ix2 q (Fin.ofNat 128 (l.val % 128))) : EReal) = _
  have el : Fin.ofNat 512 (128 * (l.val / 128) + l.val % 128 % 128) = l := Fin.ext (by
    show (128 * (l.val / 128) + l.val % 128 % 128) % 512 = l.val
    omega)
  rw [el, normD_at W hG, aggProd_at]
  have ea : (∑ k : Fin 896, (buildL (F := Ideal) P T W Sc b 7 (ix2 q k) : EReal) * X (ix3 (0 : Fin 1) k l))
      = aggOf P T W b (fun k => (X (ix3 (0 : Fin 1) (Fin.ofNat 896 k) l) : EReal) * Sc (ix2 b (Fin.ofNat 896 k))) q.val := by
    rw [← agg_rows W hG (fun k => (Sc (ix2 b (Fin.ofNat 896 k)) : EReal)) (fun k => (X (ix3 (0 : Fin 1) (Fin.ofNat 896 k) l) : EReal)) q.val]
    refine Finset.sum_congr rfl fun k _ => ?_
    have ek : Fin.ofNat 896 k.val = k := Fin.ext (Nat.mod_eq_of_lt k.isLt)
    rw [buildL_at W hG, ek]
  rw [ea]
  by_cases h : 0 < degOf P T W b q.val
  · rw [if_pos h, if_pos h, Ideal.mul_one_div h.ne']
  · rw [if_neg h, if_neg h, mul_zero]

end Cert.Agg

end
-- ==== Proof.PI.Result.lean ====
/-
  The kernel's run over the extended reals, read: the mean and degree arrays it leaves, as functions of its arguments.
-/
module

public import proofs.«01_k».proof.Proof.PI.Launch
public import proofs.«01_k».proof.Proof.Values
public import Idealize.ShloMosaic.Lib.StableHlo.RunRead

@[expose] public section

set_option maxRecDepth 65536

noncomputable section

namespace Cert.KernelIdeal.Body

open Idealize.ShloMosaic Idealize.ShloMosaic.TcCoe Idealize.ShloMosaic.Tactic
open Idealize.SL.Sem
open Idealize.ShloMosaic.ValueIdx
open Idealize.ShloMosaic.Pipeline (Dat Cfg Window)
open Gen Cert.Agg

variable (m : (ℓ : Loc nD τ sig) → Buf (Elt Ideal) ℓ) (ρ : Dev nD → PrngReg) (c : Dev nD)

/-- Point `t` works on batch `t / 7` -/
theorem bat_val : ∀ t : Fin cfg0.N, (bat (cfg0.grid.coords t)).val = t.val / 7 :=
  (by decide : ∀ t : Fin grid0.N, (bat (grid0.coords t)).val = t.val / 7)
/-- and on the columns from `512 * (t % 7)`. -/
theorem index5 : ∀ t : Fin cfg0.N, win0_5.index t = ![t.val / 7, 0, t.val % 7] :=
  (by decide : ∀ t : Fin grid0.N, win0_5.index t = ![t.val / 7, 0, t.val % 7])
theorem index4 : ∀ t : Fin cfg0.N, win0_4.index t = ![t.val / 7, 0, t.val % 7] :=
  (by decide : ∀ t : Fin grid0.N, win0_4.index t = ![t.val / 7, 0, t.val % 7])
theorem index6 : ∀ t : Fin cfg0.N, win0_6.index t = ![t.val / 7, 0, 0] :=
  (by decide : ∀ t : Fin grid0.N, win0_6.index t = ![t.val / 7, 0, 0])
theorem index3 : ∀ t : Fin cfg0.N, win0_3.index t = ![t.val / 7, 0, 0, 0] :=
  (by decide : ∀ t : Fin grid0.N, win0_3.index t = ![t.val / 7, 0, 0, 0])

theorem lt14 (t : Fin cfg0.N) : t.val < 14 := by
  have h : cfg0.N = 14 := N_0
  exact h ▸ t.isLt

/-- The first point of a batch works on the batch. -/
theorem bat_start (t : Fin cfg0.N) : bat (cfg0.grid.coords (start t.val)) = bat (cfg0.grid.coords t) := by
  have h := lt14 t
  refine Fin.ext ?_
  rw [bat_val, bat_val]
  show 7 * (t.val / 7) % 14 / 7 = t.val / 7
  omega

/-- Where point `t`'s block of columns lies in the feature and mean arrays. -/
def colAt (t : Fin cfg0.N) (l : Fin 512) : Fin 3584 := ⟨512 * (t.val % 7) + l.val, by have := l.isLt; omega⟩

theorem emb5 (t : Fin cfg0.N) (u : Fin 1) (k : Fin 896) (l : Fin 512) :
    (win0_5.rect t).emb (ix3 u k l) = ix3 (bat (cfg0.grid.coords t)) k (colAt t l) := by
  refine funext fun a => Fin.ext ?_
  refine (win0_5.rect_emb_val t _ a).trans ?_
  rw [index5]
  have hb := bat_val t
  have hu : u.val = 0 := by omega
  fin_cases a
  · show t.val / 7 * 1 + u.val = (bat (cfg0.grid.coords t)).val
    omega
  · show 0 * 896 + k.val = k.val
    omega
  · show t.val % 7 * 512 + l.val = 512 * (t.val % 7) + l.val
    omega

theorem emb4 (t : Fin cfg0.N) (u : Fin 1) (k : Fin 896) (l : Fin 512) :
    (win0_4.rect t).emb (ix3 u k l) = ix3 (bat (cfg0.grid.coords t)) k (colAt t l) := by
  refine funext fun a => Fin.ext ?_
  refine (win0_4.rect_emb_val t _ a).trans ?_
  rw [index4]
  have hb := bat_val t
  have hu : u.val = 0 := by omega
  fin_cases a
  · show t.val / 7 * 1 + u.val = (bat (cfg0.grid.coords t)).val
    omega
  · show 0 * 896 + k.val = k.val
    omega
  · show t.val % 7 * 512 + l.val = 512 * (t.val % 7) + l.val
    omega

theorem emb6 (t : Fin cfg0.N) (u v : Fin 1) (k : Fin 896) :
    (win0_6.rect t).emb (ix3 u v k) = ix3 (bat (cfg0.grid.coords t)) (0 : Fin 1) k := by
  refine funext fun a => Fin.ext ?_
  refine (win0_6.rect_emb_val t _ a).trans ?_
  rw [index6]
  have hb := bat_val t
  have hu : u.val = 0 := by omega
  have hv : v.val = 0 := by omega
  fin_cases a
  · show t.val / 7 * 1 + u.val = (bat (cfg0.grid.coords t)).val
    omega
  · show 0 * 1 + v.val = 0
    omega
  · show 0 * 896 + k.val = k.val
    omega

theorem emb3 (t : Fin cfg0.N) (y : S1x42x4x128.Idx) :
    (win0_3.rect t).emb y = ix4 (bat (cfg0.grid.coords t)) (y 1) (y 2) (y 3) := by
  refine funext fun a => Fin.ext ?_
  refine (win0_3.rect_emb_val t _ a).trans ?_
  rw [index3]
  have hb := bat_val t
  have hu : (y 0).val < 1 := (y 0).isLt
  fin_cases a
  · show t.val / 7 * 1 + (y 0).val = (bat (cfg0.grid.coords t)).val
    omega
  · show 0 * 42 + (y 1).val = (y 1).val
    omega
  · show 0 * 4 + (y 2).val = (y 2).val
    omega
  · show 0 * 128 + (y 3).val = (y 3).val
    omega

/-- The scales the kernel reads are the argument's. -/
theorem scls_eq (t : Fin cfg0.N) : scls m c t = m ((c : Thread nD τ).loc main_arg1) := by
  rw [← V_main_arg1 m c]
  refine funext fun x => ?_
  show V m c main_arg1 ((win0_2.rect t).emb x) = V m c main_arg1 x
  refine congrArg _ (funext fun k => Fin.ext ?_)
  exact win0_2.rect_emb_val_of_index_zero t k (by fin_cases k <;> rfl) x

/-- The features of point `t`: its batch's rows, its columns. -/
theorem feat_at (t : Fin cfg0.N) (k : Fin 896) (l : Fin 512) :
    feat m c t (ix3 (0 : Fin 1) k l) = m ((c : Thread nD τ).loc main_arg0) (ix3 (bat (cfg0.grid.coords t)) k (colAt t l)) := by
  rw [← V_main_arg0 m c, ← emb4 t 0 k l]
  rfl

/-- The masks the launch reads are the argument's with rows and words exchanged. -/
theorem V_masks (b : Fin 2) (t : Fin 42) (w : Fin 4) (i : Fin 128) :
    V m c main_v0 (ix4 b t w i) = m ((c : Thread nD τ).loc main_arg4) (ix4 b t i w) := by
  have e : V m c main_v0 = transpose S2x42x4x128 [0, 1, 3, 2] (m ((c : Thread nD τ).loc main_arg4)) transposes_S2x42x128x4_S2x42x4x128_0_1_3_2 := by
    show StableHlo.after hostOps0 _ main_v0 = _
    after_reads_simp
  rw [e]
  exact transpose_apply _ _ _ _ (ix4 b t i w) (fun a => by fin_cases a <;> rfl)

theorem msks_eq (t : Fin cfg0.N) : msks m c t = wOf (m ((c : Thread nD τ).loc main_arg4)) (bat (cfg0.grid.coords t)) := by
  refine funext fun y => ?_
  show V m c main_v0 ((win0_3.rect t).emb y) = _
  rw [emb3]
  exact V_masks m c _ (y 1) (y 2) (y 3)

/-- The mean array. -/
def meansOf : S2x896x3584.Idx → Ideal .f32 :=
  meanVal (m ((c : Thread nD τ).loc main_arg0)) (m ((c : Thread nD τ).loc main_arg1)) (m ((c : Thread nD τ).loc main_arg2))
    (m ((c : Thread nD τ).loc main_arg3)) (m ((c : Thread nD τ).loc main_arg4))

/-- The degree array. -/
def degreesOf : S2x896.Idx → Ideal .f32 :=
  degVal (m ((c : Thread nD τ).loc main_arg2)) (m ((c : Thread nD τ).loc main_arg3)) (m ((c : Thread nD τ).loc main_arg4))

/-- The degree array with the launch's extra axis. -/
def degreesRow : S2x1x896.Idx → Ideal .f32 := fun i => degreesOf m c (ix2 (i 0) (i 2))

variable (hG : ∀ b, Good (m ((c : Thread nD τ).loc main_arg2)) (m ((c : Thread nD τ).loc main_arg3)) b)
include hG

/-- Each point leaves its block of the mean array. -/
theorem flushed5 (t : Fin cfg0.N) : (dats m 0 c).flushed 5 t = ((cfg0.win 5).blk t).view.read (Elt Ideal) (meansOf m c) := by
  show (cfg0.win 5).cut (grid0.coords t) ((dats m 0 c).after 5 t) = _
  rw [dats_after5]
  refine funext fun y => ?_
  show outBlk (lAt m c (start t.val)) (feat m c t) (rAt m c (start t.val)) y = meansOf m c ((win0_5.rect t).emb y)
  obtain ⟨u, k, l, rfl⟩ : ∃ (u : Fin 1) (k : Fin 896) (l : Fin 512), y = ix3 u k l := ⟨y 0, y 1, y 2, eq_ix3 y⟩
  obtain rfl : u = 0 := Subsingleton.elim _ _
  rw [emb5]
  unfold rAt lAt dAt
  rw [ptrs_eq, cols_eq, msks_eq, scls_eq, bat_start]
  refine (outBlk_at _ (hG _) _ _ k l).trans ?_
  unfold meansOf meanVal
  simp only [feat_at]

/-- A batch's last point leaves its row of the degree array. -/
theorem flushed6 (t : Fin cfg0.N) : (dats m 0 c).flushed 6 t = ((cfg0.win 6).blk t).view.read (Elt Ideal) (degreesRow m c) := by
  show (cfg0.win 6).cut (grid0.coords t) ((dats m 0 c).after 6 t) = _
  rw [dats_after6]
  refine funext fun y => ?_
  show degRow (dAt m c (start t.val)) y = degreesRow m c ((win0_6.rect t).emb y)
  obtain ⟨u, v, k, rfl⟩ : ∃ (u v : Fin 1) (k : Fin 896), y = ix3 u v k := ⟨y 0, y 1, y 2, eq_ix3 y⟩
  obtain rfl : u = 0 := Subsingleton.elim _ _
  obtain rfl : v = 0 := Subsingleton.elim _ _
  rw [emb6]
  unfold dAt
  rw [ptrs_eq, cols_eq, msks_eq, bat_start]
  exact degRow_at _ (hG _) k

omit hG in
/-- The points' blocks make up the mean array, -/
theorem cover5 (i : S2x896x3584.Idx) : ∃ t : Fin cfg0.N, (cfg0.win 5).flush t = true ∧ i ∈ ((cfg0.win 5).blk t).view.set := by
  have hN : cfg0.N = 14 := N_0
  have h0 : (i 0).val < 2 := (i 0).isLt
  have h2 : (i 2).val < 3584 := (i 2).isLt
  have ht : 7 * (i 0).val + (i 2).val / 512 < cfg0.N := by omega
  refine ⟨⟨_, ht⟩, flush0_5 _, ?_⟩
  have h := View.emb_mem_set ((cfg0.win 5).blk ⟨_, ht⟩).view (ix3 (0 : Fin 1) (i 1) (⟨(i 2).val % 512, Nat.mod_lt _ (by decide)⟩ : Fin 512))
  have e : ((cfg0.win 5).blk ⟨_, ht⟩).view.emb (ix3 (0 : Fin 1) (i 1) (⟨(i 2).val % 512, Nat.mod_lt _ (by decide)⟩ : Fin 512)) = i := by
    refine (emb5 ⟨_, ht⟩ 0 (i 1) _).trans (funext fun a => Fin.ext ?_)
    have hb := bat_val ⟨_, ht⟩
    fin_cases a
    · refine hb.trans ?_
      show (7 * (i 0).val + (i 2).val / 512) / 7 = (i 0).val
      omega
    · rfl
    · show 512 * ((7 * (i 0).val + (i 2).val / 512) % 7) + (i 2).val % 512 = (i 2).val
      omega
  rwa [e] at h

omit hG in
/-- and the last points' rows the degree array. -/
theorem cover6 (i : S2x1x896.Idx) : ∃ t : Fin cfg0.N, (cfg0.win 6).flush t = true ∧ i ∈ ((cfg0.win 6).blk t).view.set := by
  have hN : cfg0.N = 14 := N_0
  have h0 : (i 0).val < 2 := (i 0).isLt
  have h1 : (i 1).val < 1 := (i 1).isLt
  have ht : 7 * (i 0).val + 6 < cfg0.N := by omega
  refine ⟨⟨_, ht⟩, (flush0_6 _).mpr (by show (7 * (i 0).val + 6) % 7 = 6; omega), ?_⟩
  have h := View.emb_mem_set ((cfg0.win 6).blk ⟨_, ht⟩).view (ix3 (0 : Fin 1) (0 : Fin 1) (i 2))
  have e : ((cfg0.win 6).blk ⟨_, ht⟩).view.emb (ix3 (0 : Fin 1) (0 : Fin 1) (i 2)) = i := by
    refine (emb6 ⟨_, ht⟩ 0 0 (i 2)).trans (funext fun a => Fin.ext ?_)
    have hb := bat_val ⟨_, ht⟩
    fin_cases a
    · refine hb.trans ?_
      show (7 * (i 0).val + 6) / 7 = (i 0).val
      omega
    · show 0 = (i 1).val
      omega
    · rfl
  rwa [e] at h

theorem final5 : (dats m 0 c).arrAt 5 cfg0.N = meansOf m c :=
  (dats m 0 c).arrAt_eq_of_cover 5 (meansOf m c) (fun t _ => flushed5 m c hG t) cover5

theorem final6 : (dats m 0 c).arrAt 6 cfg0.N = degreesRow m c :=
  (dats m 0 c).arrAt_eq_of_cover 6 (degreesRow m c) (fun t _ => flushed6 m c hG t) cover6

/-- The line after the launch drops the degree array's extra axis. -/
theorem degrees_eq : Pipeline.afterTail₀ cfgs (dats m) 0 (V0 m) [hostOps1] c main_v2 = degreesOf m c := by
  have e : Pipeline.withArrays spec0 c (V0 m c) (fun w => (dats m 0 c).arrAt w cfg0.N) main_v1_1 = degreesRow m c :=
    (Pipeline.withArrays_arr spec0 (by decide) c (V0 m c) _ 6).trans (final6 m c hG)
  show StableHlo.after hostOps1 (Pipeline.withArrays spec0 c (V0 m c) fun w => (dats m 0 c).arrAt w cfg0.N) main_v2 = _
  after_reads_simp
  rw [e]
  refine funext fun j => ?_
  obtain ⟨b, q, rfl⟩ : ∃ (b : Fin 2) (q : Fin 896), j = ix2 b q := ⟨j 0, j 1, eq_ix2 j⟩
  exact shapeCast_apply _ shapeCasts_S2x1x896_S2x896 _ (ix3 b (0 : Fin 1) q) (by
    rw [Shape.rowMajor_val_three, Shape.rowMajor_val_two]
    show (b.val * 1 + 0) * 896 + q.val = b.val * 896 + q.val
    omega)

omit hG in
/-- The run: both results at their values, the arguments unchanged. -/
theorem run_values (hG : ∀ (c : Dev nD) b, Good (m ((c : Thread nD τ).loc main_arg2)) (m ((c : Thread nD τ).loc main_arg3)) b) :
    θ_run defs (onTc (τ := τ) (main (F := Ideal))) ⟨m, fun _ => 0, ρ⟩ (fun r => ∀ c : Dev nD,
      r.2.mem ((c.tc : Thread nD τ).loc main_v1_0) = meansOf m c
      ∧ r.2.mem ((c.tc : Thread nD τ).loc main_v2) = degreesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c (hG c)),
      ((h.1 c).2 main_v2 (Pipeline.mem_restRefs_of main_v2 (by decide) (by decide))).trans (degrees_eq m c (hG c)),
      ((h.1 c).1 4).trans (((dats m 0 c).arrAt_in 4 rfl _).trans (V_main_arg0 m c)),
      ((h.1 c).1 2).trans (((dats m 0 c).arrAt_in 2 rfl _).trans (V_main_arg1 m c)),
      ((h.1 c).1 0).trans (((dats m 0 c).arrAt_in 0 rfl _).trans (V_main_arg2 m c)),
      ((h.1 c).1 1).trans (((dats m 0 c).arrAt_in 1 rfl _).trans (V_main_arg3 m c)),
      ((h.1 c).2 main_arg4 (Pipeline.mem_restRefs_of main_arg4 (by decide) (by decide))).trans (W_main_arg4 m (dats m) c)⟩)
    (run m ρ fun c t _ => by rw [ptrs_eq, cols_eq]; exact hG c _)

end Cert.KernelIdeal.Body

end
-- ==== Proof.RI.Terms.lean ====
/-
  What the reference's lines after its widening call compute, as functions of the arrays they read: the widened values, the
  scales, the row pointers, the slots' columns and the masks.
-/
module

public import proofs.«01_k».proof.Proof.Gen.ReferenceIdeal.Frame
public import Idealize.ShloMosaic.Lib.StableHlo.RunRead

@[expose] public section

noncomputable section

namespace Cert.ReferenceIdeal.Body

open Idealize.ShloMosaic Idealize.ShloMosaic.TcCoe
open Idealize.SL.Sem
open Cert.ReferenceIdeal.Gen

variable {F : FTy → Type} [FloatOps F]

/-- The values times their row's scale. -/
def scaled (X : FVec F S2x896x3584 .bf16) (Sc : FVec F S2x896 .f32) : FVec F S2x896x3584 .bf16 :=
  mulf X (broadcastInDim S2x896x3584 ![0, 1, 2] bcast_S2x896x1_S2x896x3584_0_1_2
    (broadcastInDim S2x896x1 ![0, 1] bcast_S2x896_S2x896x1_0_1 (truncf .bf16 Sc bitsLt_bf16_f32)))

/-- The masks' bits. -/
def bits (M : IVec S2x42x128x4 32) : IVec S2x42x128x128 32 :=
  fun i => shapeCast S2x42x128x128 (andi (Host.shrui (broadcastInDim S2x42x128x4x32 ![0, 1, 2, 3, 4] bcast_S2x42x128x4x1_S2x42x128x4x32_0_1_2_3_4
      (broadcastInDim S2x42x128x4x1 ![0, 1, 2, 3] bcast_S2x42x128x4_S2x42x128x4x1_0_1_2_3 M)) (iotaInDim S2x42x128x4x32 32 4))
    (broadcastInDim S2x42x128x4x32 ![] bcast_S_S2x42x128x4x32 (constantI S_ 32 1#32))) shapeCasts_S2x42x128x4x32_S2x42x128x128 i

/-- The slots below the last pointer. -/
def used (P : IVec S2x8 32) : IVec S2x42 1 :=
  cmpi .slt (broadcastInDim S2x42 ![0, 1] bcast_S1x42_S2x42_0_1 (broadcastInDim S1x42 ![1] bcast_S42_S1x42_1 (iotaInDim S42 32 0)))
    (broadcastInDim S2x42 ![0, 1] bcast_S2x1_S2x42_0_1 (extractStridedSlice S2x1 ![0, 7] P slices_S2x8_S2x1_0_7))

/-- The pointers at or before each slot. -/
def ends (P : IVec S2x8 32) : IVec S2x42x7 1 :=
  cmpi .sle (broadcastInDim S2x42x7 ![0, 1, 2] bcast_S2x1x7_S2x42x7_0_1_2 (broadcastInDim S2x1x7 ![0, 2] bcast_S2x7_S2x1x7_0_2
      (extractStridedSlice S2x7 ![0, 1] P slices_S2x8_S2x7_0_1)))
    (broadcastInDim S2x42x7 ![0, 1, 2] bcast_S1x42x1_S2x42x7_0_1_2 (broadcastInDim S1x42x1 ![1] bcast_S42_S1x42x1_1 (iotaInDim S42 32 0)))

/-- Each slot's row block, clipped to the seven. -/
def rows (P : IVec S2x8 32) : IVec S2x42 32 :=
  minsi (broadcastInDim S2x42 ![] bcast_S_S2x42 (constantI S_ 32 6#32)) (maxsi (broadcastInDim S2x42 ![] bcast_S_S2x42 (constantI S_ 32 0#32))
    (Host.reduce IntOp.addi (extui 32 (ends P) natLt_1_32) (constantI S_ 32 0#32) reducesTo_S2x42x7_S2x42_d2 h_S_))

/-- The bits of the used slots, as numbers. -/
def blk (P : IVec S2x8 32) (M : IVec S2x42x128x4 32) : FVec F S2x42x128x128 .bf16 :=
  mulf (sitofp .bf16 (bits M)) (broadcastInDim S2x42x128x128 ![0, 1, 2, 3] bcast_S2x42x1x1_S2x42x128x128_0_1_2_3
    (broadcastInDim S2x42x1x1 ![0, 1] bcast_S2x42_S2x42x1x1_0_1 (uitofp .bf16 (used P))))

/-- The batch numbers as start indices. -/
def batchIx : IVec S2x42x1 32 :=
  broadcastInDim S2x42x1 ![0, 1] bcast_S2x42_S2x42x1_0_1 (broadcastInDim S2x42 ![0, 1] bcast_S2x1_S2x42_0_1
    (select (cmpi .slt (broadcastInDim S2x1 ![0] bcast_S2_S2x1_0 (iotaInDim S2 32 0)) (broadcastInDim S2x1 ![] bcast_S_S2x1 (constantI S_ 32 0#32)))
      (addi (broadcastInDim S2x1 ![0] bcast_S2_S2x1_0 (iotaInDim S2 32 0)) (broadcastInDim S2x1 ![] bcast_S_S2x1 (constantI S_ 32 2#32)))
      (broadcastInDim S2x1 ![0] bcast_S2_S2x1_0 (iotaInDim S2 32 0))))

/-- The row blocks as start indices. -/
def rowIx (P : IVec S2x8 32) : IVec S2x42x1 32 :=
  broadcastInDim S2x42x1 ![0, 1] bcast_S2x42_S2x42x1_0_1
    (select (cmpi .slt (rows P) (broadcastInDim S2x42 ![] bcast_S_S2x42 (constantI S_ 32 0#32)))
      (addi (rows P) (broadcastInDim S2x42 ![] bcast_S_S2x42 (constantI S_ 32 7#32))) (rows P))

/-- The start indices of the gather. -/
def starts (P : IVec S2x8 32) : IVec S2x42x2 32 :=
  concatenate S2x42x2 2 [⟨S2x42x1, batchIx⟩, ⟨S2x42x1, rowIx P⟩] concatenates_S2x42x1_S2x42x1_S2x42x2_d2

/-- The scaled values of each slot's row block. -/
def taken (X : FVec F S2x896x3584 .bf16) (Sc : FVec F S2x896 .f32) (P : IVec S2x8 32) : FVec F S2x42x128x3584 .bf16 :=
  Host.gather gather_S2x7x128x3584_S2x42x2_S2x42x128x3584_23_01_n_n_01_2_111283584
    (fun i => shapeCast S2x7x128x3584 (scaled X Sc) shapeCasts_S2x896x3584_S2x7x128x3584 i) (starts P)

/-- Each slot's products. -/
def prods (X : FVec F S2x896x3584 .bf16) (Sc : FVec F S2x896 .f32) (P : IVec S2x8 32) (M : IVec S2x42x128x4 32) : FVec F S2x42x128x3584 .f32 :=
  Host.dotGeneral dot_S2x42x128x128_S2x42x128x3584_S2x42x128x3584_2_2_3_3_01_01 none (blk P M) (taken X Sc P)

/-- The column block each slot is added to, over both batches. -/
def segs (T : IVec S2x42 32) : IVec S84x1 32 :=
  broadcastInDim S84x1 ![0] bcast_S84_S84x1_0 (fun i => shapeCast S84 (addi (broadcastInDim S2x42 ![0, 1] bcast_S2x1_S2x42_0_1
    (muli (broadcastInDim S2x1 ![0] bcast_S2_S2x1_0 (iotaInDim S2 32 0)) (broadcastInDim S2x1 ![] bcast_S_S2x1 (constantI S_ 32 7#32)))) T) shapeCasts_S2x42_S84 i)

/-- The column sums by column block. -/
def sums (X : FVec F S2x896x3584 .bf16) (Sc : FVec F S2x896 .f32) (P : IVec S2x8 32) (T : IVec S2x42 32) (M : IVec S2x42x128x4 32) :
    FVec F S14x128x3584 .f32 :=
  Host.scatterAdd scatter_S14x128x3584_S84x1_S84x128x3584_12_0_0_1 (broadcastInDim S14x128x3584 ![] bcast_S_S14x128x3584 (constant S_ .f32 0x00000000#32))
    (segs T) (fun i => shapeCast S84x128x3584 (prods X Sc P M) shapeCasts_S2x42x128x3584_S84x128x3584 i)

/-- The column sums. -/
def aggs (X : FVec F S2x896x3584 .bf16) (Sc : FVec F S2x896 .f32) (P : IVec S2x8 32) (T : IVec S2x42 32) (M : IVec S2x42x128x4 32) :
    FVec F S2x896x3584 .f32 := fun i => shapeCast S2x896x3584 (sums X Sc P T M) shapeCasts_S14x128x3584_S2x896x3584 i

/-- Each slot's degrees. -/
def slotDegs (P : IVec S2x8 32) (M : IVec S2x42x128x4 32) : FVec F S2x42x128 .f32 :=
  Host.reduceAdd (extf .f32 (blk P M) bitsLt_bf16_f32) (constant S_ .f32 0x00000000#32) reducesTo_S2x42x128x128_S2x42x128_d2 h_S_

/-- The degrees by column block. -/
def degSums (P : IVec S2x8 32) (T : IVec S2x42 32) (M : IVec S2x42x128x4 32) : FVec F S14x128 .f32 :=
  Host.scatterAdd scatter_S14x128_S84x1_S84x128_1_0_0_1 (broadcastInDim S14x128 ![] bcast_S_S14x128 (constant S_ .f32 0x00000000#32))
    (segs T) (fun i => shapeCast S84x128 (slotDegs P M) shapeCasts_S2x42x128_S84x128 i)

/-- The degrees. -/
def degs (P : IVec S2x8 32) (T : IVec S2x42 32) (M : IVec S2x42x128x4 32) : FVec F S2x896 .f32 :=
  fun i => shapeCast S2x896 (degSums P T M) shapeCasts_S14x128_S2x896 i

/-- Which degrees are positive. -/
def posD (D : FVec F S2x896 .f32) : IVec S2x896 1 :=
  cmpf .ogt D (broadcastInDim S2x896 ![] bcast_S_S2x896 (constant S_ .f32 0x00000000#32))

/-- The column sums divided by the degrees, zero where the degree is zero. -/
def means (A : FVec F S2x896x3584 .f32) (D : FVec F S2x896 .f32) : FVec F S2x896x3584 .bf16 :=
  truncf .bf16 (select (broadcastInDim S2x896x3584 ![0, 1, 2] bcast_S2x896x1_S2x896x3584_0_1_2 (broadcastInDim S2x896x1 ![0, 1] bcast_S2x896_S2x896x1_0_1 (posD D)))
    (Host.divf A (broadcastInDim S2x896x3584 ![0, 1, 2] bcast_S2x896x1_S2x896x3584_0_1_2 (broadcastInDim S2x896x1 ![0, 1] bcast_S2x896_S2x896x1_0_1
      (select (posD D) D (broadcastInDim S2x896 ![] bcast_S_S2x896 (constant S_ .f32 0x3F800000#32))))))
    (broadcastInDim S2x896x3584 ![] bcast_S_S2x896x3584 (constant S_ .f32 0x00000000#32))) bitsLt_bf16_f32

/-- The lines after the call. -/
abbrev tailOps : List (HloOp τ sig (Elt F)) := List.flatten [hostOps1, hostOps1_1, hostOps1_2, hostOps1_3, hostOps1_4, hostOps1_5, hostOps1_6]

/-- The degrees that the lines leave. -/
theorem tail_degs (V : Valuation τ sig (Elt F)) :
    StableHlo.after tailOps V main_v69 = degs (V main_arg2) (V main_arg3) (V main_arg4) := by
  after_reads_simp
  rfl

/-- The batch numbers where the start indices are joined. -/
theorem upto_batchIx (V : Valuation τ sig (Elt F)) : StableHlo.upto tailOps V 60 main_v46 = batchIx := by
  after_reads_simp
  rfl

/-- The row blocks where the start indices are joined. -/
theorem upto_rowIx (V : Valuation τ sig (Elt F)) : StableHlo.upto tailOps V 60 main_v47 = rowIx (V main_arg2) := by
  after_reads_simp
  rfl

/-- The column sums that the lines leave. -/
theorem tail_aggs (V : Valuation τ sig (Elt F)) :
    StableHlo.after tailOps V main_v62 = aggs (V main_v0) (V main_arg1) (V main_arg2) (V main_arg3) (V main_arg4) := by
  after_reads_simp
  rw [upto_batchIx, upto_rowIx]
  rfl

/-- The means that the lines leave. -/
theorem tail_means (V : Valuation τ sig (Elt F)) :
    StableHlo.after tailOps V main_v78
      = means (aggs (V main_v0) (V main_arg1) (V main_arg2) (V main_arg3) (V main_arg4)) (degs (V main_arg2) (V main_arg3) (V main_arg4)) := by
  after_reads_simp
  rw [upto_batchIx, upto_rowIx]
  rfl

end Cert.ReferenceIdeal.Body

end
-- ==== Proof.RI.Index.lean ====
/-
  The reference's words: which slots are used, each used slot's row block, the masks' bits, and where the gather and the two
  accumulating scatters read and write.
-/
module

public import proofs.«01_k».proof.Proof.RI.Terms
public import proofs.«01_k».proof.Proof.Sums
public import Idealize.ShloMosaic.Lib.StableHlo.Predicate
public import Idealize.ShloMosaic.Lib.Pipeline.Value

@[expose] public section

noncomputable section

namespace Cert.ReferenceIdeal.Body

open Idealize.ShloMosaic Idealize.ShloMosaic.TcCoe Idealize.ShloMosaic.ValueIdx
open Cert.ReferenceIdeal.Gen
open Cert.Agg (ptr colOf Good rowOf rowOf_lt wordAt wOf)

theorem bits_at (M : IVec S2x42x128x4 32) (b : Fin 2) (t : Fin 42) (i j : Fin 128) :
    bits M (ix4 b t i j) = wordAt (wOf M b) t.val j.val i.val := by
  unfold bits
  have hj := j.isLt
  rw [shapeCast_apply _ shapeCasts_S2x42x128x4x32_S2x42x128x128 (ix4 b t i j) (ix5 b t i (⟨j.val / 32, by omega⟩ : Fin 4) (⟨j.val % 32, by omega⟩ : Fin 32))
    (by rw [Shape.rowMajor_val_five, Shape.rowMajor_val_four]
        show (((b.val * 42 + t.val) * 128 + i.val) * 4 + j.val / 32) * 32 + j.val % 32 = ((b.val * 42 + t.val) * 128 + i.val) * 128 + j.val
        omega)]
  show IntOp.andi (IntOp.shrui .host (broadcastInDim S2x42x128x4x32 _ _ _ _) (BitVec.ofNat 32 (j.val % 32))) _ = _
  rw [broadcastInDim_apply _ bcast_S2x42x128x4x1_S2x42x128x4x32_0_1_2_3_4 _ _ (ix5 b t i (⟨j.val / 32, by omega⟩ : Fin 4) (0 : Fin 1)) (fun a => by fin_cases a <;> rfl),
    broadcastInDim_apply _ bcast_S2x42x128x4_S2x42x128x4x1_0_1_2_3 _ _ (ix4 b t i (⟨j.val / 32, by omega⟩ : Fin 4)) (fun a => by fin_cases a <;> rfl), shrui_host]
  unfold wordAt wOf
  show IntOp.andi (IntOp.shrui .vector (M (ix4 b t i _)) _) 1#32 = IntOp.andi (IntOp.shrui .vector (M (ix4 b (Fin.ofNat 42 t.val) (Fin.ofNat 128 i.val) (Fin.ofNat 4 (j.val / 32)))) _) 1#32
  congr 4
  · exact Fin.ext (Nat.mod_eq_of_lt t.isLt).symm
  · exact Fin.ext (Nat.mod_eq_of_lt i.isLt).symm
  · exact Fin.ext (Nat.mod_eq_of_lt (by omega)).symm

variable {P : IVec S2x8 32} {T : IVec S2x42 32} {b : Fin 2}

theorem used_at (hG : Good P T b) (t : Fin 42) : used P (ix2 b t) = 1#1 ↔ t.val < ptr P b 7 := by
  unfold used
  show IntOp.cmpi .slt (broadcastInDim S2x42 _ _ _ _) (broadcastInDim S2x42 _ _ _ _) = 1#1 ↔ _
  rw [broadcastInDim_apply _ bcast_S1x42_S2x42_0_1 _ _ (ix2 (0 : Fin 1) t) (fun a => by fin_cases a <;> rfl),
    broadcastInDim_apply _ bcast_S42_S1x42_1 _ _ (ix1 t) (fun a => by fin_cases a; rfl),
    broadcastInDim_apply _ bcast_S2x1_S2x42_0_1 _ _ (ix2 b (0 : Fin 1)) (fun a => by fin_cases a <;> rfl),
    extractStridedSlice_apply _ P slices_S2x8_S2x1_0_7 _ (ix2 b (7 : Fin 8)) (fun a => by
      fin_cases a
      · show b.val = 0 + b.val; omega
      · rfl)]
  have h7 := hG.last
  have ht := t.isLt
  unfold ptr at h7 ⊢
  change (P (ix2 b (7 : Fin 8))).toNat ≤ 42 at h7
  show IntOp.cmpi .slt (BitVec.ofNat 32 t.val) _ = 1#1 ↔ t.val < (P (ix2 b (7 : Fin 8))).toNat
  have e : (BitVec.ofNat 32 t.val).toNat = t.val := by rw [BitVec.toNat_ofNat]; omega
  rw [StableHlo.Predicate.slt_iff_toNat (by rw [e]; omega) (by omega), e]

theorem ends_at (hG : Good P T b) (t : Fin 42) (r : Fin 7) : ends P (ix3 b t r) = 1#1 ↔ ptr P b (r.val + 1) ≤ t.val := by
  unfold ends
  have hr := r.isLt
  have ht := t.isLt
  show IntOp.cmpi .sle (broadcastInDim S2x42x7 _ _ _ _) (broadcastInDim S2x42x7 _ _ _ _) = 1#1 ↔ _
  rw [broadcastInDim_apply _ bcast_S2x1x7_S2x42x7_0_1_2 _ _ (ix3 b (0 : Fin 1) r) (fun a => by fin_cases a <;> rfl),
    broadcastInDim_apply _ bcast_S2x7_S2x1x7_0_2 _ _ (ix2 b r) (fun a => by fin_cases a <;> rfl),
    broadcastInDim_apply _ bcast_S1x42x1_S2x42x7_0_1_2 _ _ (ix3 (0 : Fin 1) t (0 : Fin 1)) (fun a => by fin_cases a <;> rfl),
    broadcastInDim_apply _ bcast_S42_S1x42x1_1 _ _ (ix1 t) (fun a => by fin_cases a; rfl),
    extractStridedSlice_apply _ P slices_S2x8_S2x7_0_1 _ (ix2 b (Fin.ofNat 8 (r.val + 1))) (fun a => by
      fin_cases a
      · show b.val = 0 + b.val; omega
      · show (r.val + 1) % 8 = 1 + r.val; omega)]
  have h7 := (hG.le7 (r := r.val + 1) (by omega)).trans hG.last
  unfold ptr at h7 ⊢
  have e : (BitVec.ofNat 32 t.val).toNat = t.val := by rw [BitVec.toNat_ofNat]; omega
  show IntOp.cmpi .sle _ (BitVec.ofNat 32 t.val) = 1#1 ↔ _
  rw [StableHlo.Predicate.sle_iff_toNat (by omega) (by rw [e]; omega), e]

/-- The number of pointers at or before slot `t`. -/
theorem count_at (hG : Good P T b) (t : Fin 42) :
    (Host.reduce IntOp.addi (extui 32 (ends P) natLt_1_32) (constantI S_ 32 0#32) reducesTo_S2x42x7_S2x42_d2 h_S_ (ix2 b t)).toNat
      = rowOf P b t.val := by
  have hr : S2x42x7.Reduces [2] S2x42 := by decide
  rw [Host.reduce_eq_fold_single IntOp.addi _ _ _ hr]
  have hv : ∀ k : Fin 7, ((extui 32 (ends P) natLt_1_32 ∘ hr.lift (ix2 b t)) k).toNat = if ptr P b (k.val + 1) ≤ t.val then 1 else 0 := fun k => by
    have e : hr.lift (ix2 b t) k = ix3 b t k := by
      funext d; fin_cases d <;> rfl
    show ((ends P (hr.lift (ix2 b t) k)).setWidth 32).toNat = _
    rw [e, StableHlo.Predicate.toNat_setWidth_bit]
    exact if_congr (ends_at hG t k) rfl rfl
  have hs : (∑ k : Fin 7, ((extui 32 (ends P) natLt_1_32 ∘ hr.lift (ix2 b t)) k).toNat) = rowOf P b t.val := by
    rw [Finset.sum_congr rfl fun k _ => hv k, Fin.sum_univ_eq_sum_range (fun k => if ptr P b (k + 1) ≤ t.val then 1 else 0) 7]
    unfold rowOf
    rw [Finset.card_filter]
  have h7 : rowOf P b t.val ≤ 7 := (Finset.card_filter_le _ _).trans (by simp)
  refine (StableHlo.Predicate.toNat_fold_addi (Finset.univ : Finset (Fin 7)) _ ?_).trans hs
  exact lt_of_le_of_lt (hs.trans_le h7) (by norm_num)

theorem rows_at (hG : Good P T b) (t : Fin 42) (h : t.val < ptr P b 7) : rows P (ix2 b t) = BitVec.ofNat 32 (rowOf P b t.val) := by
  unfold rows
  have hc := count_at hG t
  have h7 := rowOf_lt hG h
  show IntOp.minsi 6#32 (IntOp.maxsi 0#32 _) = _
  generalize Host.reduce IntOp.addi (extui 32 (ends P) natLt_1_32) (constantI S_ 32 0#32) reducesTo_S2x42x7_S2x42_d2 h_S_ (ix2 b t) = x at hc ⊢
  generalize rowOf P b t.val = n at hc h7 ⊢
  have e : x = BitVec.ofNat 32 n := BitVec.eq_of_toNat_eq (by rw [hc, BitVec.toNat_ofNat]; omega)
  subst e
  interval_cases n <;> rfl

end Cert.ReferenceIdeal.Body

end
-- ==== Proof.RI.Moves.lean ====
/-
  The reference's gather and its two accumulating scatters, read at one position.
-/
module

public import proofs.«01_k».proof.Proof.RI.Index

@[expose] public section

noncomputable section

namespace Cert.ReferenceIdeal.Body

open Idealize.ShloMosaic Idealize.ShloMosaic.TcCoe Idealize.ShloMosaic.ValueIdx
open Cert.ReferenceIdeal.Gen

/-- The gather reads the block that the two start indices name. -/
theorem gather_at {α : Type} (G : S2x7x128x3584.Idx → α) (idx : IVec S2x42x2 32) (b : Fin 2) (t : Fin 42) (i : Fin 128) (l : Fin 3584)
    (r : Fin 2) (q : Fin 7) (hr : idx (ix3 b t (0 : Fin 2)) = BitVec.ofNat 32 r.val) (hq : idx (ix3 b t (1 : Fin 2)) = BitVec.ofNat 32 q.val) :
    Host.gather gather_S2x7x128x3584_S2x42x2_S2x42x128x3584_23_01_n_n_01_2_111283584 G idx (ix4 b t i l) = G (ix4 r q i l) := by
  unfold Host.gather
  refine congrArg G (funext fun a => Fin.ext ?_)
  have e0 : gather_S2x7x128x3584_S2x42x2_S2x42x128x3584_23_01_n_n_01_2_111283584.siIdx (ix4 b t i l) ⟨0, by decide⟩ = ix3 b t (0 : Fin 2) := by
    funext c; fin_cases c <;> rfl
  have e1 : gather_S2x7x128x3584_S2x42x2_S2x42x128x3584_23_01_n_n_01_2_111283584.siIdx (ix4 b t i l) ⟨1, by decide⟩ = ix3 b t (1 : Fin 2) := by
    funext c; fin_cases c <;> rfl
  have z0 := r.isLt
  have z1 := q.isLt
  fin_cases a
  · show min (idx (gather_S2x7x128x3584_S2x42x2_S2x42x128x3584_23_01_n_n_01_2_111283584.siIdx (ix4 b t i l) ⟨0, by decide⟩)).toInt.toNat 1 + 0 + 0 = r.val
    rw [e0, hr, StableHlo.Predicate.toInt_ofNat_small _ (by omega)]
    simp only [Int.toNat_natCast]
    omega
  · show min (idx (gather_S2x7x128x3584_S2x42x2_S2x42x128x3584_23_01_n_n_01_2_111283584.siIdx (ix4 b t i l) ⟨1, by decide⟩)).toInt.toNat 6 + 0 + 0 = q.val
    rw [e1, hq, StableHlo.Predicate.toInt_ofNat_small _ (by omega)]
    simp only [Int.toNat_natCast]
    omega
  · show 0 + 0 + i.val = i.val
    omega
  · show 0 + 0 + l.val = l.val
    omega

theorem starts_left (P : IVec S2x8 32) (b : Fin 2) (t : Fin 42) : starts P (ix3 b t (0 : Fin 2)) = batchIx (ix3 b t (0 : Fin 1)) :=
  concatenate_pair_apply_left (t := S2x42x2) (s₁ := S2x42x1) (s₂ := S2x42x1) 2 batchIx (rowIx P) concatenates_S2x42x1_S2x42x1_S2x42x2_d2
    (ix3 b t (0 : Fin 2)) rfl (ix3 b t (0 : Fin 1)) fun a => by fin_cases a <;> rfl

theorem starts_right (P : IVec S2x8 32) (b : Fin 2) (t : Fin 42) : starts P (ix3 b t (1 : Fin 2)) = rowIx P (ix3 b t (0 : Fin 1)) :=
  concatenate_pair_apply_right (t := S2x42x2) (s₁ := S2x42x1) (s₂ := S2x42x1) 2 batchIx (rowIx P) concatenates_S2x42x1_S2x42x1_S2x42x2_d2
    (ix3 b t (1 : Fin 2)) rfl rfl (ix3 b t (0 : Fin 1)) (fun a ha => by
    fin_cases a
    · rfl
    · rfl
    · exact absurd rfl ha) rfl

/-- Where an update of the scatter of rank 3 lands. -/
theorem lands3 (j : S84x128x3584.Idx) (idx : IVec S84x1 32) (s : Fin 14) (q : Fin 128) (l : Fin 3584) :
    scatter_S14x128x3584_S84x1_S84x128x3584_12_0_0_1.resultIdx? j idx = some (ix3 s q l)
      ↔ (idx (ix2 (j 0) (0 : Fin 1))).toInt = s.val ∧ j 1 = q ∧ j 2 = l := by
  have e : scatter_S14x128x3584_S84x1_S84x128x3584_12_0_0_1.siIdx j ⟨0, by decide⟩ = ix2 (j 0) (0 : Fin 1) := by
    funext c; fin_cases c <;> rfl
  have s0 : scatter_S14x128x3584_S84x1_S84x128x3584_12_0_0_1.start j idx 0 = (idx (ix2 (j 0) (0 : Fin 1))).toInt := congrArg (fun k => (idx k).toInt) e
  have s1 : scatter_S14x128x3584_S84x1_S84x128x3584_12_0_0_1.start j idx 1 = 0 := rfl
  have s2 : scatter_S14x128x3584_S84x1_S84x128x3584_12_0_0_1.start j idx 2 = 0 := rfl
  have w0 : scatter_S14x128x3584_S84x1_S84x128x3584_12_0_0_1.window j 0 = 0 := rfl
  have w1 : scatter_S14x128x3584_S84x1_S84x128x3584_12_0_0_1.window j 1 = (j 1).val := rfl
  have w2 : scatter_S14x128x3584_S84x1_S84x128x3584_12_0_0_1.window j 2 = (j 2).val := rfl
  have hs := s.isLt
  have h1 : (j 1).val < 128 := (j 1).isLt
  have h2 : (j 2).val < 3584 := (j 2).isLt
  unfold ScatterDims.resultIdx?
  constructor
  · intro h
    split at h
    · rename_i hb
      have h := Option.some.inj h
      have c0 := congrArg Fin.val (congrFun h 0)
      have c1 := congrArg Fin.val (congrFun h 1)
      have c2 := congrArg Fin.val (congrFun h 2)
      have b0 := hb 0
      simp only [s0, w0] at b0
      simp only [s0, w0] at c0
      simp only [s1, w1] at c1
      simp only [s2, w2] at c2
      refine ⟨?_, Fin.ext ?_, Fin.ext ?_⟩
      · have c0' : ((idx (ix2 (j 0) (0 : Fin 1))).toInt + ((0 : ℕ) : ℤ)).toNat = s.val := c0
        omega
      · have c1' : ((0 : ℤ) + ((j 1).val : ℤ)).toNat = q.val := c1
        omega
      · have c2' : ((0 : ℤ) + ((j 2).val : ℤ)).toNat = l.val := c2
        omega
    · exact absurd h (by simp)
  · rintro ⟨h0, rfl, rfl⟩
    rw [dif_pos (fun a => by
      fin_cases a
      · show 0 ≤ scatter_S14x128x3584_S84x1_S84x128x3584_12_0_0_1.start j idx 0 + (scatter_S14x128x3584_S84x1_S84x128x3584_12_0_0_1.window j 0 : ℤ) ∧ scatter_S14x128x3584_S84x1_S84x128x3584_12_0_0_1.start j idx 0 + (scatter_S14x128x3584_S84x1_S84x128x3584_12_0_0_1.window j 0 : ℤ) < (14 : ℕ)
        rw [s0, w0]; omega
      · show 0 ≤ scatter_S14x128x3584_S84x1_S84x128x3584_12_0_0_1.start j idx 1 + (scatter_S14x128x3584_S84x1_S84x128x3584_12_0_0_1.window j 1 : ℤ) ∧ scatter_S14x128x3584_S84x1_S84x128x3584_12_0_0_1.start j idx 1 + (scatter_S14x128x3584_S84x1_S84x128x3584_12_0_0_1.window j 1 : ℤ) < (128 : ℕ)
        rw [s1, w1]; omega
      · show 0 ≤ scatter_S14x128x3584_S84x1_S84x128x3584_12_0_0_1.start j idx 2 + (scatter_S14x128x3584_S84x1_S84x128x3584_12_0_0_1.window j 2 : ℤ) ∧ scatter_S14x128x3584_S84x1_S84x128x3584_12_0_0_1.start j idx 2 + (scatter_S14x128x3584_S84x1_S84x128x3584_12_0_0_1.window j 2 : ℤ) < (3584 : ℕ)
        rw [s2, w2]; omega)]
    refine congrArg some (funext fun a => Fin.ext ?_)
    fin_cases a
    · show (scatter_S14x128x3584_S84x1_S84x128x3584_12_0_0_1.start j idx 0 + (scatter_S14x128x3584_S84x1_S84x128x3584_12_0_0_1.window j 0 : ℤ)).toNat = s.val
      rw [s0, w0]; omega
    · show (scatter_S14x128x3584_S84x1_S84x128x3584_12_0_0_1.start j idx 1 + (scatter_S14x128x3584_S84x1_S84x128x3584_12_0_0_1.window j 1 : ℤ)).toNat = (j 1).val
      rw [s1, w1]; omega
    · show (scatter_S14x128x3584_S84x1_S84x128x3584_12_0_0_1.start j idx 2 + (scatter_S14x128x3584_S84x1_S84x128x3584_12_0_0_1.window j 2 : ℤ)).toNat = (j 2).val
      rw [s2, w2]; omega

/-- Where an update of the scatter of rank 2 lands. -/
theorem lands2 (j : S84x128.Idx) (idx : IVec S84x1 32) (s : Fin 14) (q : Fin 128) :
    scatter_S14x128_S84x1_S84x128_1_0_0_1.resultIdx? j idx = some (ix2 s q)
      ↔ (idx (ix2 (j 0) (0 : Fin 1))).toInt = s.val ∧ j 1 = q := by
  have e : scatter_S14x128_S84x1_S84x128_1_0_0_1.siIdx j ⟨0, by decide⟩ = ix2 (j 0) (0 : Fin 1) := by
    funext c; fin_cases c <;> rfl
  have s0 : scatter_S14x128_S84x1_S84x128_1_0_0_1.start j idx 0 = (idx (ix2 (j 0) (0 : Fin 1))).toInt := congrArg (fun k => (idx k).toInt) e
  have s1 : scatter_S14x128_S84x1_S84x128_1_0_0_1.start j idx 1 = 0 := rfl
  have w0 : scatter_S14x128_S84x1_S84x128_1_0_0_1.window j 0 = 0 := rfl
  have w1 : scatter_S14x128_S84x1_S84x128_1_0_0_1.window j 1 = (j 1).val := rfl
  have hs := s.isLt
  have h1 : (j 1).val < 128 := (j 1).isLt
  unfold ScatterDims.resultIdx?
  constructor
  · intro h
    split at h
    · rename_i hb
      have h := Option.some.inj h
      have c0 := congrArg Fin.val (congrFun h 0)
      have c1 := congrArg Fin.val (congrFun h 1)
      have b0 := hb 0
      simp only [s0, w0] at b0
      simp only [s0, w0] at c0
      simp only [s1, w1] at c1
      refine ⟨?_, Fin.ext ?_⟩
      · have c0' : ((idx (ix2 (j 0) (0 : Fin 1))).toInt + ((0 : ℕ) : ℤ)).toNat = s.val := c0
        omega
      · have c1' : ((0 : ℤ) + ((j 1).val : ℤ)).toNat = q.val := c1
        omega
    · exact absurd h (by simp)
  · rintro ⟨h0, rfl⟩
    rw [dif_pos (fun a => by
      fin_cases a
      · show 0 ≤ scatter_S14x128_S84x1_S84x128_1_0_0_1.start j idx 0 + (scatter_S14x128_S84x1_S84x128_1_0_0_1.window j 0 : ℤ) ∧ scatter_S14x128_S84x1_S84x128_1_0_0_1.start j idx 0 + (scatter_S14x128_S84x1_S84x128_1_0_0_1.window j 0 : ℤ) < (14 : ℕ)
        rw [s0, w0]; omega
      · show 0 ≤ scatter_S14x128_S84x1_S84x128_1_0_0_1.start j idx 1 + (scatter_S14x128_S84x1_S84x128_1_0_0_1.window j 1 : ℤ) ∧ scatter_S14x128_S84x1_S84x128_1_0_0_1.start j idx 1 + (scatter_S14x128_S84x1_S84x128_1_0_0_1.window j 1 : ℤ) < (128 : ℕ)
        rw [s1, w1]; omega)]
    refine congrArg some (funext fun a => Fin.ext ?_)
    fin_cases a
    · show (scatter_S14x128_S84x1_S84x128_1_0_0_1.start j idx 0 + (scatter_S14x128_S84x1_S84x128_1_0_0_1.window j 0 : ℤ)).toNat = s.val
      rw [s0, w0]; omega
    · show (scatter_S14x128_S84x1_S84x128_1_0_0_1.start j idx 1 + (scatter_S14x128_S84x1_S84x128_1_0_0_1.window j 1 : ℤ)).toNat = (j 1).val
      rw [s1, w1]; omega

/-- The scatter of rank 3 at one position: what it had, and the updates whose segment is this one. -/
theorem scatter3 (x : FVec Ideal S14x128x3584 .f32) (idx : IVec S84x1 32) (upd : FVec Ideal S84x128x3584 .f32)
    (s : Fin 14) (q : Fin 128) (l : Fin 3584) :
    Host.scatterAdd scatter_S14x128x3584_S84x1_S84x128x3584_12_0_0_1 x idx upd (ix3 s q l)
      = x (ix3 s q l) + ∑ n : Fin 84, if (idx (ix2 n (0 : Fin 1))).toInt = s.val then upd (ix3 n q l) else (0 : EReal) := by
  show x (ix3 s q l) + Finset.sum (Finset.univ.filter fun j => scatter_S14x128x3584_S84x1_S84x128x3584_12_0_0_1.resultIdx? j idx = some (ix3 s q l)) upd = _
  refine congrArg (x (ix3 s q l) + ·) ?_
  rw [← Finset.sum_filter]
  refine Finset.sum_nbij' (fun j => (j 0 : Fin 84)) (fun n => ix3 n q l) (fun j hj => ?_) (fun n hn => ?_) (fun j hj => ?_) (fun n _ => rfl) (fun j hj => ?_)
  · exact Finset.mem_filter.mpr ⟨Finset.mem_univ _, ((lands3 j idx s q l).mp (Finset.mem_filter.mp hj).2).1⟩
  · exact Finset.mem_filter.mpr ⟨Finset.mem_univ _, (lands3 _ idx s q l).mpr ⟨(Finset.mem_filter.mp hn).2, rfl, rfl⟩⟩
  · obtain ⟨_, h1, h2⟩ := (lands3 j idx s q l).mp (Finset.mem_filter.mp hj).2
    subst h1 h2
    exact (eq_ix3 j).symm
  · obtain ⟨_, h1, h2⟩ := (lands3 j idx s q l).mp (Finset.mem_filter.mp hj).2
    subst h1 h2
    exact congrArg upd (eq_ix3 j)

/-- The scatter of rank 2 at one position. -/
theorem scatter2 (x : FVec Ideal S14x128 .f32) (idx : IVec S84x1 32) (upd : FVec Ideal S84x128 .f32) (s : Fin 14) (q : Fin 128) :
    Host.scatterAdd scatter_S14x128_S84x1_S84x128_1_0_0_1 x idx upd (ix2 s q)
      = x (ix2 s q) + ∑ n : Fin 84, if (idx (ix2 n (0 : Fin 1))).toInt = s.val then upd (ix2 n q) else (0 : EReal) := by
  show x (ix2 s q) + Finset.sum (Finset.univ.filter fun j => scatter_S14x128_S84x1_S84x128_1_0_0_1.resultIdx? j idx = some (ix2 s q)) upd = _
  refine congrArg (x (ix2 s q) + ·) ?_
  rw [← Finset.sum_filter]
  refine Finset.sum_nbij' (fun j => (j 0 : Fin 84)) (fun n => ix2 n q) (fun j hj => ?_) (fun n hn => ?_) (fun j hj => ?_) (fun n _ => rfl) (fun j hj => ?_)
  · exact Finset.mem_filter.mpr ⟨Finset.mem_univ _, ((lands2 j idx s q).mp (Finset.mem_filter.mp hj).2).1⟩
  · exact Finset.mem_filter.mpr ⟨Finset.mem_univ _, (lands2 _ idx s q).mpr ⟨(Finset.mem_filter.mp hn).2, rfl⟩⟩
  · obtain ⟨_, h1⟩ := (lands2 j idx s q).mp (Finset.mem_filter.mp hj).2
    subst h1
    exact (eq_ix2 j).symm
  · obtain ⟨_, h1⟩ := (lands2 j idx s q).mp (Finset.mem_filter.mp hj).2
    subst h1
    exact congrArg upd (eq_ix2 j)

end Cert.ReferenceIdeal.Body

end
-- ==== Proof.RI.Slots.lean ====
/-
  The reference's two results, position by position: every column's sum of scaled values and every column's degree, as sums over
  the used slots of the column's block.
-/
module

public import proofs.«01_k».proof.Proof.RI.Moves
public import Idealize.ShloMosaic.Lib.IdealHost

@[expose] public section

noncomputable section

open scoped BigOperators

namespace Cert.ReferenceIdeal.Body

open Idealize.ShloMosaic Idealize.ShloMosaic.TcCoe Idealize.ShloMosaic.ValueIdx
open Cert.ReferenceIdeal.Gen
open Cert.Agg (ptr colOf Good rowOf rowOf_lt wordAt wOf bit aggOf degOf)

variable {P : IVec S2x8 32} {T : IVec S2x42 32} {b : Fin 2}

theorem blk_used (M : IVec S2x42x128x4 32) (hG : Good P T b) (t : Fin 42) (i j : Fin 128) (h : t.val < ptr P b 7) :
    blk (F := Ideal) P M (ix4 b t i j) = bit (wOf M b) t.val j.val i.val := by
  unfold blk
  show FloatOps.sitofp (F := Ideal) .bf16 (bits M (ix4 b t i j)) * broadcastInDim S2x42x128x128 _ _ _ _ = _
  rw [bits_at, broadcastInDim_apply _ bcast_S2x42x1x1_S2x42x128x128_0_1_2_3 _ _ (ix4 b t (0 : Fin 1) (0 : Fin 1)) (fun a => by fin_cases a <;> rfl),
    broadcastInDim_apply _ bcast_S2x42_S2x42x1x1_0_1 _ _ (ix2 b t) (fun a => by fin_cases a <;> rfl)]
  show bit (wOf M b) t.val j.val i.val * (((used P (ix2 b t)).toNat : ℝ) : EReal) = _
  rw [(used_at hG t).mpr h]
  show bit (wOf M b) t.val j.val i.val * (((1 : ℕ) : ℝ) : EReal) = _
  rw [Nat.cast_one, EReal.coe_one, mul_one]

theorem blk_unused (M : IVec S2x42x128x4 32) (hG : Good P T b) (t : Fin 42) (i j : Fin 128) (h : ¬ t.val < ptr P b 7) :
    blk (F := Ideal) P M (ix4 b t i j) = (0 : EReal) := by
  unfold blk
  show FloatOps.sitofp (F := Ideal) .bf16 (bits M (ix4 b t i j)) * broadcastInDim S2x42x128x128 _ _ _ _ = _
  rw [broadcastInDim_apply _ bcast_S2x42x1x1_S2x42x128x128_0_1_2_3 _ _ (ix4 b t (0 : Fin 1) (0 : Fin 1)) (fun a => by fin_cases a <;> rfl),
    broadcastInDim_apply _ bcast_S2x42_S2x42x1x1_0_1 _ _ (ix2 b t) (fun a => by fin_cases a <;> rfl)]
  show _ * (((used P (ix2 b t)).toNat : ℝ) : EReal) = _
  rw [eq_zero_of_ne_one fun e => h ((used_at hG t).mp e)]
  show _ * (((0 : ℕ) : ℝ) : EReal) = _
  rw [Nat.cast_zero, EReal.coe_zero, mul_zero]

theorem batchIx_at (b : Fin 2) (t : Fin 42) : batchIx (ix3 b t (0 : Fin 1)) = BitVec.ofNat 32 b.val := by
  unfold batchIx
  rw [broadcastInDim_apply _ bcast_S2x42_S2x42x1_0_1 _ _ (ix2 b t) (fun a => by fin_cases a <;> rfl),
    broadcastInDim_apply _ bcast_S2x1_S2x42_0_1 _ _ (ix2 b (0 : Fin 1)) (fun a => by fin_cases a <;> rfl)]
  fin_cases b <;> rfl

theorem rowIx_at (hG : Good P T b) (t : Fin 42) (h : t.val < ptr P b 7) :
    rowIx P (ix3 b t (0 : Fin 1)) = BitVec.ofNat 32 (rowOf P b t.val) := by
  unfold rowIx
  rw [broadcastInDim_apply _ bcast_S2x42_S2x42x1_0_1 _ _ (ix2 b t) (fun a => by fin_cases a <;> rfl)]
  have e := rows_at hG t h
  have h7 := rowOf_lt hG h
  show Scalar.select (IntOp.cmpi .slt (rows P (ix2 b t)) 0#32) (IntOp.addi (rows P (ix2 b t)) 7#32) (rows P (ix2 b t)) = _
  rw [e]
  generalize rowOf P b t.val = n at h7
  interval_cases n <;> rfl

/-- A used slot reads the scaled values of its row block. -/
theorem taken_at (X : FVec Ideal S2x896x3584 .bf16) (Sc : FVec Ideal S2x896 .f32) (hG : Good P T b) (t : Fin 42) (i : Fin 128) (l : Fin 3584)
    (h : t.val < ptr P b 7) :
    taken X Sc P (ix4 b t i l) = (X (ix3 b (Fin.ofNat 896 (128 * rowOf P b t.val + i.val)) l) : EReal) * Sc (ix2 b (Fin.ofNat 896 (128 * rowOf P b t.val + i.val))) := by
  have h7 := rowOf_lt hG h
  have hi := i.isLt
  unfold taken
  rw [gather_at _ _ b t i l b (⟨rowOf P b t.val, h7⟩ : Fin 7) ((starts_left P b t).trans (batchIx_at b t)) ((starts_right P b t).trans (rowIx_at hG t h))]
  rw [shapeCast_apply _ shapeCasts_S2x896x3584_S2x7x128x3584 _ (ix3 b (Fin.ofNat 896 (128 * rowOf P b t.val + i.val)) l) (by
    rw [Shape.rowMajor_val_four, Shape.rowMajor_val_three]
    show (b.val * 896 + (128 * rowOf P b t.val + i.val) % 896) * 3584 + l.val = ((b.val * 7 + rowOf P b t.val) * 128 + i.val) * 3584 + l.val
    rw [Nat.mod_eq_of_lt (by omega)]
    ring)]
  unfold scaled
  show X _ * broadcastInDim S2x896x3584 _ _ _ _ = _
  rw [broadcastInDim_apply _ bcast_S2x896x1_S2x896x3584_0_1_2 _ _ (ix3 b (Fin.ofNat 896 (128 * rowOf P b t.val + i.val)) (0 : Fin 1)) (fun a => by fin_cases a <;> rfl),
    broadcastInDim_apply _ bcast_S2x896_S2x896x1_0_1 _ _ (ix2 b (Fin.ofNat 896 (128 * rowOf P b t.val + i.val))) (fun a => by fin_cases a <;> rfl)]
  rfl

/-- A slot's product: the sum over the slot's rows. -/
theorem prods_at (X : FVec Ideal S2x896x3584 .bf16) (Sc : FVec Ideal S2x896 .f32) (M : IVec S2x42x128x4 32) (b : Fin 2) (t : Fin 42) (j : Fin 128) (l : Fin 3584) :
    prods X Sc P M (ix4 b t j l) = ∑ i : Fin 128, (blk (F := Ideal) P M (ix4 b t i j) : EReal) * taken X Sc P (ix4 b t i l) := by
  unfold prods
  show Host.dotGeneral (F := Ideal) dot_S2x42x128x128_S2x42x128x3584_S2x42x128x3584_2_2_3_3_01_01 none (blk P M) (taken X Sc P) (ix4 b t j l) = _
  refine (Ideal.dotGeneral_apply dot_S2x42x128x128_S2x42x128x3584_S2x42x128x3584_2_2_3_3_01_01 none .single (blk (F := Ideal) P M) (taken X Sc P) (ix4 b t j l)).trans ?_
  rw [← Equiv.sum_comp (contrEquiv1 dot_S2x42x128x128_S2x42x128x3584_S2x42x128x3584_2_2_3_3_01_01 128 rfl rfl).symm]
  refine Finset.sum_congr rfl fun i _ => ?_
  have hk := contrEquiv1_symm_val dot_S2x42x128x128_S2x42x128x3584_S2x42x128x3584_2_2_3_3_01_01 128 rfl rfl i
  generalize (contrEquiv1 dot_S2x42x128x128_S2x42x128x3584_S2x42x128x3584_2_2_3_3_01_01 128 rfl rfl).symm i = k at hk
  have el : dot_S2x42x128x128_S2x42x128x3584_S2x42x128x3584_2_2_3_3_01_01.lhsIdx (ix4 b t j l) k = ix4 b t i j := by
    funext a; refine Fin.ext ?_; fin_cases a
    · rfl
    · rfl
    · exact hk
    · rfl
  have er : dot_S2x42x128x128_S2x42x128x3584_S2x42x128x3584_2_2_3_3_01_01.rhsIdx (ix4 b t j l) k = ix4 b t i l := by
    funext a; refine Fin.ext ?_; fin_cases a
    · rfl
    · rfl
    · exact hk
    · rfl
  rw [el, er]

theorem slotDegs_at (M : IVec S2x42x128x4 32) (b : Fin 2) (t : Fin 42) (j : Fin 128) :
    slotDegs (F := Ideal) P M (ix3 b t j) = ∑ i : Fin 128, (blk (F := Ideal) P M (ix4 b t i j) : EReal) := by
  have hr : S2x42x128x128.Reduces [2] S2x42x128 := by decide
  unfold slotDegs
  refine (Ideal.hostReduceAdd_single reducesTo_S2x42x128x128_S2x42x128_d2 hr (blk (F := Ideal) P M) _ _).trans ?_
  show Ideal.ofBits .f32 0x00000000#32 + _ = _
  rw [show Ideal.ofBits .f32 0x00000000#32 = (0 : EReal) from Ideal.ofBits_zero_f32, zero_add]
  refine Finset.sum_congr rfl fun i _ => congrArg (blk (F := Ideal) P M) ?_
  funext a; fin_cases a <;> rfl

/-- The slot number over both batches. -/
def slotIx (b : Fin 2) (t : Fin 42) : Fin 84 := ⟨42 * b.val + t.val, by omega⟩

theorem sum_84 (f : Fin 84 → EReal) : (∑ n, f n) = ∑ b : Fin 2, ∑ t : Fin 42, f (slotIx b t) := by
  refine (Equiv.sum_comp (finProdFinEquiv (m := 2) (n := 42)) f).symm.trans ?_
  rw [Fintype.sum_prod_type]
  refine Finset.sum_congr rfl fun b _ => Finset.sum_congr rfl fun t _ => congrArg f (Fin.ext ?_)
  show t.val + 42 * b.val = 42 * b.val + t.val
  omega

theorem segs_at (b : Fin 2) (t : Fin 42) : segs T (ix2 (slotIx b t) (0 : Fin 1)) = BitVec.ofNat 32 (7 * b.val) + T (ix2 b t) := by
  unfold segs
  rw [broadcastInDim_apply _ bcast_S84_S84x1_0 _ _ (ix1 (slotIx b t)) (fun a => by fin_cases a; rfl),
    shapeCast_apply _ shapeCasts_S2x42_S84 _ (ix2 b t) (by
      rw [Shape.rowMajor_val_one, Shape.rowMajor_val_two]
      show b.val * 42 + t.val = 42 * b.val + t.val
      omega)]
  show IntOp.addi (broadcastInDim S2x42 _ _ _ _) (T (ix2 b t)) = _
  rw [broadcastInDim_apply _ bcast_S2x1_S2x42_0_1 _ _ (ix2 b (0 : Fin 1)) (fun a => by fin_cases a <;> rfl)]
  fin_cases b <;> rfl

theorem segs_used (hG : Good P T b) (t : Fin 42) (h : t.val < ptr P b 7) : (segs T (ix2 (slotIx b t) (0 : Fin 1))).toInt = 7 * b.val + colOf T b t.val := by
  have hc := hG.col t.val h
  have e : T (ix2 b t) = BitVec.ofNat 32 (colOf T b t.val) := by
    have : (Fin.ofNat 42 t.val) = t := Fin.ext (Nat.mod_eq_of_lt t.isLt)
    unfold colOf
    rw [this]
    exact (BitVec.ofNat_toNat ..).symm ▸ (BitVec.setWidth_eq _).symm
  have hb := b.isLt
  rw [segs_at, e, ← BitVec.ofNat_add, StableHlo.Predicate.toInt_ofNat_small _ (by omega)]
  push_cast
  rfl

/-- Only the used slots of the column's own block add to it. -/
theorem seg_sum (hG : ∀ b, Good P T b) (b : Fin 2) (q : ℕ) (hq : q < 896) (u : Fin 84 → EReal) (w : ℕ → EReal)
    (h0 : ∀ b (t : Fin 42), ¬ t.val < ptr P b 7 → u (slotIx b t) = 0) (hw : ∀ t : Fin 42, t.val < ptr P b 7 → u (slotIx b t) = w t.val) :
    (∑ n : Fin 84, if (segs T (ix2 n (0 : Fin 1))).toInt = ((7 * b.val + q / 128 : ℕ) : ℤ) then u n else (0 : EReal))
      = ∑ t ∈ Finset.range 42, if t < ptr P b 7 ∧ q / 128 = colOf T b t then w t else 0 := by
  rw [sum_84, Finset.sum_eq_single b]
  · rw [← Fin.sum_univ_eq_sum_range (fun t => if t < ptr P b 7 ∧ q / 128 = colOf T b t then w t else 0) 42]
    refine Finset.sum_congr rfl fun t _ => ?_
    by_cases h : t.val < ptr P b 7
    · rw [hw t h, segs_used (hG b) t h]
      exact if_congr (by omega) rfl rfl
    · rw [h0 b t h, ite_self, if_neg fun e => h e.1]
  · intro b' _ hb
    refine Finset.sum_eq_zero fun t _ => ?_
    by_cases h : t.val < ptr P b' 7
    · have hc := (hG b').col t.val h
      have hne : b'.val ≠ b.val := fun e => hb (Fin.ext e)
      rw [segs_used (hG b') t h, if_neg (by omega)]
    · rw [h0 b' t h, ite_self]
  · exact fun h => absurd (Finset.mem_univ _) h

/-- The reference's degrees. -/
theorem degs_at (M : IVec S2x42x128x4 32) (hG : ∀ b, Good P T b) (b : Fin 2) (q : Fin 896) :
    degs (F := Ideal) P T M (ix2 b q) = degOf P T (wOf M b) b q.val := by
  have hq := q.isLt
  unfold degs
  rw [shapeCast_apply _ shapeCasts_S14x128_S2x896 _ (ix2 (⟨7 * b.val + q.val / 128, by omega⟩ : Fin 14) (⟨q.val % 128, by omega⟩ : Fin 128)) (by
    rw [Shape.rowMajor_val_two, Shape.rowMajor_val_two]
    show (7 * b.val + q.val / 128) * 128 + q.val % 128 = b.val * 896 + q.val
    omega)]
  unfold degSums
  rw [scatter2]
  show Ideal.ofBits .f32 0x00000000#32 + _ = _
  rw [show Ideal.ofBits .f32 0x00000000#32 = (0 : EReal) from Ideal.ofBits_zero_f32, zero_add]
  have hu : ∀ b (t : Fin 42), shapeCast S84x128 (slotDegs (F := Ideal) P M) shapeCasts_S2x42x128_S84x128 (ix2 (slotIx b t) (⟨q.val % 128, by omega⟩ : Fin 128))
      = ∑ i : Fin 128, (blk (F := Ideal) P M (ix4 b t i (⟨q.val % 128, by omega⟩ : Fin 128)) : EReal) := fun b t =>
    (shapeCast_apply _ shapeCasts_S2x42x128_S84x128 _ (ix3 b t (⟨q.val % 128, by omega⟩ : Fin 128)) (by
      rw [Shape.rowMajor_val_two, Shape.rowMajor_val_three]
      show (b.val * 42 + t.val) * 128 + q.val % 128 = (42 * b.val + t.val) * 128 + q.val % 128
      omega)).trans (slotDegs_at M b t _)
  refine seg_sum hG b q.val hq (fun n => shapeCast S84x128 (slotDegs (F := Ideal) P M) shapeCasts_S2x42x128_S84x128 (ix2 n (⟨q.val % 128, by omega⟩ : Fin 128)))
    (fun t => ∑ i ∈ Finset.range 128, bit (wOf M b) t (q.val % 128) i) (fun b t h => ?_) (fun t h => ?_)
  · exact (hu b t).trans (Finset.sum_eq_zero fun i _ => blk_unused M (hG b) t i _ h)
  · refine (hu b t).trans ?_
    rw [← Fin.sum_univ_eq_sum_range (fun i => bit (wOf M b) t.val (q.val % 128) i) 128]
    exact Finset.sum_congr rfl fun i _ => blk_used M (hG b) t i _ h

/-- The reference's column sums. -/
theorem aggs_at (X : FVec Ideal S2x896x3584 .bf16) (Sc : FVec Ideal S2x896 .f32) (M : IVec S2x42x128x4 32) (hG : ∀ b, Good P T b) (b : Fin 2) (q : Fin 896) (l : Fin 3584) :
    aggs (F := Ideal) X Sc P T M (ix3 b q l)
      = aggOf P T (wOf M b) b (fun k => (X (ix3 b (Fin.ofNat 896 k) l) : EReal) * Sc (ix2 b (Fin.ofNat 896 k))) q.val := by
  have hq := q.isLt
  unfold aggs
  rw [shapeCast_apply _ shapeCasts_S14x128x3584_S2x896x3584 _ (ix3 (⟨7 * b.val + q.val / 128, by omega⟩ : Fin 14) (⟨q.val % 128, by omega⟩ : Fin 128) l) (by
    rw [Shape.rowMajor_val_three, Shape.rowMajor_val_three]
    show ((7 * b.val + q.val / 128) * 128 + q.val % 128) * 3584 + l.val = (b.val * 896 + q.val) * 3584 + l.val
    omega)]
  unfold sums
  rw [scatter3]
  show Ideal.ofBits .f32 0x00000000#32 + _ = _
  rw [show Ideal.ofBits .f32 0x00000000#32 = (0 : EReal) from Ideal.ofBits_zero_f32, zero_add]
  have hu : ∀ b (t : Fin 42), shapeCast S84x128x3584 (prods X Sc P M) shapeCasts_S2x42x128x3584_S84x128x3584 (ix3 (slotIx b t) (⟨q.val % 128, by omega⟩ : Fin 128) l)
      = ∑ i : Fin 128, (blk (F := Ideal) P M (ix4 b t i (⟨q.val % 128, by omega⟩ : Fin 128)) : EReal) * taken X Sc P (ix4 b t i l) := fun b t =>
    (shapeCast_apply _ shapeCasts_S2x42x128x3584_S84x128x3584 _ (ix4 b t (⟨q.val % 128, by omega⟩ : Fin 128) l) (by
      rw [Shape.rowMajor_val_three, Shape.rowMajor_val_four]
      show ((b.val * 42 + t.val) * 128 + q.val % 128) * 3584 + l.val = ((42 * b.val + t.val) * 128 + q.val % 128) * 3584 + l.val
      omega)).trans (prods_at X Sc M b t _ l)
  refine seg_sum hG b q.val hq (fun n => shapeCast S84x128x3584 (prods X Sc P M) shapeCasts_S2x42x128x3584_S84x128x3584 (ix3 n (⟨q.val % 128, by omega⟩ : Fin 128) l))
    (fun t => ∑ i ∈ Finset.range 128, bit (wOf M b) t (q.val % 128) i
      * ((X (ix3 b (Fin.ofNat 896 (128 * rowOf P b t + i)) l) : EReal) * Sc (ix2 b (Fin.ofNat 896 (128 * rowOf P b t + i))))) (fun b t h => ?_) (fun t h => ?_)
  · refine (hu b t).trans (Finset.sum_eq_zero fun i _ => ?_)
    rw [blk_unused M (hG b) t i _ h, zero_mul]
  · refine (hu b t).trans ?_
    rw [← Fin.sum_univ_eq_sum_range (fun i => bit (wOf M b) t.val (q.val % 128) i
      * ((X (ix3 b (Fin.ofNat 896 (128 * rowOf P b t.val + i)) l) : EReal) * Sc (ix2 b (Fin.ofNat 896 (128 * rowOf P b t.val + i))))) 128]
    refine Finset.sum_congr rfl fun i _ => ?_
    rw [blk_used M (hG b) t i _ h, taken_at X Sc (hG b) t i l h]

/-- A column's mean: its sum over its degree, zero where the degree is zero. -/
theorem means_at (A : FVec Ideal S2x896x3584 .f32) (D : FVec Ideal S2x896 .f32) (b : Fin 2) (q : Fin 896) (l : Fin 3584) :
    means A D (ix3 b q l) = if (0 : EReal) < D (ix2 b q) then Ideal.div (A (ix3 b q l)) (D (ix2 b q)) else (0 : EReal) := by
  have hp : posD D (ix2 b q) = 1#1 ↔ (0 : EReal) < D (ix2 b q) := by
    unfold posD
    show BitVec.ofBool (decide (Ideal.ofBits .f32 0x00000000#32 < D (ix2 b q))) = 1#1 ↔ _
    rw [show Ideal.ofBits .f32 0x00000000#32 = (0 : EReal) from Ideal.ofBits_zero_f32, StableHlo.Predicate.ofBool_eq_one_iff, decide_eq_true_iff]
  unfold means
  show Scalar.select (broadcastInDim S2x896x3584 _ _ _ _) (Ideal.div (A (ix3 b q l)) (broadcastInDim S2x896x3584 _ _ _ _)) (Ideal.ofBits .f32 0x00000000#32) = _
  rw [show Ideal.ofBits .f32 0x00000000#32 = (0 : EReal) from Ideal.ofBits_zero_f32,
    broadcastInDim_apply _ bcast_S2x896x1_S2x896x3584_0_1_2 _ _ (ix3 b q (0 : Fin 1)) (fun a => by fin_cases a <;> rfl),
    broadcastInDim_apply _ bcast_S2x896_S2x896x1_0_1 _ _ (ix2 b q) (fun a => by fin_cases a <;> rfl),
    broadcastInDim_apply _ bcast_S2x896x1_S2x896x3584_0_1_2 _ _ (ix3 b q (0 : Fin 1)) (fun a => by fin_cases a <;> rfl),
    broadcastInDim_apply _ bcast_S2x896_S2x896x1_0_1 _ _ (ix2 b q) (fun a => by fin_cases a <;> rfl)]
  show Scalar.select (posD D (ix2 b q)) (Ideal.div (A (ix3 b q l)) (Scalar.select (posD D (ix2 b q)) (D (ix2 b q)) _)) (0 : EReal) = _
  by_cases h : (0 : EReal) < D (ix2 b q)
  · rw [if_pos h, hp.mpr h, select_one, select_one]
  · rw [if_neg h, eq_zero_of_ne_one fun e => h (hp.mp e), select_zero]

end Cert.ReferenceIdeal.Body

end
-- ==== Proof.RI.Result.lean ====
/-
  The reference's run, read: the mean and degree arrays it leaves, as functions of its arguments.
-/
module

public import proofs.«01_k».proof.Proof.RI.Slots

@[expose] public section

set_option maxRecDepth 65536

noncomputable section

namespace Cert.ReferenceIdeal.Body

open Idealize.ShloMosaic Idealize.ShloMosaic.TcCoe Idealize.ShloMosaic.ValueIdx
open Idealize.SL.Sem
open Cert.ReferenceIdeal.Gen
open Cert.Agg (Good degVal meanVal)

variable (m : (ℓ : Loc nD τ sig) → Buf (Elt Ideal) ℓ) (ρ : Dev nD → PrngReg) (c : Dev nD)

/-- The features as the widening call leaves them: over the extended reals, the features. -/
def wide : FVec Ideal S2x896x3584 .bf16 := fun i => m ((c : Thread nD τ).loc main_arg0) i

/-- The widening call's one block is the features' read there. -/
theorem flushed_wide (t : Fin cfg0.N) : (dats m 0 c).flushed 1 t = ((cfg0.win 1).blk t).view.read (Elt Ideal) (wide m c) := by
  obtain rfl := fin_N0 t
  show (cfg0.win 1).cut (grid0.coords t0_0) ((dats m 0 c).after 1 t0_0) = _
  rw [after0_1]
  refine funext fun y => ?_
  have hz : ![0, 0, 0] = (fun _ => 0 : Fin S2x896x3584.rank → ℕ) := by funext k; fin_cases k <;> rfl
  have hA : V m c main_arg0 = m ((c : Thread nD τ).loc main_arg0) := V_main_arg0 m c
  unfold out0_1 wide
  rw [View.canon_unit_zero hz, View.ld_unit_zero hz, ← hA]
  show V m c main_arg0 ((win0_0.rect t0_0).emb y) = V m c main_arg0 ((win0_1.rect t0_0).emb y)
  refine congrArg _ (funext fun k => Fin.ext ?_)
  rw [win0_0.rect_emb_val_of_index_zero t0_0 k (by fin_cases k <;> rfl) y]
  exact (win0_1.rect_emb_val_of_index_zero t0_0 k (by fin_cases k <;> rfl) y).symm

/-- That block is the whole array. -/
theorem cover_wide (i : S2x896x3584.Idx) : ∃ t : Fin cfg0.N, (cfg0.win 1).flush t = true ∧ i ∈ ((cfg0.win 1).blk t).view.set := by
  refine ⟨t0_0, by decide, ?_⟩
  have e : ((cfg0.win 1).blk t0_0).view.emb i = i := funext fun k => Fin.ext
    (win0_1.rect_emb_val_of_index_zero t0_0 k (by fin_cases k <;> rfl) i)
  have h := View.emb_mem_set ((cfg0.win 1).blk t0_0).view i
  rwa [e] at h

/-- What the lines after the call start from: the call's result, -/
theorem after_v0 : Pipeline.withArrays spec0 c (V0 m c) (fun w => (dats m 0 c).arrAt w cfg0.N) main_v0 = wide m c := by
  refine (Pipeline.withArrays_arr spec0 (by decide) c (V0 m c) _ 1).trans ?_
  exact (dats m 0 c).arrAt_eq_of_cover 1 (wide m c) (fun t _ => flushed_wide m c t) cover_wide

/-- and every other array as launched; -/
theorem after_arg (b : Ref sig .tc) (hb : ∀ w, Pipeline.arrRef spec0 w ≠ b) :
    Pipeline.withArrays spec0 c (V0 m c) (fun w => (dats m 0 c).arrAt w cfg0.N) b = m ((c : Thread nD τ).loc b) :=
  Pipeline.withArrays_of_ne _ c (V0 m c) _ b hb

/-- the degrees, -/
theorem degs_eq (hG : ∀ b, Good (m ((c : Thread nD τ).loc main_arg2)) (m ((c : Thread nD τ).loc main_arg3)) b) :
    Pipeline.afterTail₀ cfgs (dats m) 0 (V0 m) [hostOps1, hostOps1_1, hostOps1_2, hostOps1_3, hostOps1_4, hostOps1_5, hostOps1_6] c main_v69
      = degVal (m ((c : Thread nD τ).loc main_arg2)) (m ((c : Thread nD τ).loc main_arg3)) (m ((c : Thread nD τ).loc main_arg4)) := by
  refine (tail_degs _).trans ?_
  rw [after_arg m c main_arg2 (by decide),
    after_arg m c main_arg3 (by decide),
    after_arg m c main_arg4 (by decide)]
  refine funext fun j => ?_
  obtain ⟨b, q, rfl⟩ : ∃ (b : Fin 2) (q : Fin 896), j = ix2 b q := ⟨j 0, j 1, eq_ix2 j⟩
  exact degs_at _ hG b q

/-- and the means. -/
theorem means_eq (hG : ∀ b, Good (m ((c : Thread nD τ).loc main_arg2)) (m ((c : Thread nD τ).loc main_arg3)) b) :
    Pipeline.afterTail₀ cfgs (dats m) 0 (V0 m) [hostOps1, hostOps1_1, hostOps1_2, hostOps1_3, hostOps1_4, hostOps1_5, hostOps1_6] c main_v78
      = meanVal (m ((c : Thread nD τ).loc main_arg0)) (m ((c : Thread nD τ).loc main_arg1)) (m ((c : Thread nD τ).loc main_arg2))
        (m ((c : Thread nD τ).loc main_arg3)) (m ((c : Thread nD τ).loc main_arg4)) := by
  refine (tail_means _).trans ?_
  rw [after_v0 m c,
    after_arg m c main_arg1 (by decide),
    after_arg m c main_arg2 (by decide),
    after_arg m c main_arg3 (by decide),
    after_arg m c main_arg4 (by decide)]
  refine funext fun j => ?_
  obtain ⟨b, q, l, rfl⟩ : ∃ (b : Fin 2) (q : Fin 896) (l : Fin 3584), j = ix3 b q l := ⟨j 0, j 1, j 2, eq_ix3 j⟩
  refine (means_at _ _ b q l).trans ?_
  rw [degs_at _ hG b q, aggs_at _ _ _ hG b q l]
  rfl

/-- The run: both results at their values, the arguments unchanged. -/
theorem run (hG : ∀ (c : Dev nD) b, Good (m ((c : Thread nD τ).loc main_arg2)) (m ((c : Thread nD τ).loc main_arg3)) b) :
    θ_run defs (onTc (τ := τ) (main (F := Ideal))) ⟨m, fun _ => 0, ρ⟩ (fun r => ∀ c : Dev nD,
      r.2.mem ((c.tc : Thread nD τ).loc main_v78) = meanVal (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_v69) = degVal (m ((c : Thread nD τ).loc main_arg2)) (m ((c : Thread nD τ).loc main_arg3))
        (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v78 (Pipeline.mem_restRefs_of main_v78 (by decide) (by decide))).trans (means_eq m c (hG c)),
      ((h c).2 main_v69 (Pipeline.mem_restRefs_of main_v69 (by decide) (by decide))).trans (degs_eq m c (hG c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.ReferenceIdeal.Body

end
-- ==== Proof.Algebraic.lean ====
/-
  The kernel and the reference leave the same two arrays: both runs are read at the same functions of the arguments.
-/
module

public import proofs.«01_k».proof.Defs
public import proofs.«01_k».proof.Proof.Inputs
public import proofs.«01_k».proof.Proof.PI.Result
public import proofs.«01_k».proof.Proof.RI.Result
public import proofs.«01_k».proof.Proof.Gen.Pre_valid_tiles

@[expose] public section

noncomputable section

namespace Cert.Proof

open Idealize.ShloMosaic Idealize.ShloMosaic.TcCoe Idealize.SL.Sem

/-- The algebraic claim: on arguments whose tile lists are valid, the kernel's means and degrees are the reference's. -/
theorem algebraic : Cert.algebraic_KernelIdeal_ReferenceIdeal (hKernelIdeal := Cert.KernelIdeal.Gen.facts)
    (hReferenceIdeal := Cert.ReferenceIdeal.Gen.facts) (hPre_valid_tiles := Cert.Pre_valid_tiles.Gen.facts) := by
  intro m g m' g' h ha
  have hG : ∀ (c : Dev Cert.KernelIdeal.nD) b, Cert.Agg.Good (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) b :=
    fun c b => Cert.Agg.good_of_valid _ _ _ _ _ (h c) b
  refine ⟨Cert.KernelIdeal.Body.meansOf m, Cert.KernelIdeal.Body.degreesOf m, Cert.KernelIdeal.Body.run_values m g hG, ?_⟩
  refine (θ_run Cert.ReferenceIdeal.defs _ _).mono (fun r hr c => ?_)
    (Cert.ReferenceIdeal.Body.run m' g' fun c b => by rw [(ha c).2.2.1, (ha c).2.2.2.1]; exact hG c b)
  refine ⟨(hr c).1.trans ?_, (hr c).2.1.trans ?_, (hr c).2.2⟩
  · rw [(ha c).1, (ha c).2.1, (ha c).2.2.1, (ha c).2.2.2.1, (ha c).2.2.2.2]
    rfl
  · rw [(ha c).2.2.1, (ha c).2.2.2.1, (ha c).2.2.2.2]
    rfl

end Cert.Proof

end
-- ==== Proof.lean ====
/-
  The proof of `Cert.Claim` (proofs.«01_k».proof.Defs).

  The kernel's body is followed once for any float values: one slot of the tile list (Trip, TripRun), a row block's slots
  (Words, Row, RowRun), the seven row blocks (State, Build), then the degree row, the reciprocals and the output block (NormRun,
  Finish). Launch states what each buffer holds at each of the fourteen grid points and runs the program. Inputs reads the
  precondition. The modules under PI are the same text about the ideal program.

  For the values: Sums states both results as sums over the tile list, Values shows that the kernel's buffers hold them over the
  extended reals, and PI/Result reads the two arrays off the kernel's run. Under RI, Terms writes out what the reference's lines
  compute, Index, Moves and Slots evaluate it at an index to the same sums, and RI/Result reads the reference's run. Algebraic
  puts the two runs side by side.
-/
module

public import proofs.«01_k».proof.Defs
public import proofs.«01_k».proof.Proof.Inputs
public import proofs.«01_k».proof.Proof.Launch
public import proofs.«01_k».proof.Proof.PI.Launch
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_valid_tiles

@[expose] public section

noncomputable section

namespace Cert.Proof

open Idealize.ShloMosaic Idealize.SL.Sem

/-- The claims of `Cert.Claim`, in its order. -/
theorem claim : Cert.Claim := ⟨Cert.Kernel.Gen.facts, Cert.KernelIdeal.Gen.facts, Cert.ReferenceIdeal.Gen.facts, Cert.Pre_valid_tiles.Gen.facts,
  fun m ρ h => Cert.Kernel.Body.frame m ρ fun c b => Cert.Agg.good_of_valid _ _ _ _ _ (h c) b,
  fun m ρ h => Cert.KernelIdeal.Body.frame m ρ fun c b => Cert.Agg.good_of_valid _ _ _ _ _ (h c) b,
  fun m ρ _ => Cert.ReferenceIdeal.Gen.frame m ρ,
  fun m ρ _ => Cert.ReferenceIdeal.Gen.frame m ρ,
  trivial,
  algebraic⟩

end Cert.Proof

end
